-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S67108864 : Shape := ⟨1, ![67108864]⟩
abbrev S524288x128 : Shape := ⟨2, ![524288, 128]⟩
abbrev S2x128 : Shape := ⟨2, ![2, 128]⟩
abbrev S2x128x128 : Shape := ⟨3, ![2, 128, 128]⟩
abbrev S2x8x16x128 : Shape := ⟨4, ![2, 8, 16, 128]⟩
abbrev S2 : Shape := ⟨1, ![2]⟩
abbrev S16 : Shape := ⟨1, ![16]⟩
abbrev S1x16 : Shape := ⟨2, ![1, 16]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1 : Shape := ⟨1, ![1]⟩
abbrev S_ : Shape := ⟨0, ![]⟩
abbrev S1x1x16x128 : Shape := ⟨4, ![1, 1, 16, 128]⟩
abbrev S16x128 : Shape := ⟨2, ![16, 128]⟩
abbrev S1x1x16 : Shape := ⟨3, ![1, 1, 16]⟩
abbrev S1x1x1x16 : Shape := ⟨4, ![1, 1, 1, 16]⟩
abbrev S8192x128 : Shape := ⟨2, ![8192, 128]⟩

abbrev nBuf : Table → Nat
  | .hbm => 5
  | .local .tc .vmem => 6
  | .local .scVector .vmem => 3
  | _ => 0

abbrev bufTy : (tb : Table) → Fin (nBuf tb) → BufTy
  | .hbm, ⟨0, _⟩ => ⟨S67108864, .f32⟩
  | .hbm, ⟨1, _⟩ => ⟨S524288x128, .f32⟩
  | .hbm, ⟨2, _⟩ => ⟨S524288x128, .f32⟩
  | .hbm, ⟨3, _⟩ => ⟨S524288x128, .f32⟩
  | .hbm, ⟨4, _⟩ => ⟨S67108864, .f32⟩
  | .local .tc .vmem, ⟨0, _⟩ => ⟨S8192x128, .f32⟩
  | .local .tc .vmem, ⟨1, _⟩ => ⟨S8192x128, .f32⟩
  | .local .tc .vmem, ⟨2, _⟩ => ⟨S8192x128, .f32⟩
  | .local .tc .vmem, ⟨3, _⟩ => ⟨S8192x128, .f32⟩
  | .local .tc .vmem, ⟨4, _⟩ => ⟨S8192x128, .f32⟩
  | .local .tc .vmem, ⟨5, _⟩ => ⟨S8192x128, .f32⟩
  | .local .scVector .vmem, ⟨0, _⟩ => ⟨S2x128, .i32⟩
  | .local .scVector .vmem, ⟨1, _⟩ => ⟨S2x128x128, .f32⟩
  | .local .scVector .vmem, ⟨2, _⟩ => ⟨S2x8x16x128, .f32⟩
  | _, _ => ⟨S67108864, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v0_scv : Ref sig .scVector := ⟨.hbm, 1, rfl⟩
abbrev main_v1_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c8_i32_2 : BitVec 32 := 8#32
  let v9 : BitVec 32 := Scalar.addi c0_i32_1 c8_i32_2
  let c1_i32 : BitVec 32 := 1#32
  ⟨c0_i32_1, v9, c1_i32⟩
def k0_off1 (k0_t1 : Fin k0_t1_loop.trips) : Fin 2 → Nat :=
  let c0_i32_341 : BitVec 32 := 0#32
  let v529 : Index := Scalar.indexCast c0_i32_341
  let c0_i32_337 : BitVec 32 := 0#32
  let c0_i32_1 : BitVec 32 := 0#32
  let c1_i32 : BitVec 32 := 1#32
  let arg9 : BitVec 32 := Scf.iv c0_i32_1 c1_i32 k0_t1
  let c1_i32_336 : BitVec 32 := 1#32
  let v520 : BitVec 32 := Scalar.muli arg9 c1_i32_336
  let v521 : BitVec 32 := Scalar.addi c0_i32_337 v520
  let c16_i32_340 : BitVec 32 := 16#32
  let v528 : BitVec 32 := Scalar.muli v521 c16_i32_340
  let v530 : Index := Scalar.indexCast v528
  ![0, v530.toNat]
@[reducible] def k0_t2_loop : Scf.Loop 32 :=
  let c0_i32_12 : BitVec 32 := 0#32
  let c128_i32_13 : BitVec 32 := 128#32
  let v17 : BitVec 32 := Scalar.addi c0_i32_12 c128_i32_13
  let c1_i32_14 : BitVec 32 := 1#32
  ⟨c0_i32_12, v17, c1_i32_14⟩
def k0_cond1 (k0_t2 : Fin k0_t2_loop.trips) : BitVec 1 :=
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c128_i32_340 : BitVec 32 := 128#32
  let v524 : BitVec 1 := Scalar.cmpi .slt v521 c128_i32_340
  let v525 : BitVec 32 := Scalar.extui v524
  let c0_i32_341 : BitVec 32 := 0#32
  let v526 : BitVec 1 := Scalar.cmpi .ne v525 c0_i32_341
  v526

@[reducible] def k0_t3_loop : Scf.Loop 32 :=
  let c0_i32_516 : BitVec 32 := 0#32
  let c8_i32_517 : BitVec 32 := 8#32
  let v827 : BitVec 32 := Scalar.addi c0_i32_516 c8_i32_517
  let c1_i32_518 : BitVec 32 := 1#32
  ⟨c0_i32_516, v827, c1_i32_518⟩
def k0_off2 (k0_t2 : Fin k0_t2_loop.trips) (k0_t3 : Fin k0_t3_loop.trips) : Fin 2 → Nat :=
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v844 : Index := Scalar.indexCast v522
  let c0_i32_526 : BitVec 32 := 0#32
  let c0_i32_516 : BitVec 32 := 0#32
  let c1_i32_518 : BitVec 32 := 1#32
  let arg10 : BitVec 32 := Scf.iv c0_i32_516 c1_i32_518 k0_t3
  let c1_i32_525 : BitVec 32 := 1#32
  let v835 : BitVec 32 := Scalar.muli arg10 c1_i32_525
  let v836 : BitVec 32 := Scalar.addi c0_i32_526 v835
  let c16_i32_529 : BitVec 32 := 16#32
  let v843 : BitVec 32 := Scalar.muli v836 c16_i32_529
  let v845 : Index := Scalar.indexCast v843
  ![v844.toNat, v845.toNat]
def k0_off3 (k0_t2 : Fin k0_t2_loop.trips) : Fin 3 → Nat :=
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let c0_i32_520 : BitVec 32 := 0#32
  let c0_i32_521 : BitVec 32 := 0#32
  ![v522.toNat, 0, 0]
def k0_off4 (k0_t2 : Fin k0_t2_loop.trips) : Fin 2 → Nat :=
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let c0_i32_522 : BitVec 32 := 0#32
  ![v522.toNat, 0]
def k0_off5 (k0_t2 : Fin k0_t2_loop.trips) : Fin 1 → Nat :=
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  ![v522.toNat]
def k0_off6 (k0_t2 : Fin k0_t2_loop.trips) : Fin 3 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let c0_i32_342 : BitVec 32 := 0#32
  let c0_i32_343 : BitVec 32 := 0#32
  ![v523.toNat, 0, 0]
def k0_off7 (k0_t2 : Fin k0_t2_loop.trips) : Fin 2 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let c0_i32_344 : BitVec 32 := 0#32
  ![v523.toNat, 0]
def k0_off8 (k0_t2 : Fin k0_t2_loop.trips) : Fin 1 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  ![v523.toNat]
def k0_cond2 (k0_t2 : Fin k0_t2_loop.trips) : BitVec 1 :=
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c3_i32_347 : BitVec 32 := 3#32
  let v534 : BitVec 1 := Scalar.cmpi .sge v521 c3_i32_347
  let v535 : BitVec 32 := Scalar.extui v534
  let c0_i32_348 : BitVec 32 := 0#32
  let v536 : BitVec 1 := Scalar.cmpi .ne v535 c0_i32_348
  v536

def k0_mult1 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c3_i32_507 : BitVec 32 := 3#32
  let v807 : BitVec 32 := Scalar.subi v521 c3_i32_507
  let c0_i32_509 : BitVec 32 := 0#32
  let v809 : BitVec 1 := Scalar.cmpi .sgt v807 c0_i32_509
  let v810 : BitVec 32 := Scalar.extui v809
  let c0_i32_510 : BitVec 32 := 0#32
  let v811 : BitVec 1 := Scalar.cmpi .slt v807 c0_i32_510
  let v812 : BitVec 32 := Scalar.extui v811
  let v813 : BitVec 32 := Scalar.subi v810 v812
  let c16_i32_508 : BitVec 32 := 16#32
  let c0_i32_511 : BitVec 32 := 0#32
  let v814 : BitVec 1 := Scalar.cmpi .sgt c16_i32_508 c0_i32_511
  let v815 : BitVec 32 := Scalar.extui v814
  let c0_i32_512 : BitVec 32 := 0#32
  let v816 : BitVec 1 := Scalar.cmpi .slt c16_i32_508 c0_i32_512
  let v817 : BitVec 32 := Scalar.extui v816
  let v818 : BitVec 32 := Scalar.subi v815 v817
  let v819 : BitVec 1 := Scalar.cmpi .ne v813 v818
  let v820 : BitVec 32 := Scalar.remsi v807 c16_i32_508
  let c0_i32_513 : BitVec 32 := 0#32
  let v821 : BitVec 1 := Scalar.cmpi .ne v820 c0_i32_513
  let v822 : BitVec 1 := Scalar.andi v819 v821
  let v808 : BitVec 32 := Scalar.divsi v807 c16_i32_508
  let c1_i32_514 : BitVec 32 := 1#32
  let v823 : BitVec 32 := Scalar.subi v808 c1_i32_514
  let v824 : BitVec 32 := Scalar.select v822 v823 v808
  let v825 : BitVec 32 := Scalar.addi v2 v824
  let c8_i32_517 : BitVec 32 := 8#32
  let v828 : BitVec 32 := Scalar.muli v825 c8_i32_517
  let c0_i32_518 : BitVec 32 := 0#32
  let v829 : BitVec 32 := Scalar.addi v828 c0_i32_518
  let c2048_i32_519 : BitVec 32 := 2048#32
  let v830 : BitVec 32 := Scalar.muli v829 c2048_i32_519
  let c16_i32_515 : BitVec 32 := 16#32
  let v826 : BitVec 32 := Scalar.remsi v807 c16_i32_515
  let c128_i32_516 : BitVec 32 := 128#32
  let v827 : BitVec 32 := Scalar.muli v826 c128_i32_516
  let v831 : BitVec 32 := Scalar.addi v830 v827
  let c16_i32_520 : BitVec 32 := 16#32
  let v832 : BitVec 32 := Scalar.muli v831 c16_i32_520
  let c0_i32_522 : BitVec 32 := 0#32
  let v834 : BitVec 1 := Scalar.cmpi .sgt v832 c0_i32_522
  let v835 : BitVec 32 := Scalar.extui v834
  let c0_i32_523 : BitVec 32 := 0#32
  let v836 : BitVec 1 := Scalar.cmpi .slt v832 c0_i32_523
  let v837 : BitVec 32 := Scalar.extui v836
  let v838 : BitVec 32 := Scalar.subi v835 v837
  let c128_i32_521 : BitVec 32 := 128#32
  let c0_i32_524 : BitVec 32 := 0#32
  let v839 : BitVec 1 := Scalar.cmpi .sgt c128_i32_521 c0_i32_524
  let v840 : BitVec 32 := Scalar.extui v839
  let c0_i32_525 : BitVec 32 := 0#32
  let v841 : BitVec 1 := Scalar.cmpi .slt c128_i32_521 c0_i32_525
  let v842 : BitVec 32 := Scalar.extui v841
  let v843 : BitVec 32 := Scalar.subi v840 v842
  let v844 : BitVec 1 := Scalar.cmpi .ne v838 v843
  let v845 : BitVec 32 := Scalar.remsi v832 c128_i32_521
  let c0_i32_526 : BitVec 32 := 0#32
  let v846 : BitVec 1 := Scalar.cmpi .ne v845 c0_i32_526
  let v847 : BitVec 1 := Scalar.andi v844 v846
  let v833 : BitVec 32 := Scalar.divsi v832 c128_i32_521
  let c1_i32_527 : BitVec 32 := 1#32
  let v848 : BitVec 32 := Scalar.subi v833 c1_i32_527
  let v849 : BitVec 32 := Scalar.select v847 v848 v833
  v849
def k0_mult2 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c3_i32_507 : BitVec 32 := 3#32
  let v807 : BitVec 32 := Scalar.subi v521 c3_i32_507
  let c0_i32_509 : BitVec 32 := 0#32
  let v809 : BitVec 1 := Scalar.cmpi .sgt v807 c0_i32_509
  let v810 : BitVec 32 := Scalar.extui v809
  let c0_i32_510 : BitVec 32 := 0#32
  let v811 : BitVec 1 := Scalar.cmpi .slt v807 c0_i32_510
  let v812 : BitVec 32 := Scalar.extui v811
  let v813 : BitVec 32 := Scalar.subi v810 v812
  let c16_i32_508 : BitVec 32 := 16#32
  let c0_i32_511 : BitVec 32 := 0#32
  let v814 : BitVec 1 := Scalar.cmpi .sgt c16_i32_508 c0_i32_511
  let v815 : BitVec 32 := Scalar.extui v814
  let c0_i32_512 : BitVec 32 := 0#32
  let v816 : BitVec 1 := Scalar.cmpi .slt c16_i32_508 c0_i32_512
  let v817 : BitVec 32 := Scalar.extui v816
  let v818 : BitVec 32 := Scalar.subi v815 v817
  let v819 : BitVec 1 := Scalar.cmpi .ne v813 v818
  let v820 : BitVec 32 := Scalar.remsi v807 c16_i32_508
  let c0_i32_513 : BitVec 32 := 0#32
  let v821 : BitVec 1 := Scalar.cmpi .ne v820 c0_i32_513
  let v822 : BitVec 1 := Scalar.andi v819 v821
  let v808 : BitVec 32 := Scalar.divsi v807 c16_i32_508
  let c1_i32_514 : BitVec 32 := 1#32
  let v823 : BitVec 32 := Scalar.subi v808 c1_i32_514
  let v824 : BitVec 32 := Scalar.select v822 v823 v808
  let v825 : BitVec 32 := Scalar.addi v2 v824
  let c8_i32_528 : BitVec 32 := 8#32
  let v851 : BitVec 32 := Scalar.muli v825 c8_i32_528
  let c1_i32_529 : BitVec 32 := 1#32
  let v852 : BitVec 32 := Scalar.addi v851 c1_i32_529
  let c2048_i32_530 : BitVec 32 := 2048#32
  let v853 : BitVec 32 := Scalar.muli v852 c2048_i32_530
  let c16_i32_515 : BitVec 32 := 16#32
  let v826 : BitVec 32 := Scalar.remsi v807 c16_i32_515
  let c128_i32_516 : BitVec 32 := 128#32
  let v827 : BitVec 32 := Scalar.muli v826 c128_i32_516
  let v854 : BitVec 32 := Scalar.addi v853 v827
  let c16_i32_531 : BitVec 32 := 16#32
  let v855 : BitVec 32 := Scalar.muli v854 c16_i32_531
  let c0_i32_533 : BitVec 32 := 0#32
  let v857 : BitVec 1 := Scalar.cmpi .sgt v855 c0_i32_533
  let v858 : BitVec 32 := Scalar.extui v857
  let c0_i32_534 : BitVec 32 := 0#32
  let v859 : BitVec 1 := Scalar.cmpi .slt v855 c0_i32_534
  let v860 : BitVec 32 := Scalar.extui v859
  let v861 : BitVec 32 := Scalar.subi v858 v860
  let c128_i32_532 : BitVec 32 := 128#32
  let c0_i32_535 : BitVec 32 := 0#32
  let v862 : BitVec 1 := Scalar.cmpi .sgt c128_i32_532 c0_i32_535
  let v863 : BitVec 32 := Scalar.extui v862
  let c0_i32_536 : BitVec 32 := 0#32
  let v864 : BitVec 1 := Scalar.cmpi .slt c128_i32_532 c0_i32_536
  let v865 : BitVec 32 := Scalar.extui v864
  let v866 : BitVec 32 := Scalar.subi v863 v865
  let v867 : BitVec 1 := Scalar.cmpi .ne v861 v866
  let v868 : BitVec 32 := Scalar.remsi v855 c128_i32_532
  let c0_i32_537 : BitVec 32 := 0#32
  let v869 : BitVec 1 := Scalar.cmpi .ne v868 c0_i32_537
  let v870 : BitVec 1 := Scalar.andi v867 v869
  let v856 : BitVec 32 := Scalar.divsi v855 c128_i32_532
  let c1_i32_538 : BitVec 32 := 1#32
  let v871 : BitVec 32 := Scalar.subi v856 c1_i32_538
  let v872 : BitVec 32 := Scalar.select v870 v871 v856
  v872
def k0_mult3 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c3_i32_507 : BitVec 32 := 3#32
  let v807 : BitVec 32 := Scalar.subi v521 c3_i32_507
  let c0_i32_509 : BitVec 32 := 0#32
  let v809 : BitVec 1 := Scalar.cmpi .sgt v807 c0_i32_509
  let v810 : BitVec 32 := Scalar.extui v809
  let c0_i32_510 : BitVec 32 := 0#32
  let v811 : BitVec 1 := Scalar.cmpi .slt v807 c0_i32_510
  let v812 : BitVec 32 := Scalar.extui v811
  let v813 : BitVec 32 := Scalar.subi v810 v812
  let c16_i32_508 : BitVec 32 := 16#32
  let c0_i32_511 : BitVec 32 := 0#32
  let v814 : BitVec 1 := Scalar.cmpi .sgt c16_i32_508 c0_i32_511
  let v815 : BitVec 32 := Scalar.extui v814
  let c0_i32_512 : BitVec 32 := 0#32
  let v816 : BitVec 1 := Scalar.cmpi .slt c16_i32_508 c0_i32_512
  let v817 : BitVec 32 := Scalar.extui v816
  let v818 : BitVec 32 := Scalar.subi v815 v817
  let v819 : BitVec 1 := Scalar.cmpi .ne v813 v818
  let v820 : BitVec 32 := Scalar.remsi v807 c16_i32_508
  let c0_i32_513 : BitVec 32 := 0#32
  let v821 : BitVec 1 := Scalar.cmpi .ne v820 c0_i32_513
  let v822 : BitVec 1 := Scalar.andi v819 v821
  let v808 : BitVec 32 := Scalar.divsi v807 c16_i32_508
  let c1_i32_514 : BitVec 32 := 1#32
  let v823 : BitVec 32 := Scalar.subi v808 c1_i32_514
  let v824 : BitVec 32 := Scalar.select v822 v823 v808
  let v825 : BitVec 32 := Scalar.addi v2 v824
  let c8_i32_539 : BitVec 32 := 8#32
  let v874 : BitVec 32 := Scalar.muli v825 c8_i32_539
  let c2_i32_540 : BitVec 32 := 2#32
  let v875 : BitVec 32 := Scalar.addi v874 c2_i32_540
  let c2048_i32_541 : BitVec 32 := 2048#32
  let v876 : BitVec 32 := Scalar.muli v875 c2048_i32_541
  let c16_i32_515 : BitVec 32 := 16#32
  let v826 : BitVec 32 := Scalar.remsi v807 c16_i32_515
  let c128_i32_516 : BitVec 32 := 128#32
  let v827 : BitVec 32 := Scalar.muli v826 c128_i32_516
  let v877 : BitVec 32 := Scalar.addi v876 v827
  let c16_i32_542 : BitVec 32 := 16#32
  let v878 : BitVec 32 := Scalar.muli v877 c16_i32_542
  let c0_i32_544 : BitVec 32 := 0#32
  let v880 : BitVec 1 := Scalar.cmpi .sgt v878 c0_i32_544
  let v881 : BitVec 32 := Scalar.extui v880
  let c0_i32_545 : BitVec 32 := 0#32
  let v882 : BitVec 1 := Scalar.cmpi .slt v878 c0_i32_545
  let v883 : BitVec 32 := Scalar.extui v882
  let v884 : BitVec 32 := Scalar.subi v881 v883
  let c128_i32_543 : BitVec 32 := 128#32
  let c0_i32_546 : BitVec 32 := 0#32
  let v885 : BitVec 1 := Scalar.cmpi .sgt c128_i32_543 c0_i32_546
  let v886 : BitVec 32 := Scalar.extui v885
  let c0_i32_547 : BitVec 32 := 0#32
  let v887 : BitVec 1 := Scalar.cmpi .slt c128_i32_543 c0_i32_547
  let v888 : BitVec 32 := Scalar.extui v887
  let v889 : BitVec 32 := Scalar.subi v886 v888
  let v890 : BitVec 1 := Scalar.cmpi .ne v884 v889
  let v891 : BitVec 32 := Scalar.remsi v878 c128_i32_543
  let c0_i32_548 : BitVec 32 := 0#32
  let v892 : BitVec 1 := Scalar.cmpi .ne v891 c0_i32_548
  let v893 : BitVec 1 := Scalar.andi v890 v892
  let v879 : BitVec 32 := Scalar.divsi v878 c128_i32_543
  let c1_i32_549 : BitVec 32 := 1#32
  let v894 : BitVec 32 := Scalar.subi v879 c1_i32_549
  let v895 : BitVec 32 := Scalar.select v893 v894 v879
  v895
def k0_mult4 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c3_i32_507 : BitVec 32 := 3#32
  let v807 : BitVec 32 := Scalar.subi v521 c3_i32_507
  let c0_i32_509 : BitVec 32 := 0#32
  let v809 : BitVec 1 := Scalar.cmpi .sgt v807 c0_i32_509
  let v810 : BitVec 32 := Scalar.extui v809
  let c0_i32_510 : BitVec 32 := 0#32
  let v811 : BitVec 1 := Scalar.cmpi .slt v807 c0_i32_510
  let v812 : BitVec 32 := Scalar.extui v811
  let v813 : BitVec 32 := Scalar.subi v810 v812
  let c16_i32_508 : BitVec 32 := 16#32
  let c0_i32_511 : BitVec 32 := 0#32
  let v814 : BitVec 1 := Scalar.cmpi .sgt c16_i32_508 c0_i32_511
  let v815 : BitVec 32 := Scalar.extui v814
  let c0_i32_512 : BitVec 32 := 0#32
  let v816 : BitVec 1 := Scalar.cmpi .slt c16_i32_508 c0_i32_512
  let v817 : BitVec 32 := Scalar.extui v816
  let v818 : BitVec 32 := Scalar.subi v815 v817
  let v819 : BitVec 1 := Scalar.cmpi .ne v813 v818
  let v820 : BitVec 32 := Scalar.remsi v807 c16_i32_508
  let c0_i32_513 : BitVec 32 := 0#32
  let v821 : BitVec 1 := Scalar.cmpi .ne v820 c0_i32_513
  let v822 : BitVec 1 := Scalar.andi v819 v821
  let v808 : BitVec 32 := Scalar.divsi v807 c16_i32_508
  let c1_i32_514 : BitVec 32 := 1#32
  let v823 : BitVec 32 := Scalar.subi v808 c1_i32_514
  let v824 : BitVec 32 := Scalar.select v822 v823 v808
  let v825 : BitVec 32 := Scalar.addi v2 v824
  let c8_i32_550 : BitVec 32 := 8#32
  let v897 : BitVec 32 := Scalar.muli v825 c8_i32_550
  let c3_i32_551 : BitVec 32 := 3#32
  let v898 : BitVec 32 := Scalar.addi v897 c3_i32_551
  let c2048_i32_552 : BitVec 32 := 2048#32
  let v899 : BitVec 32 := Scalar.muli v898 c2048_i32_552
  let c16_i32_515 : BitVec 32 := 16#32
  let v826 : BitVec 32 := Scalar.remsi v807 c16_i32_515
  let c128_i32_516 : BitVec 32 := 128#32
  let v827 : BitVec 32 := Scalar.muli v826 c128_i32_516
  let v900 : BitVec 32 := Scalar.addi v899 v827
  let c16_i32_553 : BitVec 32 := 16#32
  let v901 : BitVec 32 := Scalar.muli v900 c16_i32_553
  let c0_i32_555 : BitVec 32 := 0#32
  let v903 : BitVec 1 := Scalar.cmpi .sgt v901 c0_i32_555
  let v904 : BitVec 32 := Scalar.extui v903
  let c0_i32_556 : BitVec 32 := 0#32
  let v905 : BitVec 1 := Scalar.cmpi .slt v901 c0_i32_556
  let v906 : BitVec 32 := Scalar.extui v905
  let v907 : BitVec 32 := Scalar.subi v904 v906
  let c128_i32_554 : BitVec 32 := 128#32
  let c0_i32_557 : BitVec 32 := 0#32
  let v908 : BitVec 1 := Scalar.cmpi .sgt c128_i32_554 c0_i32_557
  let v909 : BitVec 32 := Scalar.extui v908
  let c0_i32_558 : BitVec 32 := 0#32
  let v910 : BitVec 1 := Scalar.cmpi .slt c128_i32_554 c0_i32_558
  let v911 : BitVec 32 := Scalar.extui v910
  let v912 : BitVec 32 := Scalar.subi v909 v911
  let v913 : BitVec 1 := Scalar.cmpi .ne v907 v912
  let v914 : BitVec 32 := Scalar.remsi v901 c128_i32_554
  let c0_i32_559 : BitVec 32 := 0#32
  let v915 : BitVec 1 := Scalar.cmpi .ne v914 c0_i32_559
  let v916 : BitVec 1 := Scalar.andi v913 v915
  let v902 : BitVec 32 := Scalar.divsi v901 c128_i32_554
  let c1_i32_560 : BitVec 32 := 1#32
  let v917 : BitVec 32 := Scalar.subi v902 c1_i32_560
  let v918 : BitVec 32 := Scalar.select v916 v917 v902
  v918
def k0_mult5 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c3_i32_507 : BitVec 32 := 3#32
  let v807 : BitVec 32 := Scalar.subi v521 c3_i32_507
  let c0_i32_509 : BitVec 32 := 0#32
  let v809 : BitVec 1 := Scalar.cmpi .sgt v807 c0_i32_509
  let v810 : BitVec 32 := Scalar.extui v809
  let c0_i32_510 : BitVec 32 := 0#32
  let v811 : BitVec 1 := Scalar.cmpi .slt v807 c0_i32_510
  let v812 : BitVec 32 := Scalar.extui v811
  let v813 : BitVec 32 := Scalar.subi v810 v812
  let c16_i32_508 : BitVec 32 := 16#32
  let c0_i32_511 : BitVec 32 := 0#32
  let v814 : BitVec 1 := Scalar.cmpi .sgt c16_i32_508 c0_i32_511
  let v815 : BitVec 32 := Scalar.extui v814
  let c0_i32_512 : BitVec 32 := 0#32
  let v816 : BitVec 1 := Scalar.cmpi .slt c16_i32_508 c0_i32_512
  let v817 : BitVec 32 := Scalar.extui v816
  let v818 : BitVec 32 := Scalar.subi v815 v817
  let v819 : BitVec 1 := Scalar.cmpi .ne v813 v818
  let v820 : BitVec 32 := Scalar.remsi v807 c16_i32_508
  let c0_i32_513 : BitVec 32 := 0#32
  let v821 : BitVec 1 := Scalar.cmpi .ne v820 c0_i32_513
  let v822 : BitVec 1 := Scalar.andi v819 v821
  let v808 : BitVec 32 := Scalar.divsi v807 c16_i32_508
  let c1_i32_514 : BitVec 32 := 1#32
  let v823 : BitVec 32 := Scalar.subi v808 c1_i32_514
  let v824 : BitVec 32 := Scalar.select v822 v823 v808
  let v825 : BitVec 32 := Scalar.addi v2 v824
  let c8_i32_561 : BitVec 32 := 8#32
  let v920 : BitVec 32 := Scalar.muli v825 c8_i32_561
  let c4_i32_562 : BitVec 32 := 4#32
  let v921 : BitVec 32 := Scalar.addi v920 c4_i32_562
  let c2048_i32_563 : BitVec 32 := 2048#32
  let v922 : BitVec 32 := Scalar.muli v921 c2048_i32_563
  let c16_i32_515 : BitVec 32 := 16#32
  let v826 : BitVec 32 := Scalar.remsi v807 c16_i32_515
  let c128_i32_516 : BitVec 32 := 128#32
  let v827 : BitVec 32 := Scalar.muli v826 c128_i32_516
  let v923 : BitVec 32 := Scalar.addi v922 v827
  let c16_i32_564 : BitVec 32 := 16#32
  let v924 : BitVec 32 := Scalar.muli v923 c16_i32_564
  let c0_i32_566 : BitVec 32 := 0#32
  let v926 : BitVec 1 := Scalar.cmpi .sgt v924 c0_i32_566
  let v927 : BitVec 32 := Scalar.extui v926
  let c0_i32_567 : BitVec 32 := 0#32
  let v928 : BitVec 1 := Scalar.cmpi .slt v924 c0_i32_567
  let v929 : BitVec 32 := Scalar.extui v928
  let v930 : BitVec 32 := Scalar.subi v927 v929
  let c128_i32_565 : BitVec 32 := 128#32
  let c0_i32_568 : BitVec 32 := 0#32
  let v931 : BitVec 1 := Scalar.cmpi .sgt c128_i32_565 c0_i32_568
  let v932 : BitVec 32 := Scalar.extui v931
  let c0_i32_569 : BitVec 32 := 0#32
  let v933 : BitVec 1 := Scalar.cmpi .slt c128_i32_565 c0_i32_569
  let v934 : BitVec 32 := Scalar.extui v933
  let v935 : BitVec 32 := Scalar.subi v932 v934
  let v936 : BitVec 1 := Scalar.cmpi .ne v930 v935
  let v937 : BitVec 32 := Scalar.remsi v924 c128_i32_565
  let c0_i32_570 : BitVec 32 := 0#32
  let v938 : BitVec 1 := Scalar.cmpi .ne v937 c0_i32_570
  let v939 : BitVec 1 := Scalar.andi v936 v938
  let v925 : BitVec 32 := Scalar.divsi v924 c128_i32_565
  let c1_i32_571 : BitVec 32 := 1#32
  let v940 : BitVec 32 := Scalar.subi v925 c1_i32_571
  let v941 : BitVec 32 := Scalar.select v939 v940 v925
  v941
def k0_mult6 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c3_i32_507 : BitVec 32 := 3#32
  let v807 : BitVec 32 := Scalar.subi v521 c3_i32_507
  let c0_i32_509 : BitVec 32 := 0#32
  let v809 : BitVec 1 := Scalar.cmpi .sgt v807 c0_i32_509
  let v810 : BitVec 32 := Scalar.extui v809
  let c0_i32_510 : BitVec 32 := 0#32
  let v811 : BitVec 1 := Scalar.cmpi .slt v807 c0_i32_510
  let v812 : BitVec 32 := Scalar.extui v811
  let v813 : BitVec 32 := Scalar.subi v810 v812
  let c16_i32_508 : BitVec 32 := 16#32
  let c0_i32_511 : BitVec 32 := 0#32
  let v814 : BitVec 1 := Scalar.cmpi .sgt c16_i32_508 c0_i32_511
  let v815 : BitVec 32 := Scalar.extui v814
  let c0_i32_512 : BitVec 32 := 0#32
  let v816 : BitVec 1 := Scalar.cmpi .slt c16_i32_508 c0_i32_512
  let v817 : BitVec 32 := Scalar.extui v816
  let v818 : BitVec 32 := Scalar.subi v815 v817
  let v819 : BitVec 1 := Scalar.cmpi .ne v813 v818
  let v820 : BitVec 32 := Scalar.remsi v807 c16_i32_508
  let c0_i32_513 : BitVec 32 := 0#32
  let v821 : BitVec 1 := Scalar.cmpi .ne v820 c0_i32_513
  let v822 : BitVec 1 := Scalar.andi v819 v821
  let v808 : BitVec 32 := Scalar.divsi v807 c16_i32_508
  let c1_i32_514 : BitVec 32 := 1#32
  let v823 : BitVec 32 := Scalar.subi v808 c1_i32_514
  let v824 : BitVec 32 := Scalar.select v822 v823 v808
  let v825 : BitVec 32 := Scalar.addi v2 v824
  let c8_i32_572 : BitVec 32 := 8#32
  let v943 : BitVec 32 := Scalar.muli v825 c8_i32_572
  let c5_i32_573 : BitVec 32 := 5#32
  let v944 : BitVec 32 := Scalar.addi v943 c5_i32_573
  let c2048_i32_574 : BitVec 32 := 2048#32
  let v945 : BitVec 32 := Scalar.muli v944 c2048_i32_574
  let c16_i32_515 : BitVec 32 := 16#32
  let v826 : BitVec 32 := Scalar.remsi v807 c16_i32_515
  let c128_i32_516 : BitVec 32 := 128#32
  let v827 : BitVec 32 := Scalar.muli v826 c128_i32_516
  let v946 : BitVec 32 := Scalar.addi v945 v827
  let c16_i32_575 : BitVec 32 := 16#32
  let v947 : BitVec 32 := Scalar.muli v946 c16_i32_575
  let c0_i32_577 : BitVec 32 := 0#32
  let v949 : BitVec 1 := Scalar.cmpi .sgt v947 c0_i32_577
  let v950 : BitVec 32 := Scalar.extui v949
  let c0_i32_578 : BitVec 32 := 0#32
  let v951 : BitVec 1 := Scalar.cmpi .slt v947 c0_i32_578
  let v952 : BitVec 32 := Scalar.extui v951
  let v953 : BitVec 32 := Scalar.subi v950 v952
  let c128_i32_576 : BitVec 32 := 128#32
  let c0_i32_579 : BitVec 32 := 0#32
  let v954 : BitVec 1 := Scalar.cmpi .sgt c128_i32_576 c0_i32_579
  let v955 : BitVec 32 := Scalar.extui v954
  let c0_i32_580 : BitVec 32 := 0#32
  let v956 : BitVec 1 := Scalar.cmpi .slt c128_i32_576 c0_i32_580
  let v957 : BitVec 32 := Scalar.extui v956
  let v958 : BitVec 32 := Scalar.subi v955 v957
  let v959 : BitVec 1 := Scalar.cmpi .ne v953 v958
  let v960 : BitVec 32 := Scalar.remsi v947 c128_i32_576
  let c0_i32_581 : BitVec 32 := 0#32
  let v961 : BitVec 1 := Scalar.cmpi .ne v960 c0_i32_581
  let v962 : BitVec 1 := Scalar.andi v959 v961
  let v948 : BitVec 32 := Scalar.divsi v947 c128_i32_576
  let c1_i32_582 : BitVec 32 := 1#32
  let v963 : BitVec 32 := Scalar.subi v948 c1_i32_582
  let v964 : BitVec 32 := Scalar.select v962 v963 v948
  v964
def k0_mult7 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c3_i32_507 : BitVec 32 := 3#32
  let v807 : BitVec 32 := Scalar.subi v521 c3_i32_507
  let c0_i32_509 : BitVec 32 := 0#32
  let v809 : BitVec 1 := Scalar.cmpi .sgt v807 c0_i32_509
  let v810 : BitVec 32 := Scalar.extui v809
  let c0_i32_510 : BitVec 32 := 0#32
  let v811 : BitVec 1 := Scalar.cmpi .slt v807 c0_i32_510
  let v812 : BitVec 32 := Scalar.extui v811
  let v813 : BitVec 32 := Scalar.subi v810 v812
  let c16_i32_508 : BitVec 32 := 16#32
  let c0_i32_511 : BitVec 32 := 0#32
  let v814 : BitVec 1 := Scalar.cmpi .sgt c16_i32_508 c0_i32_511
  let v815 : BitVec 32 := Scalar.extui v814
  let c0_i32_512 : BitVec 32 := 0#32
  let v816 : BitVec 1 := Scalar.cmpi .slt c16_i32_508 c0_i32_512
  let v817 : BitVec 32 := Scalar.extui v816
  let v818 : BitVec 32 := Scalar.subi v815 v817
  let v819 : BitVec 1 := Scalar.cmpi .ne v813 v818
  let v820 : BitVec 32 := Scalar.remsi v807 c16_i32_508
  let c0_i32_513 : BitVec 32 := 0#32
  let v821 : BitVec 1 := Scalar.cmpi .ne v820 c0_i32_513
  let v822 : BitVec 1 := Scalar.andi v819 v821
  let v808 : BitVec 32 := Scalar.divsi v807 c16_i32_508
  let c1_i32_514 : BitVec 32 := 1#32
  let v823 : BitVec 32 := Scalar.subi v808 c1_i32_514
  let v824 : BitVec 32 := Scalar.select v822 v823 v808
  let v825 : BitVec 32 := Scalar.addi v2 v824
  let c8_i32_583 : BitVec 32 := 8#32
  let v966 : BitVec 32 := Scalar.muli v825 c8_i32_583
  let c6_i32_584 : BitVec 32 := 6#32
  let v967 : BitVec 32 := Scalar.addi v966 c6_i32_584
  let c2048_i32_585 : BitVec 32 := 2048#32
  let v968 : BitVec 32 := Scalar.muli v967 c2048_i32_585
  let c16_i32_515 : BitVec 32 := 16#32
  let v826 : BitVec 32 := Scalar.remsi v807 c16_i32_515
  let c128_i32_516 : BitVec 32 := 128#32
  let v827 : BitVec 32 := Scalar.muli v826 c128_i32_516
  let v969 : BitVec 32 := Scalar.addi v968 v827
  let c16_i32_586 : BitVec 32 := 16#32
  let v970 : BitVec 32 := Scalar.muli v969 c16_i32_586
  let c0_i32_588 : BitVec 32 := 0#32
  let v972 : BitVec 1 := Scalar.cmpi .sgt v970 c0_i32_588
  let v973 : BitVec 32 := Scalar.extui v972
  let c0_i32_589 : BitVec 32 := 0#32
  let v974 : BitVec 1 := Scalar.cmpi .slt v970 c0_i32_589
  let v975 : BitVec 32 := Scalar.extui v974
  let v976 : BitVec 32 := Scalar.subi v973 v975
  let c128_i32_587 : BitVec 32 := 128#32
  let c0_i32_590 : BitVec 32 := 0#32
  let v977 : BitVec 1 := Scalar.cmpi .sgt c128_i32_587 c0_i32_590
  let v978 : BitVec 32 := Scalar.extui v977
  let c0_i32_591 : BitVec 32 := 0#32
  let v979 : BitVec 1 := Scalar.cmpi .slt c128_i32_587 c0_i32_591
  let v980 : BitVec 32 := Scalar.extui v979
  let v981 : BitVec 32 := Scalar.subi v978 v980
  let v982 : BitVec 1 := Scalar.cmpi .ne v976 v981
  let v983 : BitVec 32 := Scalar.remsi v970 c128_i32_587
  let c0_i32_592 : BitVec 32 := 0#32
  let v984 : BitVec 1 := Scalar.cmpi .ne v983 c0_i32_592
  let v985 : BitVec 1 := Scalar.andi v982 v984
  let v971 : BitVec 32 := Scalar.divsi v970 c128_i32_587
  let c1_i32_593 : BitVec 32 := 1#32
  let v986 : BitVec 32 := Scalar.subi v971 c1_i32_593
  let v987 : BitVec 32 := Scalar.select v985 v986 v971
  v987
def k0_mult8 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c3_i32_507 : BitVec 32 := 3#32
  let v807 : BitVec 32 := Scalar.subi v521 c3_i32_507
  let c0_i32_509 : BitVec 32 := 0#32
  let v809 : BitVec 1 := Scalar.cmpi .sgt v807 c0_i32_509
  let v810 : BitVec 32 := Scalar.extui v809
  let c0_i32_510 : BitVec 32 := 0#32
  let v811 : BitVec 1 := Scalar.cmpi .slt v807 c0_i32_510
  let v812 : BitVec 32 := Scalar.extui v811
  let v813 : BitVec 32 := Scalar.subi v810 v812
  let c16_i32_508 : BitVec 32 := 16#32
  let c0_i32_511 : BitVec 32 := 0#32
  let v814 : BitVec 1 := Scalar.cmpi .sgt c16_i32_508 c0_i32_511
  let v815 : BitVec 32 := Scalar.extui v814
  let c0_i32_512 : BitVec 32 := 0#32
  let v816 : BitVec 1 := Scalar.cmpi .slt c16_i32_508 c0_i32_512
  let v817 : BitVec 32 := Scalar.extui v816
  let v818 : BitVec 32 := Scalar.subi v815 v817
  let v819 : BitVec 1 := Scalar.cmpi .ne v813 v818
  let v820 : BitVec 32 := Scalar.remsi v807 c16_i32_508
  let c0_i32_513 : BitVec 32 := 0#32
  let v821 : BitVec 1 := Scalar.cmpi .ne v820 c0_i32_513
  let v822 : BitVec 1 := Scalar.andi v819 v821
  let v808 : BitVec 32 := Scalar.divsi v807 c16_i32_508
  let c1_i32_514 : BitVec 32 := 1#32
  let v823 : BitVec 32 := Scalar.subi v808 c1_i32_514
  let v824 : BitVec 32 := Scalar.select v822 v823 v808
  let v825 : BitVec 32 := Scalar.addi v2 v824
  let c8_i32_594 : BitVec 32 := 8#32
  let v989 : BitVec 32 := Scalar.muli v825 c8_i32_594
  let c7_i32_595 : BitVec 32 := 7#32
  let v990 : BitVec 32 := Scalar.addi v989 c7_i32_595
  let c2048_i32_596 : BitVec 32 := 2048#32
  let v991 : BitVec 32 := Scalar.muli v990 c2048_i32_596
  let c16_i32_515 : BitVec 32 := 16#32
  let v826 : BitVec 32 := Scalar.remsi v807 c16_i32_515
  let c128_i32_516 : BitVec 32 := 128#32
  let v827 : BitVec 32 := Scalar.muli v826 c128_i32_516
  let v992 : BitVec 32 := Scalar.addi v991 v827
  let c16_i32_597 : BitVec 32 := 16#32
  let v993 : BitVec 32 := Scalar.muli v992 c16_i32_597
  let c0_i32_599 : BitVec 32 := 0#32
  let v995 : BitVec 1 := Scalar.cmpi .sgt v993 c0_i32_599
  let v996 : BitVec 32 := Scalar.extui v995
  let c0_i32_600 : BitVec 32 := 0#32
  let v997 : BitVec 1 := Scalar.cmpi .slt v993 c0_i32_600
  let v998 : BitVec 32 := Scalar.extui v997
  let v999 : BitVec 32 := Scalar.subi v996 v998
  let c128_i32_598 : BitVec 32 := 128#32
  let c0_i32_601 : BitVec 32 := 0#32
  let v1000 : BitVec 1 := Scalar.cmpi .sgt c128_i32_598 c0_i32_601
  let v1001 : BitVec 32 := Scalar.extui v1000
  let c0_i32_602 : BitVec 32 := 0#32
  let v1002 : BitVec 1 := Scalar.cmpi .slt c128_i32_598 c0_i32_602
  let v1003 : BitVec 32 := Scalar.extui v1002
  let v1004 : BitVec 32 := Scalar.subi v1001 v1003
  let v1005 : BitVec 1 := Scalar.cmpi .ne v999 v1004
  let v1006 : BitVec 32 := Scalar.remsi v993 c128_i32_598
  let c0_i32_603 : BitVec 32 := 0#32
  let v1007 : BitVec 1 := Scalar.cmpi .ne v1006 c0_i32_603
  let v1008 : BitVec 1 := Scalar.andi v1005 v1007
  let v994 : BitVec 32 := Scalar.divsi v993 c128_i32_598
  let c1_i32_604 : BitVec 32 := 1#32
  let v1009 : BitVec 32 := Scalar.subi v994 c1_i32_604
  let v1010 : BitVec 32 := Scalar.select v1008 v1009 v994
  v1010
def k0_off9 (k0_t2 : Fin k0_t2_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let c0_i32_605 : BitVec 32 := 0#32
  let c0_i32_606 : BitVec 32 := 0#32
  let c0_i32_607 : BitVec 32 := 0#32
  ![v523.toNat, 0, 0, 0]
def k0_off10 (i : grid0.Coords) (k0_t2 : Fin k0_t2_loop.trips) (c0_i32_518 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c3_i32_507 : BitVec 32 := 3#32
  let v807 : BitVec 32 := Scalar.subi v521 c3_i32_507
  let c0_i32_509 : BitVec 32 := 0#32
  let v809 : BitVec 1 := Scalar.cmpi .sgt v807 c0_i32_509
  let v810 : BitVec 32 := Scalar.extui v809
  let c0_i32_510 : BitVec 32 := 0#32
  let v811 : BitVec 1 := Scalar.cmpi .slt v807 c0_i32_510
  let v812 : BitVec 32 := Scalar.extui v811
  let v813 : BitVec 32 := Scalar.subi v810 v812
  let c16_i32_508 : BitVec 32 := 16#32
  let c0_i32_511 : BitVec 32 := 0#32
  let v814 : BitVec 1 := Scalar.cmpi .sgt c16_i32_508 c0_i32_511
  let v815 : BitVec 32 := Scalar.extui v814
  let c0_i32_512 : BitVec 32 := 0#32
  let v816 : BitVec 1 := Scalar.cmpi .slt c16_i32_508 c0_i32_512
  let v817 : BitVec 32 := Scalar.extui v816
  let v818 : BitVec 32 := Scalar.subi v815 v817
  let v819 : BitVec 1 := Scalar.cmpi .ne v813 v818
  let v820 : BitVec 32 := Scalar.remsi v807 c16_i32_508
  let c0_i32_513 : BitVec 32 := 0#32
  let v821 : BitVec 1 := Scalar.cmpi .ne v820 c0_i32_513
  let v822 : BitVec 1 := Scalar.andi v819 v821
  let v808 : BitVec 32 := Scalar.divsi v807 c16_i32_508
  let c1_i32_514 : BitVec 32 := 1#32
  let v823 : BitVec 32 := Scalar.subi v808 c1_i32_514
  let v824 : BitVec 32 := Scalar.select v822 v823 v808
  let v825 : BitVec 32 := Scalar.addi v2 v824
  let c8_i32_517 : BitVec 32 := 8#32
  let v828 : BitVec 32 := Scalar.muli v825 c8_i32_517
  let v829 : BitVec 32 := Scalar.addi v828 c0_i32_518
  let c2048_i32_519 : BitVec 32 := 2048#32
  let v830 : BitVec 32 := Scalar.muli v829 c2048_i32_519
  let c16_i32_515 : BitVec 32 := 16#32
  let v826 : BitVec 32 := Scalar.remsi v807 c16_i32_515
  let c128_i32_516 : BitVec 32 := 128#32
  let v827 : BitVec 32 := Scalar.muli v826 c128_i32_516
  let v831 : BitVec 32 := Scalar.addi v830 v827
  let c16_i32_520 : BitVec 32 := 16#32
  let v832 : BitVec 32 := Scalar.muli v831 c16_i32_520
  let c0_i32_522 : BitVec 32 := 0#32
  let v834 : BitVec 1 := Scalar.cmpi .sgt v832 c0_i32_522
  let v835 : BitVec 32 := Scalar.extui v834
  let c0_i32_523 : BitVec 32 := 0#32
  let v836 : BitVec 1 := Scalar.cmpi .slt v832 c0_i32_523
  let v837 : BitVec 32 := Scalar.extui v836
  let v838 : BitVec 32 := Scalar.subi v835 v837
  let c128_i32_521 : BitVec 32 := 128#32
  let c0_i32_524 : BitVec 32 := 0#32
  let v839 : BitVec 1 := Scalar.cmpi .sgt c128_i32_521 c0_i32_524
  let v840 : BitVec 32 := Scalar.extui v839
  let c0_i32_525 : BitVec 32 := 0#32
  let v841 : BitVec 1 := Scalar.cmpi .slt c128_i32_521 c0_i32_525
  let v842 : BitVec 32 := Scalar.extui v841
  let v843 : BitVec 32 := Scalar.subi v840 v842
  let v844 : BitVec 1 := Scalar.cmpi .ne v838 v843
  let v845 : BitVec 32 := Scalar.remsi v832 c128_i32_521
  let c0_i32_526 : BitVec 32 := 0#32
  let v846 : BitVec 1 := Scalar.cmpi .ne v845 c0_i32_526
  let v847 : BitVec 1 := Scalar.andi v844 v846
  let v833 : BitVec 32 := Scalar.divsi v832 c128_i32_521
  let c1_i32_527 : BitVec 32 := 1#32
  let v848 : BitVec 32 := Scalar.subi v833 c1_i32_527
  let v849 : BitVec 32 := Scalar.select v847 v848 v833
  let v850 : BitVec 32 := v849
  let c0_i32_608 : BitVec 32 := 0#32
  ![v850.toNat, 0]
def k0_off11 (k0_t2 : Fin k0_t2_loop.trips) : Fin 1 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  ![v523.toNat]
def k0_off12 (k0_t2 : Fin k0_t2_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let c1_i32_612 : BitVec 32 := 1#32
  let c0_i32_613 : BitVec 32 := 0#32
  let c0_i32_614 : BitVec 32 := 0#32
  ![v523.toNat, 1, 0, 0]
def k0_off13 (k0_t2 : Fin k0_t2_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let c2_i32_619 : BitVec 32 := 2#32
  let c0_i32_620 : BitVec 32 := 0#32
  let c0_i32_621 : BitVec 32 := 0#32
  ![v523.toNat, 2, 0, 0]
def k0_off14 (k0_t2 : Fin k0_t2_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let c3_i32_626 : BitVec 32 := 3#32
  let c0_i32_627 : BitVec 32 := 0#32
  let c0_i32_628 : BitVec 32 := 0#32
  ![v523.toNat, 3, 0, 0]
def k0_off15 (k0_t2 : Fin k0_t2_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let c4_i32_633 : BitVec 32 := 4#32
  let c0_i32_634 : BitVec 32 := 0#32
  let c0_i32_635 : BitVec 32 := 0#32
  ![v523.toNat, 4, 0, 0]
def k0_off16 (k0_t2 : Fin k0_t2_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let c5_i32_640 : BitVec 32 := 5#32
  let c0_i32_641 : BitVec 32 := 0#32
  let c0_i32_642 : BitVec 32 := 0#32
  ![v523.toNat, 5, 0, 0]
def k0_off17 (k0_t2 : Fin k0_t2_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let c6_i32_647 : BitVec 32 := 6#32
  let c0_i32_648 : BitVec 32 := 0#32
  let c0_i32_649 : BitVec 32 := 0#32
  ![v523.toNat, 6, 0, 0]
def k0_off18 (k0_t2 : Fin k0_t2_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let c7_i32_654 : BitVec 32 := 7#32
  let c0_i32_655 : BitVec 32 := 0#32
  let c0_i32_656 : BitVec 32 := 0#32
  ![v523.toNat, 7, 0, 0]
@[reducible] def k0_t4_loop : Scf.Loop 32 :=
  let c0_i32_349 : BitVec 32 := 0#32
  let c16_i32_350 : BitVec 32 := 16#32
  let v537 : BitVec 32 := Scalar.addi c0_i32_349 c16_i32_350
  let c1_i32_351 : BitVec 32 := 1#32
  ⟨c0_i32_349, v537, c1_i32_351⟩
def k0_off19 (k0_t2 : Fin k0_t2_loop.trips) (k0_t4 : Fin k0_t4_loop.trips) (c0_i32_510 : BitVec 32) : Fin 3 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v811 : Index := Scalar.indexCast v523
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let c8_i32_509 : BitVec 32 := 8#32
  let v809 : BitVec 32 := Scalar.muli v808 c8_i32_509
  let v810 : BitVec 32 := Scalar.addi v809 c0_i32_510
  let v812 : Index := Scalar.indexCast v810
  let c0 : Index := 0#32
  ![v811.toNat, v812.toNat, 0]
def k0_off20 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v815 : Index := Scalar.indexCast v523
  let c0_i32_511 : BitVec 32 := 0#32
  let v816 : Index := Scalar.indexCast c0_i32_511
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v817 : Index := Scalar.indexCast v808
  let c0_512 : Index := 0#32
  ![v815.toNat, 0, v817.toNat, 0]
def k0_off21 (k0_t2 : Fin k0_t2_loop.trips) (k0_t4 : Fin k0_t4_loop.trips) (c0_i32_514 : BitVec 32) : Fin 3 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v823 : Index := Scalar.indexCast v523
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let c8_i32_513 : BitVec 32 := 8#32
  let v821 : BitVec 32 := Scalar.muli v808 c8_i32_513
  let v822 : BitVec 32 := Scalar.addi v821 c0_i32_514
  let v824 : Index := Scalar.indexCast v822
  let c16 : Index := 16#32
  ![v823.toNat, v824.toNat, 16]
def k0_off22 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v827 : Index := Scalar.indexCast v523
  let c1_i32_515 : BitVec 32 := 1#32
  let v828 : Index := Scalar.indexCast c1_i32_515
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v829 : Index := Scalar.indexCast v808
  let c0_516 : Index := 0#32
  ![v827.toNat, 1, v829.toNat, 0]
def k0_off23 (k0_t2 : Fin k0_t2_loop.trips) (k0_t4 : Fin k0_t4_loop.trips) (c0_i32_518 : BitVec 32) : Fin 3 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v835 : Index := Scalar.indexCast v523
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let c8_i32_517 : BitVec 32 := 8#32
  let v833 : BitVec 32 := Scalar.muli v808 c8_i32_517
  let v834 : BitVec 32 := Scalar.addi v833 c0_i32_518
  let v836 : Index := Scalar.indexCast v834
  let c32 : Index := 32#32
  ![v835.toNat, v836.toNat, 32]
def k0_off24 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v839 : Index := Scalar.indexCast v523
  let c2_i32_519 : BitVec 32 := 2#32
  let v840 : Index := Scalar.indexCast c2_i32_519
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v841 : Index := Scalar.indexCast v808
  let c0_520 : Index := 0#32
  ![v839.toNat, 2, v841.toNat, 0]
def k0_off25 (k0_t2 : Fin k0_t2_loop.trips) (k0_t4 : Fin k0_t4_loop.trips) (c0_i32_522 : BitVec 32) : Fin 3 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v847 : Index := Scalar.indexCast v523
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let c8_i32_521 : BitVec 32 := 8#32
  let v845 : BitVec 32 := Scalar.muli v808 c8_i32_521
  let v846 : BitVec 32 := Scalar.addi v845 c0_i32_522
  let v848 : Index := Scalar.indexCast v846
  let c48 : Index := 48#32
  ![v847.toNat, v848.toNat, 48]
def k0_off26 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v851 : Index := Scalar.indexCast v523
  let c3_i32_523 : BitVec 32 := 3#32
  let v852 : Index := Scalar.indexCast c3_i32_523
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v853 : Index := Scalar.indexCast v808
  let c0_524 : Index := 0#32
  ![v851.toNat, 3, v853.toNat, 0]
def k0_off27 (k0_t2 : Fin k0_t2_loop.trips) (k0_t4 : Fin k0_t4_loop.trips) (c0_i32_526 : BitVec 32) : Fin 3 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v859 : Index := Scalar.indexCast v523
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let c8_i32_525 : BitVec 32 := 8#32
  let v857 : BitVec 32 := Scalar.muli v808 c8_i32_525
  let v858 : BitVec 32 := Scalar.addi v857 c0_i32_526
  let v860 : Index := Scalar.indexCast v858
  let c64 : Index := 64#32
  ![v859.toNat, v860.toNat, 64]
def k0_off28 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v863 : Index := Scalar.indexCast v523
  let c4_i32_527 : BitVec 32 := 4#32
  let v864 : Index := Scalar.indexCast c4_i32_527
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v865 : Index := Scalar.indexCast v808
  let c0_528 : Index := 0#32
  ![v863.toNat, 4, v865.toNat, 0]
def k0_off29 (k0_t2 : Fin k0_t2_loop.trips) (k0_t4 : Fin k0_t4_loop.trips) (c0_i32_530 : BitVec 32) : Fin 3 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v871 : Index := Scalar.indexCast v523
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let c8_i32_529 : BitVec 32 := 8#32
  let v869 : BitVec 32 := Scalar.muli v808 c8_i32_529
  let v870 : BitVec 32 := Scalar.addi v869 c0_i32_530
  let v872 : Index := Scalar.indexCast v870
  let c80 : Index := 80#32
  ![v871.toNat, v872.toNat, 80]
def k0_off30 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v875 : Index := Scalar.indexCast v523
  let c5_i32_531 : BitVec 32 := 5#32
  let v876 : Index := Scalar.indexCast c5_i32_531
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v877 : Index := Scalar.indexCast v808
  let c0_532 : Index := 0#32
  ![v875.toNat, 5, v877.toNat, 0]
def k0_off31 (k0_t2 : Fin k0_t2_loop.trips) (k0_t4 : Fin k0_t4_loop.trips) (c0_i32_534 : BitVec 32) : Fin 3 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v883 : Index := Scalar.indexCast v523
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let c8_i32_533 : BitVec 32 := 8#32
  let v881 : BitVec 32 := Scalar.muli v808 c8_i32_533
  let v882 : BitVec 32 := Scalar.addi v881 c0_i32_534
  let v884 : Index := Scalar.indexCast v882
  let c96 : Index := 96#32
  ![v883.toNat, v884.toNat, 96]
def k0_off32 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v887 : Index := Scalar.indexCast v523
  let c6_i32_535 : BitVec 32 := 6#32
  let v888 : Index := Scalar.indexCast c6_i32_535
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v889 : Index := Scalar.indexCast v808
  let c0_536 : Index := 0#32
  ![v887.toNat, 6, v889.toNat, 0]
def k0_off33 (k0_t2 : Fin k0_t2_loop.trips) (k0_t4 : Fin k0_t4_loop.trips) (c0_i32_538 : BitVec 32) : Fin 3 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v895 : Index := Scalar.indexCast v523
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let c8_i32_537 : BitVec 32 := 8#32
  let v893 : BitVec 32 := Scalar.muli v808 c8_i32_537
  let v894 : BitVec 32 := Scalar.addi v893 c0_i32_538
  let v896 : Index := Scalar.indexCast v894
  let c112 : Index := 112#32
  ![v895.toNat, v896.toNat, 112]
def k0_off34 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v899 : Index := Scalar.indexCast v523
  let c7_i32_539 : BitVec 32 := 7#32
  let v900 : Index := Scalar.indexCast c7_i32_539
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v901 : Index := Scalar.indexCast v808
  let c0_540 : Index := 0#32
  ![v899.toNat, 7, v901.toNat, 0]
def k0_off35 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v911 : Index := Scalar.indexCast v523
  let c0_i32_544 : BitVec 32 := 0#32
  let v912 : Index := Scalar.indexCast c0_i32_544
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v913 : Index := Scalar.indexCast v808
  let c16_545 : Index := 16#32
  ![v911.toNat, 0, v913.toNat, 16]
def k0_off36 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v923 : Index := Scalar.indexCast v523
  let c1_i32_549 : BitVec 32 := 1#32
  let v924 : Index := Scalar.indexCast c1_i32_549
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v925 : Index := Scalar.indexCast v808
  let c16_550 : Index := 16#32
  ![v923.toNat, 1, v925.toNat, 16]
def k0_off37 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v935 : Index := Scalar.indexCast v523
  let c2_i32_554 : BitVec 32 := 2#32
  let v936 : Index := Scalar.indexCast c2_i32_554
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v937 : Index := Scalar.indexCast v808
  let c16_555 : Index := 16#32
  ![v935.toNat, 2, v937.toNat, 16]
def k0_off38 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v947 : Index := Scalar.indexCast v523
  let c3_i32_559 : BitVec 32 := 3#32
  let v948 : Index := Scalar.indexCast c3_i32_559
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v949 : Index := Scalar.indexCast v808
  let c16_560 : Index := 16#32
  ![v947.toNat, 3, v949.toNat, 16]
def k0_off39 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v959 : Index := Scalar.indexCast v523
  let c4_i32_564 : BitVec 32 := 4#32
  let v960 : Index := Scalar.indexCast c4_i32_564
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v961 : Index := Scalar.indexCast v808
  let c16_565 : Index := 16#32
  ![v959.toNat, 4, v961.toNat, 16]
def k0_off40 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v971 : Index := Scalar.indexCast v523
  let c5_i32_569 : BitVec 32 := 5#32
  let v972 : Index := Scalar.indexCast c5_i32_569
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v973 : Index := Scalar.indexCast v808
  let c16_570 : Index := 16#32
  ![v971.toNat, 5, v973.toNat, 16]
def k0_off41 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v983 : Index := Scalar.indexCast v523
  let c6_i32_574 : BitVec 32 := 6#32
  let v984 : Index := Scalar.indexCast c6_i32_574
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v985 : Index := Scalar.indexCast v808
  let c16_575 : Index := 16#32
  ![v983.toNat, 6, v985.toNat, 16]
def k0_off42 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v995 : Index := Scalar.indexCast v523
  let c7_i32_579 : BitVec 32 := 7#32
  let v996 : Index := Scalar.indexCast c7_i32_579
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v997 : Index := Scalar.indexCast v808
  let c16_580 : Index := 16#32
  ![v995.toNat, 7, v997.toNat, 16]
def k0_off43 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1007 : Index := Scalar.indexCast v523
  let c0_i32_584 : BitVec 32 := 0#32
  let v1008 : Index := Scalar.indexCast c0_i32_584
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1009 : Index := Scalar.indexCast v808
  let c32_585 : Index := 32#32
  ![v1007.toNat, 0, v1009.toNat, 32]
def k0_off44 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1019 : Index := Scalar.indexCast v523
  let c1_i32_589 : BitVec 32 := 1#32
  let v1020 : Index := Scalar.indexCast c1_i32_589
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1021 : Index := Scalar.indexCast v808
  let c32_590 : Index := 32#32
  ![v1019.toNat, 1, v1021.toNat, 32]
def k0_off45 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1031 : Index := Scalar.indexCast v523
  let c2_i32_594 : BitVec 32 := 2#32
  let v1032 : Index := Scalar.indexCast c2_i32_594
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1033 : Index := Scalar.indexCast v808
  let c32_595 : Index := 32#32
  ![v1031.toNat, 2, v1033.toNat, 32]
def k0_off46 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1043 : Index := Scalar.indexCast v523
  let c3_i32_599 : BitVec 32 := 3#32
  let v1044 : Index := Scalar.indexCast c3_i32_599
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1045 : Index := Scalar.indexCast v808
  let c32_600 : Index := 32#32
  ![v1043.toNat, 3, v1045.toNat, 32]
def k0_off47 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1055 : Index := Scalar.indexCast v523
  let c4_i32_604 : BitVec 32 := 4#32
  let v1056 : Index := Scalar.indexCast c4_i32_604
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1057 : Index := Scalar.indexCast v808
  let c32_605 : Index := 32#32
  ![v1055.toNat, 4, v1057.toNat, 32]
def k0_off48 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1067 : Index := Scalar.indexCast v523
  let c5_i32_609 : BitVec 32 := 5#32
  let v1068 : Index := Scalar.indexCast c5_i32_609
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1069 : Index := Scalar.indexCast v808
  let c32_610 : Index := 32#32
  ![v1067.toNat, 5, v1069.toNat, 32]
def k0_off49 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1079 : Index := Scalar.indexCast v523
  let c6_i32_614 : BitVec 32 := 6#32
  let v1080 : Index := Scalar.indexCast c6_i32_614
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1081 : Index := Scalar.indexCast v808
  let c32_615 : Index := 32#32
  ![v1079.toNat, 6, v1081.toNat, 32]
def k0_off50 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1091 : Index := Scalar.indexCast v523
  let c7_i32_619 : BitVec 32 := 7#32
  let v1092 : Index := Scalar.indexCast c7_i32_619
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1093 : Index := Scalar.indexCast v808
  let c32_620 : Index := 32#32
  ![v1091.toNat, 7, v1093.toNat, 32]
def k0_off51 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1103 : Index := Scalar.indexCast v523
  let c0_i32_624 : BitVec 32 := 0#32
  let v1104 : Index := Scalar.indexCast c0_i32_624
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1105 : Index := Scalar.indexCast v808
  let c48_625 : Index := 48#32
  ![v1103.toNat, 0, v1105.toNat, 48]
def k0_off52 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1115 : Index := Scalar.indexCast v523
  let c1_i32_629 : BitVec 32 := 1#32
  let v1116 : Index := Scalar.indexCast c1_i32_629
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1117 : Index := Scalar.indexCast v808
  let c48_630 : Index := 48#32
  ![v1115.toNat, 1, v1117.toNat, 48]
def k0_off53 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1127 : Index := Scalar.indexCast v523
  let c2_i32_634 : BitVec 32 := 2#32
  let v1128 : Index := Scalar.indexCast c2_i32_634
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1129 : Index := Scalar.indexCast v808
  let c48_635 : Index := 48#32
  ![v1127.toNat, 2, v1129.toNat, 48]
def k0_off54 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1139 : Index := Scalar.indexCast v523
  let c3_i32_639 : BitVec 32 := 3#32
  let v1140 : Index := Scalar.indexCast c3_i32_639
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1141 : Index := Scalar.indexCast v808
  let c48_640 : Index := 48#32
  ![v1139.toNat, 3, v1141.toNat, 48]
def k0_off55 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1151 : Index := Scalar.indexCast v523
  let c4_i32_644 : BitVec 32 := 4#32
  let v1152 : Index := Scalar.indexCast c4_i32_644
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1153 : Index := Scalar.indexCast v808
  let c48_645 : Index := 48#32
  ![v1151.toNat, 4, v1153.toNat, 48]
def k0_off56 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1163 : Index := Scalar.indexCast v523
  let c5_i32_649 : BitVec 32 := 5#32
  let v1164 : Index := Scalar.indexCast c5_i32_649
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1165 : Index := Scalar.indexCast v808
  let c48_650 : Index := 48#32
  ![v1163.toNat, 5, v1165.toNat, 48]
def k0_off57 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1175 : Index := Scalar.indexCast v523
  let c6_i32_654 : BitVec 32 := 6#32
  let v1176 : Index := Scalar.indexCast c6_i32_654
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1177 : Index := Scalar.indexCast v808
  let c48_655 : Index := 48#32
  ![v1175.toNat, 6, v1177.toNat, 48]
def k0_off58 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1187 : Index := Scalar.indexCast v523
  let c7_i32_659 : BitVec 32 := 7#32
  let v1188 : Index := Scalar.indexCast c7_i32_659
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1189 : Index := Scalar.indexCast v808
  let c48_660 : Index := 48#32
  ![v1187.toNat, 7, v1189.toNat, 48]
def k0_off59 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1199 : Index := Scalar.indexCast v523
  let c0_i32_664 : BitVec 32 := 0#32
  let v1200 : Index := Scalar.indexCast c0_i32_664
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1201 : Index := Scalar.indexCast v808
  let c64_665 : Index := 64#32
  ![v1199.toNat, 0, v1201.toNat, 64]
def k0_off60 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1211 : Index := Scalar.indexCast v523
  let c1_i32_669 : BitVec 32 := 1#32
  let v1212 : Index := Scalar.indexCast c1_i32_669
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1213 : Index := Scalar.indexCast v808
  let c64_670 : Index := 64#32
  ![v1211.toNat, 1, v1213.toNat, 64]
def k0_off61 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1223 : Index := Scalar.indexCast v523
  let c2_i32_674 : BitVec 32 := 2#32
  let v1224 : Index := Scalar.indexCast c2_i32_674
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1225 : Index := Scalar.indexCast v808
  let c64_675 : Index := 64#32
  ![v1223.toNat, 2, v1225.toNat, 64]
def k0_off62 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1235 : Index := Scalar.indexCast v523
  let c3_i32_679 : BitVec 32 := 3#32
  let v1236 : Index := Scalar.indexCast c3_i32_679
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1237 : Index := Scalar.indexCast v808
  let c64_680 : Index := 64#32
  ![v1235.toNat, 3, v1237.toNat, 64]
def k0_off63 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1247 : Index := Scalar.indexCast v523
  let c4_i32_684 : BitVec 32 := 4#32
  let v1248 : Index := Scalar.indexCast c4_i32_684
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1249 : Index := Scalar.indexCast v808
  let c64_685 : Index := 64#32
  ![v1247.toNat, 4, v1249.toNat, 64]
def k0_off64 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1259 : Index := Scalar.indexCast v523
  let c5_i32_689 : BitVec 32 := 5#32
  let v1260 : Index := Scalar.indexCast c5_i32_689
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1261 : Index := Scalar.indexCast v808
  let c64_690 : Index := 64#32
  ![v1259.toNat, 5, v1261.toNat, 64]
def k0_off65 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1271 : Index := Scalar.indexCast v523
  let c6_i32_694 : BitVec 32 := 6#32
  let v1272 : Index := Scalar.indexCast c6_i32_694
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1273 : Index := Scalar.indexCast v808
  let c64_695 : Index := 64#32
  ![v1271.toNat, 6, v1273.toNat, 64]
def k0_off66 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1283 : Index := Scalar.indexCast v523
  let c7_i32_699 : BitVec 32 := 7#32
  let v1284 : Index := Scalar.indexCast c7_i32_699
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1285 : Index := Scalar.indexCast v808
  let c64_700 : Index := 64#32
  ![v1283.toNat, 7, v1285.toNat, 64]
def k0_off67 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1295 : Index := Scalar.indexCast v523
  let c0_i32_704 : BitVec 32 := 0#32
  let v1296 : Index := Scalar.indexCast c0_i32_704
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1297 : Index := Scalar.indexCast v808
  let c80_705 : Index := 80#32
  ![v1295.toNat, 0, v1297.toNat, 80]
def k0_off68 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1307 : Index := Scalar.indexCast v523
  let c1_i32_709 : BitVec 32 := 1#32
  let v1308 : Index := Scalar.indexCast c1_i32_709
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1309 : Index := Scalar.indexCast v808
  let c80_710 : Index := 80#32
  ![v1307.toNat, 1, v1309.toNat, 80]
def k0_off69 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1319 : Index := Scalar.indexCast v523
  let c2_i32_714 : BitVec 32 := 2#32
  let v1320 : Index := Scalar.indexCast c2_i32_714
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1321 : Index := Scalar.indexCast v808
  let c80_715 : Index := 80#32
  ![v1319.toNat, 2, v1321.toNat, 80]
def k0_off70 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1331 : Index := Scalar.indexCast v523
  let c3_i32_719 : BitVec 32 := 3#32
  let v1332 : Index := Scalar.indexCast c3_i32_719
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1333 : Index := Scalar.indexCast v808
  let c80_720 : Index := 80#32
  ![v1331.toNat, 3, v1333.toNat, 80]
def k0_off71 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1343 : Index := Scalar.indexCast v523
  let c4_i32_724 : BitVec 32 := 4#32
  let v1344 : Index := Scalar.indexCast c4_i32_724
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1345 : Index := Scalar.indexCast v808
  let c80_725 : Index := 80#32
  ![v1343.toNat, 4, v1345.toNat, 80]
def k0_off72 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1355 : Index := Scalar.indexCast v523
  let c5_i32_729 : BitVec 32 := 5#32
  let v1356 : Index := Scalar.indexCast c5_i32_729
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1357 : Index := Scalar.indexCast v808
  let c80_730 : Index := 80#32
  ![v1355.toNat, 5, v1357.toNat, 80]
def k0_off73 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1367 : Index := Scalar.indexCast v523
  let c6_i32_734 : BitVec 32 := 6#32
  let v1368 : Index := Scalar.indexCast c6_i32_734
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1369 : Index := Scalar.indexCast v808
  let c80_735 : Index := 80#32
  ![v1367.toNat, 6, v1369.toNat, 80]
def k0_off74 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1379 : Index := Scalar.indexCast v523
  let c7_i32_739 : BitVec 32 := 7#32
  let v1380 : Index := Scalar.indexCast c7_i32_739
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1381 : Index := Scalar.indexCast v808
  let c80_740 : Index := 80#32
  ![v1379.toNat, 7, v1381.toNat, 80]
def k0_off75 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1391 : Index := Scalar.indexCast v523
  let c0_i32_744 : BitVec 32 := 0#32
  let v1392 : Index := Scalar.indexCast c0_i32_744
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1393 : Index := Scalar.indexCast v808
  let c96_745 : Index := 96#32
  ![v1391.toNat, 0, v1393.toNat, 96]
def k0_off76 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1403 : Index := Scalar.indexCast v523
  let c1_i32_749 : BitVec 32 := 1#32
  let v1404 : Index := Scalar.indexCast c1_i32_749
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1405 : Index := Scalar.indexCast v808
  let c96_750 : Index := 96#32
  ![v1403.toNat, 1, v1405.toNat, 96]
def k0_off77 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1415 : Index := Scalar.indexCast v523
  let c2_i32_754 : BitVec 32 := 2#32
  let v1416 : Index := Scalar.indexCast c2_i32_754
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1417 : Index := Scalar.indexCast v808
  let c96_755 : Index := 96#32
  ![v1415.toNat, 2, v1417.toNat, 96]
def k0_off78 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1427 : Index := Scalar.indexCast v523
  let c3_i32_759 : BitVec 32 := 3#32
  let v1428 : Index := Scalar.indexCast c3_i32_759
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1429 : Index := Scalar.indexCast v808
  let c96_760 : Index := 96#32
  ![v1427.toNat, 3, v1429.toNat, 96]
def k0_off79 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1439 : Index := Scalar.indexCast v523
  let c4_i32_764 : BitVec 32 := 4#32
  let v1440 : Index := Scalar.indexCast c4_i32_764
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1441 : Index := Scalar.indexCast v808
  let c96_765 : Index := 96#32
  ![v1439.toNat, 4, v1441.toNat, 96]
def k0_off80 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1451 : Index := Scalar.indexCast v523
  let c5_i32_769 : BitVec 32 := 5#32
  let v1452 : Index := Scalar.indexCast c5_i32_769
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1453 : Index := Scalar.indexCast v808
  let c96_770 : Index := 96#32
  ![v1451.toNat, 5, v1453.toNat, 96]
def k0_off81 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1463 : Index := Scalar.indexCast v523
  let c6_i32_774 : BitVec 32 := 6#32
  let v1464 : Index := Scalar.indexCast c6_i32_774
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1465 : Index := Scalar.indexCast v808
  let c96_775 : Index := 96#32
  ![v1463.toNat, 6, v1465.toNat, 96]
def k0_off82 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1475 : Index := Scalar.indexCast v523
  let c7_i32_779 : BitVec 32 := 7#32
  let v1476 : Index := Scalar.indexCast c7_i32_779
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1477 : Index := Scalar.indexCast v808
  let c96_780 : Index := 96#32
  ![v1475.toNat, 7, v1477.toNat, 96]
def k0_off83 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1487 : Index := Scalar.indexCast v523
  let c0_i32_784 : BitVec 32 := 0#32
  let v1488 : Index := Scalar.indexCast c0_i32_784
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1489 : Index := Scalar.indexCast v808
  let c112_785 : Index := 112#32
  ![v1487.toNat, 0, v1489.toNat, 112]
def k0_off84 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1499 : Index := Scalar.indexCast v523
  let c1_i32_789 : BitVec 32 := 1#32
  let v1500 : Index := Scalar.indexCast c1_i32_789
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1501 : Index := Scalar.indexCast v808
  let c112_790 : Index := 112#32
  ![v1499.toNat, 1, v1501.toNat, 112]
def k0_off85 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1511 : Index := Scalar.indexCast v523
  let c2_i32_794 : BitVec 32 := 2#32
  let v1512 : Index := Scalar.indexCast c2_i32_794
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1513 : Index := Scalar.indexCast v808
  let c112_795 : Index := 112#32
  ![v1511.toNat, 2, v1513.toNat, 112]
def k0_off86 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1523 : Index := Scalar.indexCast v523
  let c3_i32_799 : BitVec 32 := 3#32
  let v1524 : Index := Scalar.indexCast c3_i32_799
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1525 : Index := Scalar.indexCast v808
  let c112_800 : Index := 112#32
  ![v1523.toNat, 3, v1525.toNat, 112]
def k0_off87 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1535 : Index := Scalar.indexCast v523
  let c4_i32_804 : BitVec 32 := 4#32
  let v1536 : Index := Scalar.indexCast c4_i32_804
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1537 : Index := Scalar.indexCast v808
  let c112_805 : Index := 112#32
  ![v1535.toNat, 4, v1537.toNat, 112]
def k0_off88 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1547 : Index := Scalar.indexCast v523
  let c5_i32_809 : BitVec 32 := 5#32
  let v1548 : Index := Scalar.indexCast c5_i32_809
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1549 : Index := Scalar.indexCast v808
  let c112_810 : Index := 112#32
  ![v1547.toNat, 5, v1549.toNat, 112]
def k0_off89 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1559 : Index := Scalar.indexCast v523
  let c6_i32_814 : BitVec 32 := 6#32
  let v1560 : Index := Scalar.indexCast c6_i32_814
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1561 : Index := Scalar.indexCast v808
  let c112_815 : Index := 112#32
  ![v1559.toNat, 6, v1561.toNat, 112]
def k0_off90 (k0_t2 : Fin k0_t2_loop.trips) (k0_t4 : Fin k0_t4_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let v1571 : Index := Scalar.indexCast v523
  let c7_i32_819 : BitVec 32 := 7#32
  let v1572 : Index := Scalar.indexCast c7_i32_819
  let c0_i32_508 : BitVec 32 := 0#32
  let c0_i32_349 : BitVec 32 := 0#32
  let c1_i32_351 : BitVec 32 := 1#32
  let arg10 : BitVec 32 := Scf.iv c0_i32_349 c1_i32_351 k0_t4
  let c1_i32_507 : BitVec 32 := 1#32
  let v807 : BitVec 32 := Scalar.muli arg10 c1_i32_507
  let v808 : BitVec 32 := Scalar.addi c0_i32_508 v807
  let v1573 : Index := Scalar.indexCast v808
  let c112_820 : Index := 112#32
  ![v1571.toNat, 7, v1573.toNat, 112]
def k0_mult9 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c1_i32_353 : BitVec 32 := 1#32
  let v538 : BitVec 32 := Scalar.subi v521 c1_i32_353
  let c0_i32_355 : BitVec 32 := 0#32
  let v540 : BitVec 1 := Scalar.cmpi .sgt v538 c0_i32_355
  let v541 : BitVec 32 := Scalar.extui v540
  let c0_i32_356 : BitVec 32 := 0#32
  let v542 : BitVec 1 := Scalar.cmpi .slt v538 c0_i32_356
  let v543 : BitVec 32 := Scalar.extui v542
  let v544 : BitVec 32 := Scalar.subi v541 v543
  let c16_i32_354 : BitVec 32 := 16#32
  let c0_i32_357 : BitVec 32 := 0#32
  let v545 : BitVec 1 := Scalar.cmpi .sgt c16_i32_354 c0_i32_357
  let v546 : BitVec 32 := Scalar.extui v545
  let c0_i32_358 : BitVec 32 := 0#32
  let v547 : BitVec 1 := Scalar.cmpi .slt c16_i32_354 c0_i32_358
  let v548 : BitVec 32 := Scalar.extui v547
  let v549 : BitVec 32 := Scalar.subi v546 v548
  let v550 : BitVec 1 := Scalar.cmpi .ne v544 v549
  let v551 : BitVec 32 := Scalar.remsi v538 c16_i32_354
  let c0_i32_359 : BitVec 32 := 0#32
  let v552 : BitVec 1 := Scalar.cmpi .ne v551 c0_i32_359
  let v553 : BitVec 1 := Scalar.andi v550 v552
  let v539 : BitVec 32 := Scalar.divsi v538 c16_i32_354
  let c1_i32_360 : BitVec 32 := 1#32
  let v554 : BitVec 32 := Scalar.subi v539 c1_i32_360
  let v555 : BitVec 32 := Scalar.select v553 v554 v539
  let v556 : BitVec 32 := Scalar.addi v2 v555
  let c8_i32_363 : BitVec 32 := 8#32
  let v559 : BitVec 32 := Scalar.muli v556 c8_i32_363
  let c0_i32_364 : BitVec 32 := 0#32
  let v560 : BitVec 32 := Scalar.addi v559 c0_i32_364
  let c2048_i32_365 : BitVec 32 := 2048#32
  let v561 : BitVec 32 := Scalar.muli v560 c2048_i32_365
  let c16_i32_361 : BitVec 32 := 16#32
  let v557 : BitVec 32 := Scalar.remsi v538 c16_i32_361
  let c128_i32_362 : BitVec 32 := 128#32
  let v558 : BitVec 32 := Scalar.muli v557 c128_i32_362
  let v562 : BitVec 32 := Scalar.addi v561 v558
  let c16_i32_366 : BitVec 32 := 16#32
  let v563 : BitVec 32 := Scalar.muli v562 c16_i32_366
  let c0_i32_368 : BitVec 32 := 0#32
  let v565 : BitVec 1 := Scalar.cmpi .sgt v563 c0_i32_368
  let v566 : BitVec 32 := Scalar.extui v565
  let c0_i32_369 : BitVec 32 := 0#32
  let v567 : BitVec 1 := Scalar.cmpi .slt v563 c0_i32_369
  let v568 : BitVec 32 := Scalar.extui v567
  let v569 : BitVec 32 := Scalar.subi v566 v568
  let c128_i32_367 : BitVec 32 := 128#32
  let c0_i32_370 : BitVec 32 := 0#32
  let v570 : BitVec 1 := Scalar.cmpi .sgt c128_i32_367 c0_i32_370
  let v571 : BitVec 32 := Scalar.extui v570
  let c0_i32_371 : BitVec 32 := 0#32
  let v572 : BitVec 1 := Scalar.cmpi .slt c128_i32_367 c0_i32_371
  let v573 : BitVec 32 := Scalar.extui v572
  let v574 : BitVec 32 := Scalar.subi v571 v573
  let v575 : BitVec 1 := Scalar.cmpi .ne v569 v574
  let v576 : BitVec 32 := Scalar.remsi v563 c128_i32_367
  let c0_i32_372 : BitVec 32 := 0#32
  let v577 : BitVec 1 := Scalar.cmpi .ne v576 c0_i32_372
  let v578 : BitVec 1 := Scalar.andi v575 v577
  let v564 : BitVec 32 := Scalar.divsi v563 c128_i32_367
  let c1_i32_373 : BitVec 32 := 1#32
  let v579 : BitVec 32 := Scalar.subi v564 c1_i32_373
  let v580 : BitVec 32 := Scalar.select v578 v579 v564
  v580
def k0_mult10 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c1_i32_353 : BitVec 32 := 1#32
  let v538 : BitVec 32 := Scalar.subi v521 c1_i32_353
  let c0_i32_355 : BitVec 32 := 0#32
  let v540 : BitVec 1 := Scalar.cmpi .sgt v538 c0_i32_355
  let v541 : BitVec 32 := Scalar.extui v540
  let c0_i32_356 : BitVec 32 := 0#32
  let v542 : BitVec 1 := Scalar.cmpi .slt v538 c0_i32_356
  let v543 : BitVec 32 := Scalar.extui v542
  let v544 : BitVec 32 := Scalar.subi v541 v543
  let c16_i32_354 : BitVec 32 := 16#32
  let c0_i32_357 : BitVec 32 := 0#32
  let v545 : BitVec 1 := Scalar.cmpi .sgt c16_i32_354 c0_i32_357
  let v546 : BitVec 32 := Scalar.extui v545
  let c0_i32_358 : BitVec 32 := 0#32
  let v547 : BitVec 1 := Scalar.cmpi .slt c16_i32_354 c0_i32_358
  let v548 : BitVec 32 := Scalar.extui v547
  let v549 : BitVec 32 := Scalar.subi v546 v548
  let v550 : BitVec 1 := Scalar.cmpi .ne v544 v549
  let v551 : BitVec 32 := Scalar.remsi v538 c16_i32_354
  let c0_i32_359 : BitVec 32 := 0#32
  let v552 : BitVec 1 := Scalar.cmpi .ne v551 c0_i32_359
  let v553 : BitVec 1 := Scalar.andi v550 v552
  let v539 : BitVec 32 := Scalar.divsi v538 c16_i32_354
  let c1_i32_360 : BitVec 32 := 1#32
  let v554 : BitVec 32 := Scalar.subi v539 c1_i32_360
  let v555 : BitVec 32 := Scalar.select v553 v554 v539
  let v556 : BitVec 32 := Scalar.addi v2 v555
  let c8_i32_374 : BitVec 32 := 8#32
  let v582 : BitVec 32 := Scalar.muli v556 c8_i32_374
  let c1_i32_375 : BitVec 32 := 1#32
  let v583 : BitVec 32 := Scalar.addi v582 c1_i32_375
  let c2048_i32_376 : BitVec 32 := 2048#32
  let v584 : BitVec 32 := Scalar.muli v583 c2048_i32_376
  let c16_i32_361 : BitVec 32 := 16#32
  let v557 : BitVec 32 := Scalar.remsi v538 c16_i32_361
  let c128_i32_362 : BitVec 32 := 128#32
  let v558 : BitVec 32 := Scalar.muli v557 c128_i32_362
  let v585 : BitVec 32 := Scalar.addi v584 v558
  let c16_i32_377 : BitVec 32 := 16#32
  let v586 : BitVec 32 := Scalar.muli v585 c16_i32_377
  let c0_i32_379 : BitVec 32 := 0#32
  let v588 : BitVec 1 := Scalar.cmpi .sgt v586 c0_i32_379
  let v589 : BitVec 32 := Scalar.extui v588
  let c0_i32_380 : BitVec 32 := 0#32
  let v590 : BitVec 1 := Scalar.cmpi .slt v586 c0_i32_380
  let v591 : BitVec 32 := Scalar.extui v590
  let v592 : BitVec 32 := Scalar.subi v589 v591
  let c128_i32_378 : BitVec 32 := 128#32
  let c0_i32_381 : BitVec 32 := 0#32
  let v593 : BitVec 1 := Scalar.cmpi .sgt c128_i32_378 c0_i32_381
  let v594 : BitVec 32 := Scalar.extui v593
  let c0_i32_382 : BitVec 32 := 0#32
  let v595 : BitVec 1 := Scalar.cmpi .slt c128_i32_378 c0_i32_382
  let v596 : BitVec 32 := Scalar.extui v595
  let v597 : BitVec 32 := Scalar.subi v594 v596
  let v598 : BitVec 1 := Scalar.cmpi .ne v592 v597
  let v599 : BitVec 32 := Scalar.remsi v586 c128_i32_378
  let c0_i32_383 : BitVec 32 := 0#32
  let v600 : BitVec 1 := Scalar.cmpi .ne v599 c0_i32_383
  let v601 : BitVec 1 := Scalar.andi v598 v600
  let v587 : BitVec 32 := Scalar.divsi v586 c128_i32_378
  let c1_i32_384 : BitVec 32 := 1#32
  let v602 : BitVec 32 := Scalar.subi v587 c1_i32_384
  let v603 : BitVec 32 := Scalar.select v601 v602 v587
  v603
def k0_mult11 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c1_i32_353 : BitVec 32 := 1#32
  let v538 : BitVec 32 := Scalar.subi v521 c1_i32_353
  let c0_i32_355 : BitVec 32 := 0#32
  let v540 : BitVec 1 := Scalar.cmpi .sgt v538 c0_i32_355
  let v541 : BitVec 32 := Scalar.extui v540
  let c0_i32_356 : BitVec 32 := 0#32
  let v542 : BitVec 1 := Scalar.cmpi .slt v538 c0_i32_356
  let v543 : BitVec 32 := Scalar.extui v542
  let v544 : BitVec 32 := Scalar.subi v541 v543
  let c16_i32_354 : BitVec 32 := 16#32
  let c0_i32_357 : BitVec 32 := 0#32
  let v545 : BitVec 1 := Scalar.cmpi .sgt c16_i32_354 c0_i32_357
  let v546 : BitVec 32 := Scalar.extui v545
  let c0_i32_358 : BitVec 32 := 0#32
  let v547 : BitVec 1 := Scalar.cmpi .slt c16_i32_354 c0_i32_358
  let v548 : BitVec 32 := Scalar.extui v547
  let v549 : BitVec 32 := Scalar.subi v546 v548
  let v550 : BitVec 1 := Scalar.cmpi .ne v544 v549
  let v551 : BitVec 32 := Scalar.remsi v538 c16_i32_354
  let c0_i32_359 : BitVec 32 := 0#32
  let v552 : BitVec 1 := Scalar.cmpi .ne v551 c0_i32_359
  let v553 : BitVec 1 := Scalar.andi v550 v552
  let v539 : BitVec 32 := Scalar.divsi v538 c16_i32_354
  let c1_i32_360 : BitVec 32 := 1#32
  let v554 : BitVec 32 := Scalar.subi v539 c1_i32_360
  let v555 : BitVec 32 := Scalar.select v553 v554 v539
  let v556 : BitVec 32 := Scalar.addi v2 v555
  let c8_i32_385 : BitVec 32 := 8#32
  let v605 : BitVec 32 := Scalar.muli v556 c8_i32_385
  let c2_i32_386 : BitVec 32 := 2#32
  let v606 : BitVec 32 := Scalar.addi v605 c2_i32_386
  let c2048_i32_387 : BitVec 32 := 2048#32
  let v607 : BitVec 32 := Scalar.muli v606 c2048_i32_387
  let c16_i32_361 : BitVec 32 := 16#32
  let v557 : BitVec 32 := Scalar.remsi v538 c16_i32_361
  let c128_i32_362 : BitVec 32 := 128#32
  let v558 : BitVec 32 := Scalar.muli v557 c128_i32_362
  let v608 : BitVec 32 := Scalar.addi v607 v558
  let c16_i32_388 : BitVec 32 := 16#32
  let v609 : BitVec 32 := Scalar.muli v608 c16_i32_388
  let c0_i32_390 : BitVec 32 := 0#32
  let v611 : BitVec 1 := Scalar.cmpi .sgt v609 c0_i32_390
  let v612 : BitVec 32 := Scalar.extui v611
  let c0_i32_391 : BitVec 32 := 0#32
  let v613 : BitVec 1 := Scalar.cmpi .slt v609 c0_i32_391
  let v614 : BitVec 32 := Scalar.extui v613
  let v615 : BitVec 32 := Scalar.subi v612 v614
  let c128_i32_389 : BitVec 32 := 128#32
  let c0_i32_392 : BitVec 32 := 0#32
  let v616 : BitVec 1 := Scalar.cmpi .sgt c128_i32_389 c0_i32_392
  let v617 : BitVec 32 := Scalar.extui v616
  let c0_i32_393 : BitVec 32 := 0#32
  let v618 : BitVec 1 := Scalar.cmpi .slt c128_i32_389 c0_i32_393
  let v619 : BitVec 32 := Scalar.extui v618
  let v620 : BitVec 32 := Scalar.subi v617 v619
  let v621 : BitVec 1 := Scalar.cmpi .ne v615 v620
  let v622 : BitVec 32 := Scalar.remsi v609 c128_i32_389
  let c0_i32_394 : BitVec 32 := 0#32
  let v623 : BitVec 1 := Scalar.cmpi .ne v622 c0_i32_394
  let v624 : BitVec 1 := Scalar.andi v621 v623
  let v610 : BitVec 32 := Scalar.divsi v609 c128_i32_389
  let c1_i32_395 : BitVec 32 := 1#32
  let v625 : BitVec 32 := Scalar.subi v610 c1_i32_395
  let v626 : BitVec 32 := Scalar.select v624 v625 v610
  v626
def k0_mult12 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c1_i32_353 : BitVec 32 := 1#32
  let v538 : BitVec 32 := Scalar.subi v521 c1_i32_353
  let c0_i32_355 : BitVec 32 := 0#32
  let v540 : BitVec 1 := Scalar.cmpi .sgt v538 c0_i32_355
  let v541 : BitVec 32 := Scalar.extui v540
  let c0_i32_356 : BitVec 32 := 0#32
  let v542 : BitVec 1 := Scalar.cmpi .slt v538 c0_i32_356
  let v543 : BitVec 32 := Scalar.extui v542
  let v544 : BitVec 32 := Scalar.subi v541 v543
  let c16_i32_354 : BitVec 32 := 16#32
  let c0_i32_357 : BitVec 32 := 0#32
  let v545 : BitVec 1 := Scalar.cmpi .sgt c16_i32_354 c0_i32_357
  let v546 : BitVec 32 := Scalar.extui v545
  let c0_i32_358 : BitVec 32 := 0#32
  let v547 : BitVec 1 := Scalar.cmpi .slt c16_i32_354 c0_i32_358
  let v548 : BitVec 32 := Scalar.extui v547
  let v549 : BitVec 32 := Scalar.subi v546 v548
  let v550 : BitVec 1 := Scalar.cmpi .ne v544 v549
  let v551 : BitVec 32 := Scalar.remsi v538 c16_i32_354
  let c0_i32_359 : BitVec 32 := 0#32
  let v552 : BitVec 1 := Scalar.cmpi .ne v551 c0_i32_359
  let v553 : BitVec 1 := Scalar.andi v550 v552
  let v539 : BitVec 32 := Scalar.divsi v538 c16_i32_354
  let c1_i32_360 : BitVec 32 := 1#32
  let v554 : BitVec 32 := Scalar.subi v539 c1_i32_360
  let v555 : BitVec 32 := Scalar.select v553 v554 v539
  let v556 : BitVec 32 := Scalar.addi v2 v555
  let c8_i32_396 : BitVec 32 := 8#32
  let v628 : BitVec 32 := Scalar.muli v556 c8_i32_396
  let c3_i32_397 : BitVec 32 := 3#32
  let v629 : BitVec 32 := Scalar.addi v628 c3_i32_397
  let c2048_i32_398 : BitVec 32 := 2048#32
  let v630 : BitVec 32 := Scalar.muli v629 c2048_i32_398
  let c16_i32_361 : BitVec 32 := 16#32
  let v557 : BitVec 32 := Scalar.remsi v538 c16_i32_361
  let c128_i32_362 : BitVec 32 := 128#32
  let v558 : BitVec 32 := Scalar.muli v557 c128_i32_362
  let v631 : BitVec 32 := Scalar.addi v630 v558
  let c16_i32_399 : BitVec 32 := 16#32
  let v632 : BitVec 32 := Scalar.muli v631 c16_i32_399
  let c0_i32_401 : BitVec 32 := 0#32
  let v634 : BitVec 1 := Scalar.cmpi .sgt v632 c0_i32_401
  let v635 : BitVec 32 := Scalar.extui v634
  let c0_i32_402 : BitVec 32 := 0#32
  let v636 : BitVec 1 := Scalar.cmpi .slt v632 c0_i32_402
  let v637 : BitVec 32 := Scalar.extui v636
  let v638 : BitVec 32 := Scalar.subi v635 v637
  let c128_i32_400 : BitVec 32 := 128#32
  let c0_i32_403 : BitVec 32 := 0#32
  let v639 : BitVec 1 := Scalar.cmpi .sgt c128_i32_400 c0_i32_403
  let v640 : BitVec 32 := Scalar.extui v639
  let c0_i32_404 : BitVec 32 := 0#32
  let v641 : BitVec 1 := Scalar.cmpi .slt c128_i32_400 c0_i32_404
  let v642 : BitVec 32 := Scalar.extui v641
  let v643 : BitVec 32 := Scalar.subi v640 v642
  let v644 : BitVec 1 := Scalar.cmpi .ne v638 v643
  let v645 : BitVec 32 := Scalar.remsi v632 c128_i32_400
  let c0_i32_405 : BitVec 32 := 0#32
  let v646 : BitVec 1 := Scalar.cmpi .ne v645 c0_i32_405
  let v647 : BitVec 1 := Scalar.andi v644 v646
  let v633 : BitVec 32 := Scalar.divsi v632 c128_i32_400
  let c1_i32_406 : BitVec 32 := 1#32
  let v648 : BitVec 32 := Scalar.subi v633 c1_i32_406
  let v649 : BitVec 32 := Scalar.select v647 v648 v633
  v649
def k0_mult13 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c1_i32_353 : BitVec 32 := 1#32
  let v538 : BitVec 32 := Scalar.subi v521 c1_i32_353
  let c0_i32_355 : BitVec 32 := 0#32
  let v540 : BitVec 1 := Scalar.cmpi .sgt v538 c0_i32_355
  let v541 : BitVec 32 := Scalar.extui v540
  let c0_i32_356 : BitVec 32 := 0#32
  let v542 : BitVec 1 := Scalar.cmpi .slt v538 c0_i32_356
  let v543 : BitVec 32 := Scalar.extui v542
  let v544 : BitVec 32 := Scalar.subi v541 v543
  let c16_i32_354 : BitVec 32 := 16#32
  let c0_i32_357 : BitVec 32 := 0#32
  let v545 : BitVec 1 := Scalar.cmpi .sgt c16_i32_354 c0_i32_357
  let v546 : BitVec 32 := Scalar.extui v545
  let c0_i32_358 : BitVec 32 := 0#32
  let v547 : BitVec 1 := Scalar.cmpi .slt c16_i32_354 c0_i32_358
  let v548 : BitVec 32 := Scalar.extui v547
  let v549 : BitVec 32 := Scalar.subi v546 v548
  let v550 : BitVec 1 := Scalar.cmpi .ne v544 v549
  let v551 : BitVec 32 := Scalar.remsi v538 c16_i32_354
  let c0_i32_359 : BitVec 32 := 0#32
  let v552 : BitVec 1 := Scalar.cmpi .ne v551 c0_i32_359
  let v553 : BitVec 1 := Scalar.andi v550 v552
  let v539 : BitVec 32 := Scalar.divsi v538 c16_i32_354
  let c1_i32_360 : BitVec 32 := 1#32
  let v554 : BitVec 32 := Scalar.subi v539 c1_i32_360
  let v555 : BitVec 32 := Scalar.select v553 v554 v539
  let v556 : BitVec 32 := Scalar.addi v2 v555
  let c8_i32_407 : BitVec 32 := 8#32
  let v651 : BitVec 32 := Scalar.muli v556 c8_i32_407
  let c4_i32_408 : BitVec 32 := 4#32
  let v652 : BitVec 32 := Scalar.addi v651 c4_i32_408
  let c2048_i32_409 : BitVec 32 := 2048#32
  let v653 : BitVec 32 := Scalar.muli v652 c2048_i32_409
  let c16_i32_361 : BitVec 32 := 16#32
  let v557 : BitVec 32 := Scalar.remsi v538 c16_i32_361
  let c128_i32_362 : BitVec 32 := 128#32
  let v558 : BitVec 32 := Scalar.muli v557 c128_i32_362
  let v654 : BitVec 32 := Scalar.addi v653 v558
  let c16_i32_410 : BitVec 32 := 16#32
  let v655 : BitVec 32 := Scalar.muli v654 c16_i32_410
  let c0_i32_412 : BitVec 32 := 0#32
  let v657 : BitVec 1 := Scalar.cmpi .sgt v655 c0_i32_412
  let v658 : BitVec 32 := Scalar.extui v657
  let c0_i32_413 : BitVec 32 := 0#32
  let v659 : BitVec 1 := Scalar.cmpi .slt v655 c0_i32_413
  let v660 : BitVec 32 := Scalar.extui v659
  let v661 : BitVec 32 := Scalar.subi v658 v660
  let c128_i32_411 : BitVec 32 := 128#32
  let c0_i32_414 : BitVec 32 := 0#32
  let v662 : BitVec 1 := Scalar.cmpi .sgt c128_i32_411 c0_i32_414
  let v663 : BitVec 32 := Scalar.extui v662
  let c0_i32_415 : BitVec 32 := 0#32
  let v664 : BitVec 1 := Scalar.cmpi .slt c128_i32_411 c0_i32_415
  let v665 : BitVec 32 := Scalar.extui v664
  let v666 : BitVec 32 := Scalar.subi v663 v665
  let v667 : BitVec 1 := Scalar.cmpi .ne v661 v666
  let v668 : BitVec 32 := Scalar.remsi v655 c128_i32_411
  let c0_i32_416 : BitVec 32 := 0#32
  let v669 : BitVec 1 := Scalar.cmpi .ne v668 c0_i32_416
  let v670 : BitVec 1 := Scalar.andi v667 v669
  let v656 : BitVec 32 := Scalar.divsi v655 c128_i32_411
  let c1_i32_417 : BitVec 32 := 1#32
  let v671 : BitVec 32 := Scalar.subi v656 c1_i32_417
  let v672 : BitVec 32 := Scalar.select v670 v671 v656
  v672
def k0_mult14 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c1_i32_353 : BitVec 32 := 1#32
  let v538 : BitVec 32 := Scalar.subi v521 c1_i32_353
  let c0_i32_355 : BitVec 32 := 0#32
  let v540 : BitVec 1 := Scalar.cmpi .sgt v538 c0_i32_355
  let v541 : BitVec 32 := Scalar.extui v540
  let c0_i32_356 : BitVec 32 := 0#32
  let v542 : BitVec 1 := Scalar.cmpi .slt v538 c0_i32_356
  let v543 : BitVec 32 := Scalar.extui v542
  let v544 : BitVec 32 := Scalar.subi v541 v543
  let c16_i32_354 : BitVec 32 := 16#32
  let c0_i32_357 : BitVec 32 := 0#32
  let v545 : BitVec 1 := Scalar.cmpi .sgt c16_i32_354 c0_i32_357
  let v546 : BitVec 32 := Scalar.extui v545
  let c0_i32_358 : BitVec 32 := 0#32
  let v547 : BitVec 1 := Scalar.cmpi .slt c16_i32_354 c0_i32_358
  let v548 : BitVec 32 := Scalar.extui v547
  let v549 : BitVec 32 := Scalar.subi v546 v548
  let v550 : BitVec 1 := Scalar.cmpi .ne v544 v549
  let v551 : BitVec 32 := Scalar.remsi v538 c16_i32_354
  let c0_i32_359 : BitVec 32 := 0#32
  let v552 : BitVec 1 := Scalar.cmpi .ne v551 c0_i32_359
  let v553 : BitVec 1 := Scalar.andi v550 v552
  let v539 : BitVec 32 := Scalar.divsi v538 c16_i32_354
  let c1_i32_360 : BitVec 32 := 1#32
  let v554 : BitVec 32 := Scalar.subi v539 c1_i32_360
  let v555 : BitVec 32 := Scalar.select v553 v554 v539
  let v556 : BitVec 32 := Scalar.addi v2 v555
  let c8_i32_418 : BitVec 32 := 8#32
  let v674 : BitVec 32 := Scalar.muli v556 c8_i32_418
  let c5_i32_419 : BitVec 32 := 5#32
  let v675 : BitVec 32 := Scalar.addi v674 c5_i32_419
  let c2048_i32_420 : BitVec 32 := 2048#32
  let v676 : BitVec 32 := Scalar.muli v675 c2048_i32_420
  let c16_i32_361 : BitVec 32 := 16#32
  let v557 : BitVec 32 := Scalar.remsi v538 c16_i32_361
  let c128_i32_362 : BitVec 32 := 128#32
  let v558 : BitVec 32 := Scalar.muli v557 c128_i32_362
  let v677 : BitVec 32 := Scalar.addi v676 v558
  let c16_i32_421 : BitVec 32 := 16#32
  let v678 : BitVec 32 := Scalar.muli v677 c16_i32_421
  let c0_i32_423 : BitVec 32 := 0#32
  let v680 : BitVec 1 := Scalar.cmpi .sgt v678 c0_i32_423
  let v681 : BitVec 32 := Scalar.extui v680
  let c0_i32_424 : BitVec 32 := 0#32
  let v682 : BitVec 1 := Scalar.cmpi .slt v678 c0_i32_424
  let v683 : BitVec 32 := Scalar.extui v682
  let v684 : BitVec 32 := Scalar.subi v681 v683
  let c128_i32_422 : BitVec 32 := 128#32
  let c0_i32_425 : BitVec 32 := 0#32
  let v685 : BitVec 1 := Scalar.cmpi .sgt c128_i32_422 c0_i32_425
  let v686 : BitVec 32 := Scalar.extui v685
  let c0_i32_426 : BitVec 32 := 0#32
  let v687 : BitVec 1 := Scalar.cmpi .slt c128_i32_422 c0_i32_426
  let v688 : BitVec 32 := Scalar.extui v687
  let v689 : BitVec 32 := Scalar.subi v686 v688
  let v690 : BitVec 1 := Scalar.cmpi .ne v684 v689
  let v691 : BitVec 32 := Scalar.remsi v678 c128_i32_422
  let c0_i32_427 : BitVec 32 := 0#32
  let v692 : BitVec 1 := Scalar.cmpi .ne v691 c0_i32_427
  let v693 : BitVec 1 := Scalar.andi v690 v692
  let v679 : BitVec 32 := Scalar.divsi v678 c128_i32_422
  let c1_i32_428 : BitVec 32 := 1#32
  let v694 : BitVec 32 := Scalar.subi v679 c1_i32_428
  let v695 : BitVec 32 := Scalar.select v693 v694 v679
  v695
def k0_mult15 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c1_i32_353 : BitVec 32 := 1#32
  let v538 : BitVec 32 := Scalar.subi v521 c1_i32_353
  let c0_i32_355 : BitVec 32 := 0#32
  let v540 : BitVec 1 := Scalar.cmpi .sgt v538 c0_i32_355
  let v541 : BitVec 32 := Scalar.extui v540
  let c0_i32_356 : BitVec 32 := 0#32
  let v542 : BitVec 1 := Scalar.cmpi .slt v538 c0_i32_356
  let v543 : BitVec 32 := Scalar.extui v542
  let v544 : BitVec 32 := Scalar.subi v541 v543
  let c16_i32_354 : BitVec 32 := 16#32
  let c0_i32_357 : BitVec 32 := 0#32
  let v545 : BitVec 1 := Scalar.cmpi .sgt c16_i32_354 c0_i32_357
  let v546 : BitVec 32 := Scalar.extui v545
  let c0_i32_358 : BitVec 32 := 0#32
  let v547 : BitVec 1 := Scalar.cmpi .slt c16_i32_354 c0_i32_358
  let v548 : BitVec 32 := Scalar.extui v547
  let v549 : BitVec 32 := Scalar.subi v546 v548
  let v550 : BitVec 1 := Scalar.cmpi .ne v544 v549
  let v551 : BitVec 32 := Scalar.remsi v538 c16_i32_354
  let c0_i32_359 : BitVec 32 := 0#32
  let v552 : BitVec 1 := Scalar.cmpi .ne v551 c0_i32_359
  let v553 : BitVec 1 := Scalar.andi v550 v552
  let v539 : BitVec 32 := Scalar.divsi v538 c16_i32_354
  let c1_i32_360 : BitVec 32 := 1#32
  let v554 : BitVec 32 := Scalar.subi v539 c1_i32_360
  let v555 : BitVec 32 := Scalar.select v553 v554 v539
  let v556 : BitVec 32 := Scalar.addi v2 v555
  let c8_i32_429 : BitVec 32 := 8#32
  let v697 : BitVec 32 := Scalar.muli v556 c8_i32_429
  let c6_i32_430 : BitVec 32 := 6#32
  let v698 : BitVec 32 := Scalar.addi v697 c6_i32_430
  let c2048_i32_431 : BitVec 32 := 2048#32
  let v699 : BitVec 32 := Scalar.muli v698 c2048_i32_431
  let c16_i32_361 : BitVec 32 := 16#32
  let v557 : BitVec 32 := Scalar.remsi v538 c16_i32_361
  let c128_i32_362 : BitVec 32 := 128#32
  let v558 : BitVec 32 := Scalar.muli v557 c128_i32_362
  let v700 : BitVec 32 := Scalar.addi v699 v558
  let c16_i32_432 : BitVec 32 := 16#32
  let v701 : BitVec 32 := Scalar.muli v700 c16_i32_432
  let c0_i32_434 : BitVec 32 := 0#32
  let v703 : BitVec 1 := Scalar.cmpi .sgt v701 c0_i32_434
  let v704 : BitVec 32 := Scalar.extui v703
  let c0_i32_435 : BitVec 32 := 0#32
  let v705 : BitVec 1 := Scalar.cmpi .slt v701 c0_i32_435
  let v706 : BitVec 32 := Scalar.extui v705
  let v707 : BitVec 32 := Scalar.subi v704 v706
  let c128_i32_433 : BitVec 32 := 128#32
  let c0_i32_436 : BitVec 32 := 0#32
  let v708 : BitVec 1 := Scalar.cmpi .sgt c128_i32_433 c0_i32_436
  let v709 : BitVec 32 := Scalar.extui v708
  let c0_i32_437 : BitVec 32 := 0#32
  let v710 : BitVec 1 := Scalar.cmpi .slt c128_i32_433 c0_i32_437
  let v711 : BitVec 32 := Scalar.extui v710
  let v712 : BitVec 32 := Scalar.subi v709 v711
  let v713 : BitVec 1 := Scalar.cmpi .ne v707 v712
  let v714 : BitVec 32 := Scalar.remsi v701 c128_i32_433
  let c0_i32_438 : BitVec 32 := 0#32
  let v715 : BitVec 1 := Scalar.cmpi .ne v714 c0_i32_438
  let v716 : BitVec 1 := Scalar.andi v713 v715
  let v702 : BitVec 32 := Scalar.divsi v701 c128_i32_433
  let c1_i32_439 : BitVec 32 := 1#32
  let v717 : BitVec 32 := Scalar.subi v702 c1_i32_439
  let v718 : BitVec 32 := Scalar.select v716 v717 v702
  v718
def k0_mult16 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c1_i32_353 : BitVec 32 := 1#32
  let v538 : BitVec 32 := Scalar.subi v521 c1_i32_353
  let c0_i32_355 : BitVec 32 := 0#32
  let v540 : BitVec 1 := Scalar.cmpi .sgt v538 c0_i32_355
  let v541 : BitVec 32 := Scalar.extui v540
  let c0_i32_356 : BitVec 32 := 0#32
  let v542 : BitVec 1 := Scalar.cmpi .slt v538 c0_i32_356
  let v543 : BitVec 32 := Scalar.extui v542
  let v544 : BitVec 32 := Scalar.subi v541 v543
  let c16_i32_354 : BitVec 32 := 16#32
  let c0_i32_357 : BitVec 32 := 0#32
  let v545 : BitVec 1 := Scalar.cmpi .sgt c16_i32_354 c0_i32_357
  let v546 : BitVec 32 := Scalar.extui v545
  let c0_i32_358 : BitVec 32 := 0#32
  let v547 : BitVec 1 := Scalar.cmpi .slt c16_i32_354 c0_i32_358
  let v548 : BitVec 32 := Scalar.extui v547
  let v549 : BitVec 32 := Scalar.subi v546 v548
  let v550 : BitVec 1 := Scalar.cmpi .ne v544 v549
  let v551 : BitVec 32 := Scalar.remsi v538 c16_i32_354
  let c0_i32_359 : BitVec 32 := 0#32
  let v552 : BitVec 1 := Scalar.cmpi .ne v551 c0_i32_359
  let v553 : BitVec 1 := Scalar.andi v550 v552
  let v539 : BitVec 32 := Scalar.divsi v538 c16_i32_354
  let c1_i32_360 : BitVec 32 := 1#32
  let v554 : BitVec 32 := Scalar.subi v539 c1_i32_360
  let v555 : BitVec 32 := Scalar.select v553 v554 v539
  let v556 : BitVec 32 := Scalar.addi v2 v555
  let c8_i32_440 : BitVec 32 := 8#32
  let v720 : BitVec 32 := Scalar.muli v556 c8_i32_440
  let c7_i32_441 : BitVec 32 := 7#32
  let v721 : BitVec 32 := Scalar.addi v720 c7_i32_441
  let c2048_i32_442 : BitVec 32 := 2048#32
  let v722 : BitVec 32 := Scalar.muli v721 c2048_i32_442
  let c16_i32_361 : BitVec 32 := 16#32
  let v557 : BitVec 32 := Scalar.remsi v538 c16_i32_361
  let c128_i32_362 : BitVec 32 := 128#32
  let v558 : BitVec 32 := Scalar.muli v557 c128_i32_362
  let v723 : BitVec 32 := Scalar.addi v722 v558
  let c16_i32_443 : BitVec 32 := 16#32
  let v724 : BitVec 32 := Scalar.muli v723 c16_i32_443
  let c0_i32_445 : BitVec 32 := 0#32
  let v726 : BitVec 1 := Scalar.cmpi .sgt v724 c0_i32_445
  let v727 : BitVec 32 := Scalar.extui v726
  let c0_i32_446 : BitVec 32 := 0#32
  let v728 : BitVec 1 := Scalar.cmpi .slt v724 c0_i32_446
  let v729 : BitVec 32 := Scalar.extui v728
  let v730 : BitVec 32 := Scalar.subi v727 v729
  let c128_i32_444 : BitVec 32 := 128#32
  let c0_i32_447 : BitVec 32 := 0#32
  let v731 : BitVec 1 := Scalar.cmpi .sgt c128_i32_444 c0_i32_447
  let v732 : BitVec 32 := Scalar.extui v731
  let c0_i32_448 : BitVec 32 := 0#32
  let v733 : BitVec 1 := Scalar.cmpi .slt c128_i32_444 c0_i32_448
  let v734 : BitVec 32 := Scalar.extui v733
  let v735 : BitVec 32 := Scalar.subi v732 v734
  let v736 : BitVec 1 := Scalar.cmpi .ne v730 v735
  let v737 : BitVec 32 := Scalar.remsi v724 c128_i32_444
  let c0_i32_449 : BitVec 32 := 0#32
  let v738 : BitVec 1 := Scalar.cmpi .ne v737 c0_i32_449
  let v739 : BitVec 1 := Scalar.andi v736 v738
  let v725 : BitVec 32 := Scalar.divsi v724 c128_i32_444
  let c1_i32_450 : BitVec 32 := 1#32
  let v740 : BitVec 32 := Scalar.subi v725 c1_i32_450
  let v741 : BitVec 32 := Scalar.select v739 v740 v725
  v741
def k0_off91 (k0_t2 : Fin k0_t2_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let c0_i32_451 : BitVec 32 := 0#32
  let c0_i32_452 : BitVec 32 := 0#32
  let c0_i32_453 : BitVec 32 := 0#32
  ![v523.toNat, 0, 0, 0]
def k0_off92 (i : grid0.Coords) (k0_t2 : Fin k0_t2_loop.trips) (c0_i32_364 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c1_i32_353 : BitVec 32 := 1#32
  let v538 : BitVec 32 := Scalar.subi v521 c1_i32_353
  let c0_i32_355 : BitVec 32 := 0#32
  let v540 : BitVec 1 := Scalar.cmpi .sgt v538 c0_i32_355
  let v541 : BitVec 32 := Scalar.extui v540
  let c0_i32_356 : BitVec 32 := 0#32
  let v542 : BitVec 1 := Scalar.cmpi .slt v538 c0_i32_356
  let v543 : BitVec 32 := Scalar.extui v542
  let v544 : BitVec 32 := Scalar.subi v541 v543
  let c16_i32_354 : BitVec 32 := 16#32
  let c0_i32_357 : BitVec 32 := 0#32
  let v545 : BitVec 1 := Scalar.cmpi .sgt c16_i32_354 c0_i32_357
  let v546 : BitVec 32 := Scalar.extui v545
  let c0_i32_358 : BitVec 32 := 0#32
  let v547 : BitVec 1 := Scalar.cmpi .slt c16_i32_354 c0_i32_358
  let v548 : BitVec 32 := Scalar.extui v547
  let v549 : BitVec 32 := Scalar.subi v546 v548
  let v550 : BitVec 1 := Scalar.cmpi .ne v544 v549
  let v551 : BitVec 32 := Scalar.remsi v538 c16_i32_354
  let c0_i32_359 : BitVec 32 := 0#32
  let v552 : BitVec 1 := Scalar.cmpi .ne v551 c0_i32_359
  let v553 : BitVec 1 := Scalar.andi v550 v552
  let v539 : BitVec 32 := Scalar.divsi v538 c16_i32_354
  let c1_i32_360 : BitVec 32 := 1#32
  let v554 : BitVec 32 := Scalar.subi v539 c1_i32_360
  let v555 : BitVec 32 := Scalar.select v553 v554 v539
  let v556 : BitVec 32 := Scalar.addi v2 v555
  let c8_i32_363 : BitVec 32 := 8#32
  let v559 : BitVec 32 := Scalar.muli v556 c8_i32_363
  let v560 : BitVec 32 := Scalar.addi v559 c0_i32_364
  let c2048_i32_365 : BitVec 32 := 2048#32
  let v561 : BitVec 32 := Scalar.muli v560 c2048_i32_365
  let c16_i32_361 : BitVec 32 := 16#32
  let v557 : BitVec 32 := Scalar.remsi v538 c16_i32_361
  let c128_i32_362 : BitVec 32 := 128#32
  let v558 : BitVec 32 := Scalar.muli v557 c128_i32_362
  let v562 : BitVec 32 := Scalar.addi v561 v558
  let c16_i32_366 : BitVec 32 := 16#32
  let v563 : BitVec 32 := Scalar.muli v562 c16_i32_366
  let c0_i32_368 : BitVec 32 := 0#32
  let v565 : BitVec 1 := Scalar.cmpi .sgt v563 c0_i32_368
  let v566 : BitVec 32 := Scalar.extui v565
  let c0_i32_369 : BitVec 32 := 0#32
  let v567 : BitVec 1 := Scalar.cmpi .slt v563 c0_i32_369
  let v568 : BitVec 32 := Scalar.extui v567
  let v569 : BitVec 32 := Scalar.subi v566 v568
  let c128_i32_367 : BitVec 32 := 128#32
  let c0_i32_370 : BitVec 32 := 0#32
  let v570 : BitVec 1 := Scalar.cmpi .sgt c128_i32_367 c0_i32_370
  let v571 : BitVec 32 := Scalar.extui v570
  let c0_i32_371 : BitVec 32 := 0#32
  let v572 : BitVec 1 := Scalar.cmpi .slt c128_i32_367 c0_i32_371
  let v573 : BitVec 32 := Scalar.extui v572
  let v574 : BitVec 32 := Scalar.subi v571 v573
  let v575 : BitVec 1 := Scalar.cmpi .ne v569 v574
  let v576 : BitVec 32 := Scalar.remsi v563 c128_i32_367
  let c0_i32_372 : BitVec 32 := 0#32
  let v577 : BitVec 1 := Scalar.cmpi .ne v576 c0_i32_372
  let v578 : BitVec 1 := Scalar.andi v575 v577
  let v564 : BitVec 32 := Scalar.divsi v563 c128_i32_367
  let c1_i32_373 : BitVec 32 := 1#32
  let v579 : BitVec 32 := Scalar.subi v564 c1_i32_373
  let v580 : BitVec 32 := Scalar.select v578 v579 v564
  let v581 : BitVec 32 := v580
  let c0_i32_454 : BitVec 32 := 0#32
  ![v581.toNat, 0]
def k0_off93 (k0_t2 : Fin k0_t2_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let c1_i32_458 : BitVec 32 := 1#32
  let c0_i32_459 : BitVec 32 := 0#32
  let c0_i32_460 : BitVec 32 := 0#32
  ![v523.toNat, 1, 0, 0]
def k0_off94 (k0_t2 : Fin k0_t2_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let c2_i32_465 : BitVec 32 := 2#32
  let c0_i32_466 : BitVec 32 := 0#32
  let c0_i32_467 : BitVec 32 := 0#32
  ![v523.toNat, 2, 0, 0]
def k0_off95 (k0_t2 : Fin k0_t2_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let c3_i32_472 : BitVec 32 := 3#32
  let c0_i32_473 : BitVec 32 := 0#32
  let c0_i32_474 : BitVec 32 := 0#32
  ![v523.toNat, 3, 0, 0]
def k0_off96 (k0_t2 : Fin k0_t2_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let c4_i32_479 : BitVec 32 := 4#32
  let c0_i32_480 : BitVec 32 := 0#32
  let c0_i32_481 : BitVec 32 := 0#32
  ![v523.toNat, 4, 0, 0]
def k0_off97 (k0_t2 : Fin k0_t2_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let c5_i32_486 : BitVec 32 := 5#32
  let c0_i32_487 : BitVec 32 := 0#32
  let c0_i32_488 : BitVec 32 := 0#32
  ![v523.toNat, 5, 0, 0]
def k0_off98 (k0_t2 : Fin k0_t2_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let c6_i32_493 : BitVec 32 := 6#32
  let c0_i32_494 : BitVec 32 := 0#32
  let c0_i32_495 : BitVec 32 := 0#32
  ![v523.toNat, 6, 0, 0]
def k0_off99 (k0_t2 : Fin k0_t2_loop.trips) : Fin 4 → Nat :=
  let c1_i32_339 : BitVec 32 := 1#32
  let c1_i32_337 : BitVec 32 := 1#32
  let c0_i32_12 : BitVec 32 := 0#32
  let c1_i32_14 : BitVec 32 := 1#32
  let arg9 : BitVec 32 := Scf.iv c0_i32_12 c1_i32_14 k0_t2
  let c1_i32_336 : BitVec 32 := 1#32
  let v520 : BitVec 32 := Scalar.muli arg9 c1_i32_336
  let v521 : BitVec 32 := Scalar.addi c1_i32_337 v520
  let c2_i32_338 : BitVec 32 := 2#32
  let v522 : BitVec 32 := Scalar.remsi v521 c2_i32_338
  let v523 : BitVec 32 := Scalar.subi c1_i32_339 v522
  let c7_i32_500 : BitVec 32 := 7#32
  let c0_i32_501 : BitVec 32 := 0#32
  let c0_i32_502 : BitVec 32 := 0#32
  ![v523.toNat, 7, 0, 0]
def k0_mult17 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c7_i32 : BitVec 32 := 7#32
  let v18 : BitVec 32 := Scalar.addi v2 c7_i32
  let c8_i32_18 : BitVec 32 := 8#32
  let v21 : BitVec 32 := Scalar.muli v18 c8_i32_18
  let c0_i32_19 : BitVec 32 := 0#32
  let v22 : BitVec 32 := Scalar.addi v21 c0_i32_19
  let c2048_i32 : BitVec 32 := 2048#32
  let v23 : BitVec 32 := Scalar.muli v22 c2048_i32
  let c127_i32 : BitVec 32 := 127#32
  let c16_i32_16 : BitVec 32 := 16#32
  let v19 : BitVec 32 := Scalar.remsi c127_i32 c16_i32_16
  let c128_i32_17 : BitVec 32 := 128#32
  let v20 : BitVec 32 := Scalar.muli v19 c128_i32_17
  let v24 : BitVec 32 := Scalar.addi v23 v20
  let c16_i32_20 : BitVec 32 := 16#32
  let v25 : BitVec 32 := Scalar.muli v24 c16_i32_20
  let c0_i32_22 : BitVec 32 := 0#32
  let v27 : BitVec 1 := Scalar.cmpi .sgt v25 c0_i32_22
  let v28 : BitVec 32 := Scalar.extui v27
  let c0_i32_23 : BitVec 32 := 0#32
  let v29 : BitVec 1 := Scalar.cmpi .slt v25 c0_i32_23
  let v30 : BitVec 32 := Scalar.extui v29
  let v31 : BitVec 32 := Scalar.subi v28 v30
  let c128_i32_21 : BitVec 32 := 128#32
  let c0_i32_24 : BitVec 32 := 0#32
  let v32 : BitVec 1 := Scalar.cmpi .sgt c128_i32_21 c0_i32_24
  let v33 : BitVec 32 := Scalar.extui v32
  let c0_i32_25 : BitVec 32 := 0#32
  let v34 : BitVec 1 := Scalar.cmpi .slt c128_i32_21 c0_i32_25
  let v35 : BitVec 32 := Scalar.extui v34
  let v36 : BitVec 32 := Scalar.subi v33 v35
  let v37 : BitVec 1 := Scalar.cmpi .ne v31 v36
  let v38 : BitVec 32 := Scalar.remsi v25 c128_i32_21
  let c0_i32_26 : BitVec 32 := 0#32
  let v39 : BitVec 1 := Scalar.cmpi .ne v38 c0_i32_26
  let v40 : BitVec 1 := Scalar.andi v37 v39
  let v26 : BitVec 32 := Scalar.divsi v25 c128_i32_21
  let c1_i32_27 : BitVec 32 := 1#32
  let v41 : BitVec 32 := Scalar.subi v26 c1_i32_27
  let v42 : BitVec 32 := Scalar.select v40 v41 v26
  v42
def k0_mult18 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c7_i32 : BitVec 32 := 7#32
  let v18 : BitVec 32 := Scalar.addi v2 c7_i32
  let c8_i32_28 : BitVec 32 := 8#32
  let v44 : BitVec 32 := Scalar.muli v18 c8_i32_28
  let c1_i32_29 : BitVec 32 := 1#32
  let v45 : BitVec 32 := Scalar.addi v44 c1_i32_29
  let c2048_i32_30 : BitVec 32 := 2048#32
  let v46 : BitVec 32 := Scalar.muli v45 c2048_i32_30
  let c127_i32 : BitVec 32 := 127#32
  let c16_i32_16 : BitVec 32 := 16#32
  let v19 : BitVec 32 := Scalar.remsi c127_i32 c16_i32_16
  let c128_i32_17 : BitVec 32 := 128#32
  let v20 : BitVec 32 := Scalar.muli v19 c128_i32_17
  let v47 : BitVec 32 := Scalar.addi v46 v20
  let c16_i32_31 : BitVec 32 := 16#32
  let v48 : BitVec 32 := Scalar.muli v47 c16_i32_31
  let c0_i32_33 : BitVec 32 := 0#32
  let v50 : BitVec 1 := Scalar.cmpi .sgt v48 c0_i32_33
  let v51 : BitVec 32 := Scalar.extui v50
  let c0_i32_34 : BitVec 32 := 0#32
  let v52 : BitVec 1 := Scalar.cmpi .slt v48 c0_i32_34
  let v53 : BitVec 32 := Scalar.extui v52
  let v54 : BitVec 32 := Scalar.subi v51 v53
  let c128_i32_32 : BitVec 32 := 128#32
  let c0_i32_35 : BitVec 32 := 0#32
  let v55 : BitVec 1 := Scalar.cmpi .sgt c128_i32_32 c0_i32_35
  let v56 : BitVec 32 := Scalar.extui v55
  let c0_i32_36 : BitVec 32 := 0#32
  let v57 : BitVec 1 := Scalar.cmpi .slt c128_i32_32 c0_i32_36
  let v58 : BitVec 32 := Scalar.extui v57
  let v59 : BitVec 32 := Scalar.subi v56 v58
  let v60 : BitVec 1 := Scalar.cmpi .ne v54 v59
  let v61 : BitVec 32 := Scalar.remsi v48 c128_i32_32
  let c0_i32_37 : BitVec 32 := 0#32
  let v62 : BitVec 1 := Scalar.cmpi .ne v61 c0_i32_37
  let v63 : BitVec 1 := Scalar.andi v60 v62
  let v49 : BitVec 32 := Scalar.divsi v48 c128_i32_32
  let c1_i32_38 : BitVec 32 := 1#32
  let v64 : BitVec 32 := Scalar.subi v49 c1_i32_38
  let v65 : BitVec 32 := Scalar.select v63 v64 v49
  v65
def k0_mult19 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c7_i32 : BitVec 32 := 7#32
  let v18 : BitVec 32 := Scalar.addi v2 c7_i32
  let c8_i32_39 : BitVec 32 := 8#32
  let v67 : BitVec 32 := Scalar.muli v18 c8_i32_39
  let c2_i32_40 : BitVec 32 := 2#32
  let v68 : BitVec 32 := Scalar.addi v67 c2_i32_40
  let c2048_i32_41 : BitVec 32 := 2048#32
  let v69 : BitVec 32 := Scalar.muli v68 c2048_i32_41
  let c127_i32 : BitVec 32 := 127#32
  let c16_i32_16 : BitVec 32 := 16#32
  let v19 : BitVec 32 := Scalar.remsi c127_i32 c16_i32_16
  let c128_i32_17 : BitVec 32 := 128#32
  let v20 : BitVec 32 := Scalar.muli v19 c128_i32_17
  let v70 : BitVec 32 := Scalar.addi v69 v20
  let c16_i32_42 : BitVec 32 := 16#32
  let v71 : BitVec 32 := Scalar.muli v70 c16_i32_42
  let c0_i32_44 : BitVec 32 := 0#32
  let v73 : BitVec 1 := Scalar.cmpi .sgt v71 c0_i32_44
  let v74 : BitVec 32 := Scalar.extui v73
  let c0_i32_45 : BitVec 32 := 0#32
  let v75 : BitVec 1 := Scalar.cmpi .slt v71 c0_i32_45
  let v76 : BitVec 32 := Scalar.extui v75
  let v77 : BitVec 32 := Scalar.subi v74 v76
  let c128_i32_43 : BitVec 32 := 128#32
  let c0_i32_46 : BitVec 32 := 0#32
  let v78 : BitVec 1 := Scalar.cmpi .sgt c128_i32_43 c0_i32_46
  let v79 : BitVec 32 := Scalar.extui v78
  let c0_i32_47 : BitVec 32 := 0#32
  let v80 : BitVec 1 := Scalar.cmpi .slt c128_i32_43 c0_i32_47
  let v81 : BitVec 32 := Scalar.extui v80
  let v82 : BitVec 32 := Scalar.subi v79 v81
  let v83 : BitVec 1 := Scalar.cmpi .ne v77 v82
  let v84 : BitVec 32 := Scalar.remsi v71 c128_i32_43
  let c0_i32_48 : BitVec 32 := 0#32
  let v85 : BitVec 1 := Scalar.cmpi .ne v84 c0_i32_48
  let v86 : BitVec 1 := Scalar.andi v83 v85
  let v72 : BitVec 32 := Scalar.divsi v71 c128_i32_43
  let c1_i32_49 : BitVec 32 := 1#32
  let v87 : BitVec 32 := Scalar.subi v72 c1_i32_49
  let v88 : BitVec 32 := Scalar.select v86 v87 v72
  v88
def k0_mult20 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c7_i32 : BitVec 32 := 7#32
  let v18 : BitVec 32 := Scalar.addi v2 c7_i32
  let c8_i32_50 : BitVec 32 := 8#32
  let v90 : BitVec 32 := Scalar.muli v18 c8_i32_50
  let c3_i32 : BitVec 32 := 3#32
  let v91 : BitVec 32 := Scalar.addi v90 c3_i32
  let c2048_i32_51 : BitVec 32 := 2048#32
  let v92 : BitVec 32 := Scalar.muli v91 c2048_i32_51
  let c127_i32 : BitVec 32 := 127#32
  let c16_i32_16 : BitVec 32 := 16#32
  let v19 : BitVec 32 := Scalar.remsi c127_i32 c16_i32_16
  let c128_i32_17 : BitVec 32 := 128#32
  let v20 : BitVec 32 := Scalar.muli v19 c128_i32_17
  let v93 : BitVec 32 := Scalar.addi v92 v20
  let c16_i32_52 : BitVec 32 := 16#32
  let v94 : BitVec 32 := Scalar.muli v93 c16_i32_52
  let c0_i32_54 : BitVec 32 := 0#32
  let v96 : BitVec 1 := Scalar.cmpi .sgt v94 c0_i32_54
  let v97 : BitVec 32 := Scalar.extui v96
  let c0_i32_55 : BitVec 32 := 0#32
  let v98 : BitVec 1 := Scalar.cmpi .slt v94 c0_i32_55
  let v99 : BitVec 32 := Scalar.extui v98
  let v100 : BitVec 32 := Scalar.subi v97 v99
  let c128_i32_53 : BitVec 32 := 128#32
  let c0_i32_56 : BitVec 32 := 0#32
  let v101 : BitVec 1 := Scalar.cmpi .sgt c128_i32_53 c0_i32_56
  let v102 : BitVec 32 := Scalar.extui v101
  let c0_i32_57 : BitVec 32 := 0#32
  let v103 : BitVec 1 := Scalar.cmpi .slt c128_i32_53 c0_i32_57
  let v104 : BitVec 32 := Scalar.extui v103
  let v105 : BitVec 32 := Scalar.subi v102 v104
  let v106 : BitVec 1 := Scalar.cmpi .ne v100 v105
  let v107 : BitVec 32 := Scalar.remsi v94 c128_i32_53
  let c0_i32_58 : BitVec 32 := 0#32
  let v108 : BitVec 1 := Scalar.cmpi .ne v107 c0_i32_58
  let v109 : BitVec 1 := Scalar.andi v106 v108
  let v95 : BitVec 32 := Scalar.divsi v94 c128_i32_53
  let c1_i32_59 : BitVec 32 := 1#32
  let v110 : BitVec 32 := Scalar.subi v95 c1_i32_59
  let v111 : BitVec 32 := Scalar.select v109 v110 v95
  v111
def k0_mult21 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c7_i32 : BitVec 32 := 7#32
  let v18 : BitVec 32 := Scalar.addi v2 c7_i32
  let c8_i32_60 : BitVec 32 := 8#32
  let v113 : BitVec 32 := Scalar.muli v18 c8_i32_60
  let c4_i32 : BitVec 32 := 4#32
  let v114 : BitVec 32 := Scalar.addi v113 c4_i32
  let c2048_i32_61 : BitVec 32 := 2048#32
  let v115 : BitVec 32 := Scalar.muli v114 c2048_i32_61
  let c127_i32 : BitVec 32 := 127#32
  let c16_i32_16 : BitVec 32 := 16#32
  let v19 : BitVec 32 := Scalar.remsi c127_i32 c16_i32_16
  let c128_i32_17 : BitVec 32 := 128#32
  let v20 : BitVec 32 := Scalar.muli v19 c128_i32_17
  let v116 : BitVec 32 := Scalar.addi v115 v20
  let c16_i32_62 : BitVec 32 := 16#32
  let v117 : BitVec 32 := Scalar.muli v116 c16_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  v134
def k0_mult22 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c7_i32 : BitVec 32 := 7#32
  let v18 : BitVec 32 := Scalar.addi v2 c7_i32
  let c8_i32_70 : BitVec 32 := 8#32
  let v136 : BitVec 32 := Scalar.muli v18 c8_i32_70
  let c5_i32 : BitVec 32 := 5#32
  let v137 : BitVec 32 := Scalar.addi v136 c5_i32
  let c2048_i32_71 : BitVec 32 := 2048#32
  let v138 : BitVec 32 := Scalar.muli v137 c2048_i32_71
  let c127_i32 : BitVec 32 := 127#32
  let c16_i32_16 : BitVec 32 := 16#32
  let v19 : BitVec 32 := Scalar.remsi c127_i32 c16_i32_16
  let c128_i32_17 : BitVec 32 := 128#32
  let v20 : BitVec 32 := Scalar.muli v19 c128_i32_17
  let v139 : BitVec 32 := Scalar.addi v138 v20
  let c16_i32_72 : BitVec 32 := 16#32
  let v140 : BitVec 32 := Scalar.muli v139 c16_i32_72
  let c0_i32_74 : BitVec 32 := 0#32
  let v142 : BitVec 1 := Scalar.cmpi .sgt v140 c0_i32_74
  let v143 : BitVec 32 := Scalar.extui v142
  let c0_i32_75 : BitVec 32 := 0#32
  let v144 : BitVec 1 := Scalar.cmpi .slt v140 c0_i32_75
  let v145 : BitVec 32 := Scalar.extui v144
  let v146 : BitVec 32 := Scalar.subi v143 v145
  let c128_i32_73 : BitVec 32 := 128#32
  let c0_i32_76 : BitVec 32 := 0#32
  let v147 : BitVec 1 := Scalar.cmpi .sgt c128_i32_73 c0_i32_76
  let v148 : BitVec 32 := Scalar.extui v147
  let c0_i32_77 : BitVec 32 := 0#32
  let v149 : BitVec 1 := Scalar.cmpi .slt c128_i32_73 c0_i32_77
  let v150 : BitVec 32 := Scalar.extui v149
  let v151 : BitVec 32 := Scalar.subi v148 v150
  let v152 : BitVec 1 := Scalar.cmpi .ne v146 v151
  let v153 : BitVec 32 := Scalar.remsi v140 c128_i32_73
  let c0_i32_78 : BitVec 32 := 0#32
  let v154 : BitVec 1 := Scalar.cmpi .ne v153 c0_i32_78
  let v155 : BitVec 1 := Scalar.andi v152 v154
  let v141 : BitVec 32 := Scalar.divsi v140 c128_i32_73
  let c1_i32_79 : BitVec 32 := 1#32
  let v156 : BitVec 32 := Scalar.subi v141 c1_i32_79
  let v157 : BitVec 32 := Scalar.select v155 v156 v141
  v157
def k0_mult23 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c7_i32 : BitVec 32 := 7#32
  let v18 : BitVec 32 := Scalar.addi v2 c7_i32
  let c8_i32_80 : BitVec 32 := 8#32
  let v159 : BitVec 32 := Scalar.muli v18 c8_i32_80
  let c6_i32 : BitVec 32 := 6#32
  let v160 : BitVec 32 := Scalar.addi v159 c6_i32
  let c2048_i32_81 : BitVec 32 := 2048#32
  let v161 : BitVec 32 := Scalar.muli v160 c2048_i32_81
  let c127_i32 : BitVec 32 := 127#32
  let c16_i32_16 : BitVec 32 := 16#32
  let v19 : BitVec 32 := Scalar.remsi c127_i32 c16_i32_16
  let c128_i32_17 : BitVec 32 := 128#32
  let v20 : BitVec 32 := Scalar.muli v19 c128_i32_17
  let v162 : BitVec 32 := Scalar.addi v161 v20
  let c16_i32_82 : BitVec 32 := 16#32
  let v163 : BitVec 32 := Scalar.muli v162 c16_i32_82
  let c0_i32_84 : BitVec 32 := 0#32
  let v165 : BitVec 1 := Scalar.cmpi .sgt v163 c0_i32_84
  let v166 : BitVec 32 := Scalar.extui v165
  let c0_i32_85 : BitVec 32 := 0#32
  let v167 : BitVec 1 := Scalar.cmpi .slt v163 c0_i32_85
  let v168 : BitVec 32 := Scalar.extui v167
  let v169 : BitVec 32 := Scalar.subi v166 v168
  let c128_i32_83 : BitVec 32 := 128#32
  let c0_i32_86 : BitVec 32 := 0#32
  let v170 : BitVec 1 := Scalar.cmpi .sgt c128_i32_83 c0_i32_86
  let v171 : BitVec 32 := Scalar.extui v170
  let c0_i32_87 : BitVec 32 := 0#32
  let v172 : BitVec 1 := Scalar.cmpi .slt c128_i32_83 c0_i32_87
  let v173 : BitVec 32 := Scalar.extui v172
  let v174 : BitVec 32 := Scalar.subi v171 v173
  let v175 : BitVec 1 := Scalar.cmpi .ne v169 v174
  let v176 : BitVec 32 := Scalar.remsi v163 c128_i32_83
  let c0_i32_88 : BitVec 32 := 0#32
  let v177 : BitVec 1 := Scalar.cmpi .ne v176 c0_i32_88
  let v178 : BitVec 1 := Scalar.andi v175 v177
  let v164 : BitVec 32 := Scalar.divsi v163 c128_i32_83
  let c1_i32_89 : BitVec 32 := 1#32
  let v179 : BitVec 32 := Scalar.subi v164 c1_i32_89
  let v180 : BitVec 32 := Scalar.select v178 v179 v164
  v180
def k0_mult24 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c7_i32 : BitVec 32 := 7#32
  let v18 : BitVec 32 := Scalar.addi v2 c7_i32
  let c8_i32_90 : BitVec 32 := 8#32
  let v182 : BitVec 32 := Scalar.muli v18 c8_i32_90
  let c7_i32_91 : BitVec 32 := 7#32
  let v183 : BitVec 32 := Scalar.addi v182 c7_i32_91
  let c2048_i32_92 : BitVec 32 := 2048#32
  let v184 : BitVec 32 := Scalar.muli v183 c2048_i32_92
  let c127_i32 : BitVec 32 := 127#32
  let c16_i32_16 : BitVec 32 := 16#32
  let v19 : BitVec 32 := Scalar.remsi c127_i32 c16_i32_16
  let c128_i32_17 : BitVec 32 := 128#32
  let v20 : BitVec 32 := Scalar.muli v19 c128_i32_17
  let v185 : BitVec 32 := Scalar.addi v184 v20
  let c16_i32_93 : BitVec 32 := 16#32
  let v186 : BitVec 32 := Scalar.muli v185 c16_i32_93
  let c0_i32_95 : BitVec 32 := 0#32
  let v188 : BitVec 1 := Scalar.cmpi .sgt v186 c0_i32_95
  let v189 : BitVec 32 := Scalar.extui v188
  let c0_i32_96 : BitVec 32 := 0#32
  let v190 : BitVec 1 := Scalar.cmpi .slt v186 c0_i32_96
  let v191 : BitVec 32 := Scalar.extui v190
  let v192 : BitVec 32 := Scalar.subi v189 v191
  let c128_i32_94 : BitVec 32 := 128#32
  let c0_i32_97 : BitVec 32 := 0#32
  let v193 : BitVec 1 := Scalar.cmpi .sgt c128_i32_94 c0_i32_97
  let v194 : BitVec 32 := Scalar.extui v193
  let c0_i32_98 : BitVec 32 := 0#32
  let v195 : BitVec 1 := Scalar.cmpi .slt c128_i32_94 c0_i32_98
  let v196 : BitVec 32 := Scalar.extui v195
  let v197 : BitVec 32 := Scalar.subi v194 v196
  let v198 : BitVec 1 := Scalar.cmpi .ne v192 v197
  let v199 : BitVec 32 := Scalar.remsi v186 c128_i32_94
  let c0_i32_99 : BitVec 32 := 0#32
  let v200 : BitVec 1 := Scalar.cmpi .ne v199 c0_i32_99
  let v201 : BitVec 1 := Scalar.andi v198 v200
  let v187 : BitVec 32 := Scalar.divsi v186 c128_i32_94
  let c1_i32_100 : BitVec 32 := 1#32
  let v202 : BitVec 32 := Scalar.subi v187 c1_i32_100
  let v203 : BitVec 32 := Scalar.select v201 v202 v187
  v203
def k0_off100 (i : grid0.Coords) (c0_i32_19 : BitVec 32) (c127_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c7_i32 : BitVec 32 := 7#32
  let v18 : BitVec 32 := Scalar.addi v2 c7_i32
  let c8_i32_18 : BitVec 32 := 8#32
  let v21 : BitVec 32 := Scalar.muli v18 c8_i32_18
  let v22 : BitVec 32 := Scalar.addi v21 c0_i32_19
  let c2048_i32 : BitVec 32 := 2048#32
  let v23 : BitVec 32 := Scalar.muli v22 c2048_i32
  let c16_i32_16 : BitVec 32 := 16#32
  let v19 : BitVec 32 := Scalar.remsi c127_i32 c16_i32_16
  let c128_i32_17 : BitVec 32 := 128#32
  let v20 : BitVec 32 := Scalar.muli v19 c128_i32_17
  let v24 : BitVec 32 := Scalar.addi v23 v20
  let c16_i32_20 : BitVec 32 := 16#32
  let v25 : BitVec 32 := Scalar.muli v24 c16_i32_20
  let c0_i32_22 : BitVec 32 := 0#32
  let v27 : BitVec 1 := Scalar.cmpi .sgt v25 c0_i32_22
  let v28 : BitVec 32 := Scalar.extui v27
  let c0_i32_23 : BitVec 32 := 0#32
  let v29 : BitVec 1 := Scalar.cmpi .slt v25 c0_i32_23
  let v30 : BitVec 32 := Scalar.extui v29
  let v31 : BitVec 32 := Scalar.subi v28 v30
  let c128_i32_21 : BitVec 32 := 128#32
  let c0_i32_24 : BitVec 32 := 0#32
  let v32 : BitVec 1 := Scalar.cmpi .sgt c128_i32_21 c0_i32_24
  let v33 : BitVec 32 := Scalar.extui v32
  let c0_i32_25 : BitVec 32 := 0#32
  let v34 : BitVec 1 := Scalar.cmpi .slt c128_i32_21 c0_i32_25
  let v35 : BitVec 32 := Scalar.extui v34
  let v36 : BitVec 32 := Scalar.subi v33 v35
  let v37 : BitVec 1 := Scalar.cmpi .ne v31 v36
  let v38 : BitVec 32 := Scalar.remsi v25 c128_i32_21
  let c0_i32_26 : BitVec 32 := 0#32
  let v39 : BitVec 1 := Scalar.cmpi .ne v38 c0_i32_26
  let v40 : BitVec 1 := Scalar.andi v37 v39
  let v26 : BitVec 32 := Scalar.divsi v25 c128_i32_21
  let c1_i32_27 : BitVec 32 := 1#32
  let v41 : BitVec 32 := Scalar.subi v26 c1_i32_27
  let v42 : BitVec 32 := Scalar.select v40 v41 v26
  let v43 : BitVec 32 := v42
  let c0_i32_106 : BitVec 32 := 0#32
  ![v43.toNat, 0]
def k0_mult25 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c7_i32_173 : BitVec 32 := 7#32
  let v269 : BitVec 32 := Scalar.addi v2 c7_i32_173
  let c8_i32_176 : BitVec 32 := 8#32
  let v272 : BitVec 32 := Scalar.muli v269 c8_i32_176
  let c0_i32_177 : BitVec 32 := 0#32
  let v273 : BitVec 32 := Scalar.addi v272 c0_i32_177
  let c2048_i32_178 : BitVec 32 := 2048#32
  let v274 : BitVec 32 := Scalar.muli v273 c2048_i32_178
  let c126_i32 : BitVec 32 := 126#32
  let c16_i32_174 : BitVec 32 := 16#32
  let v270 : BitVec 32 := Scalar.remsi c126_i32 c16_i32_174
  let c128_i32_175 : BitVec 32 := 128#32
  let v271 : BitVec 32 := Scalar.muli v270 c128_i32_175
  let v275 : BitVec 32 := Scalar.addi v274 v271
  let c16_i32_179 : BitVec 32 := 16#32
  let v276 : BitVec 32 := Scalar.muli v275 c16_i32_179
  let c0_i32_181 : BitVec 32 := 0#32
  let v278 : BitVec 1 := Scalar.cmpi .sgt v276 c0_i32_181
  let v279 : BitVec 32 := Scalar.extui v278
  let c0_i32_182 : BitVec 32 := 0#32
  let v280 : BitVec 1 := Scalar.cmpi .slt v276 c0_i32_182
  let v281 : BitVec 32 := Scalar.extui v280
  let v282 : BitVec 32 := Scalar.subi v279 v281
  let c128_i32_180 : BitVec 32 := 128#32
  let c0_i32_183 : BitVec 32 := 0#32
  let v283 : BitVec 1 := Scalar.cmpi .sgt c128_i32_180 c0_i32_183
  let v284 : BitVec 32 := Scalar.extui v283
  let c0_i32_184 : BitVec 32 := 0#32
  let v285 : BitVec 1 := Scalar.cmpi .slt c128_i32_180 c0_i32_184
  let v286 : BitVec 32 := Scalar.extui v285
  let v287 : BitVec 32 := Scalar.subi v284 v286
  let v288 : BitVec 1 := Scalar.cmpi .ne v282 v287
  let v289 : BitVec 32 := Scalar.remsi v276 c128_i32_180
  let c0_i32_185 : BitVec 32 := 0#32
  let v290 : BitVec 1 := Scalar.cmpi .ne v289 c0_i32_185
  let v291 : BitVec 1 := Scalar.andi v288 v290
  let v277 : BitVec 32 := Scalar.divsi v276 c128_i32_180
  let c1_i32_186 : BitVec 32 := 1#32
  let v292 : BitVec 32 := Scalar.subi v277 c1_i32_186
  let v293 : BitVec 32 := Scalar.select v291 v292 v277
  v293
def k0_mult26 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c7_i32_173 : BitVec 32 := 7#32
  let v269 : BitVec 32 := Scalar.addi v2 c7_i32_173
  let c8_i32_187 : BitVec 32 := 8#32
  let v295 : BitVec 32 := Scalar.muli v269 c8_i32_187
  let c1_i32_188 : BitVec 32 := 1#32
  let v296 : BitVec 32 := Scalar.addi v295 c1_i32_188
  let c2048_i32_189 : BitVec 32 := 2048#32
  let v297 : BitVec 32 := Scalar.muli v296 c2048_i32_189
  let c126_i32 : BitVec 32 := 126#32
  let c16_i32_174 : BitVec 32 := 16#32
  let v270 : BitVec 32 := Scalar.remsi c126_i32 c16_i32_174
  let c128_i32_175 : BitVec 32 := 128#32
  let v271 : BitVec 32 := Scalar.muli v270 c128_i32_175
  let v298 : BitVec 32 := Scalar.addi v297 v271
  let c16_i32_190 : BitVec 32 := 16#32
  let v299 : BitVec 32 := Scalar.muli v298 c16_i32_190
  let c0_i32_192 : BitVec 32 := 0#32
  let v301 : BitVec 1 := Scalar.cmpi .sgt v299 c0_i32_192
  let v302 : BitVec 32 := Scalar.extui v301
  let c0_i32_193 : BitVec 32 := 0#32
  let v303 : BitVec 1 := Scalar.cmpi .slt v299 c0_i32_193
  let v304 : BitVec 32 := Scalar.extui v303
  let v305 : BitVec 32 := Scalar.subi v302 v304
  let c128_i32_191 : BitVec 32 := 128#32
  let c0_i32_194 : BitVec 32 := 0#32
  let v306 : BitVec 1 := Scalar.cmpi .sgt c128_i32_191 c0_i32_194
  let v307 : BitVec 32 := Scalar.extui v306
  let c0_i32_195 : BitVec 32 := 0#32
  let v308 : BitVec 1 := Scalar.cmpi .slt c128_i32_191 c0_i32_195
  let v309 : BitVec 32 := Scalar.extui v308
  let v310 : BitVec 32 := Scalar.subi v307 v309
  let v311 : BitVec 1 := Scalar.cmpi .ne v305 v310
  let v312 : BitVec 32 := Scalar.remsi v299 c128_i32_191
  let c0_i32_196 : BitVec 32 := 0#32
  let v313 : BitVec 1 := Scalar.cmpi .ne v312 c0_i32_196
  let v314 : BitVec 1 := Scalar.andi v311 v313
  let v300 : BitVec 32 := Scalar.divsi v299 c128_i32_191
  let c1_i32_197 : BitVec 32 := 1#32
  let v315 : BitVec 32 := Scalar.subi v300 c1_i32_197
  let v316 : BitVec 32 := Scalar.select v314 v315 v300
  v316
def k0_mult27 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c7_i32_173 : BitVec 32 := 7#32
  let v269 : BitVec 32 := Scalar.addi v2 c7_i32_173
  let c8_i32_198 : BitVec 32 := 8#32
  let v318 : BitVec 32 := Scalar.muli v269 c8_i32_198
  let c2_i32_199 : BitVec 32 := 2#32
  let v319 : BitVec 32 := Scalar.addi v318 c2_i32_199
  let c2048_i32_200 : BitVec 32 := 2048#32
  let v320 : BitVec 32 := Scalar.muli v319 c2048_i32_200
  let c126_i32 : BitVec 32 := 126#32
  let c16_i32_174 : BitVec 32 := 16#32
  let v270 : BitVec 32 := Scalar.remsi c126_i32 c16_i32_174
  let c128_i32_175 : BitVec 32 := 128#32
  let v271 : BitVec 32 := Scalar.muli v270 c128_i32_175
  let v321 : BitVec 32 := Scalar.addi v320 v271
  let c16_i32_201 : BitVec 32 := 16#32
  let v322 : BitVec 32 := Scalar.muli v321 c16_i32_201
  let c0_i32_203 : BitVec 32 := 0#32
  let v324 : BitVec 1 := Scalar.cmpi .sgt v322 c0_i32_203
  let v325 : BitVec 32 := Scalar.extui v324
  let c0_i32_204 : BitVec 32 := 0#32
  let v326 : BitVec 1 := Scalar.cmpi .slt v322 c0_i32_204
  let v327 : BitVec 32 := Scalar.extui v326
  let v328 : BitVec 32 := Scalar.subi v325 v327
  let c128_i32_202 : BitVec 32 := 128#32
  let c0_i32_205 : BitVec 32 := 0#32
  let v329 : BitVec 1 := Scalar.cmpi .sgt c128_i32_202 c0_i32_205
  let v330 : BitVec 32 := Scalar.extui v329
  let c0_i32_206 : BitVec 32 := 0#32
  let v331 : BitVec 1 := Scalar.cmpi .slt c128_i32_202 c0_i32_206
  let v332 : BitVec 32 := Scalar.extui v331
  let v333 : BitVec 32 := Scalar.subi v330 v332
  let v334 : BitVec 1 := Scalar.cmpi .ne v328 v333
  let v335 : BitVec 32 := Scalar.remsi v322 c128_i32_202
  let c0_i32_207 : BitVec 32 := 0#32
  let v336 : BitVec 1 := Scalar.cmpi .ne v335 c0_i32_207
  let v337 : BitVec 1 := Scalar.andi v334 v336
  let v323 : BitVec 32 := Scalar.divsi v322 c128_i32_202
  let c1_i32_208 : BitVec 32 := 1#32
  let v338 : BitVec 32 := Scalar.subi v323 c1_i32_208
  let v339 : BitVec 32 := Scalar.select v337 v338 v323
  v339
def k0_mult28 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c7_i32_173 : BitVec 32 := 7#32
  let v269 : BitVec 32 := Scalar.addi v2 c7_i32_173
  let c8_i32_209 : BitVec 32 := 8#32
  let v341 : BitVec 32 := Scalar.muli v269 c8_i32_209
  let c3_i32_210 : BitVec 32 := 3#32
  let v342 : BitVec 32 := Scalar.addi v341 c3_i32_210
  let c2048_i32_211 : BitVec 32 := 2048#32
  let v343 : BitVec 32 := Scalar.muli v342 c2048_i32_211
  let c126_i32 : BitVec 32 := 126#32
  let c16_i32_174 : BitVec 32 := 16#32
  let v270 : BitVec 32 := Scalar.remsi c126_i32 c16_i32_174
  let c128_i32_175 : BitVec 32 := 128#32
  let v271 : BitVec 32 := Scalar.muli v270 c128_i32_175
  let v344 : BitVec 32 := Scalar.addi v343 v271
  let c16_i32_212 : BitVec 32 := 16#32
  let v345 : BitVec 32 := Scalar.muli v344 c16_i32_212
  let c0_i32_214 : BitVec 32 := 0#32
  let v347 : BitVec 1 := Scalar.cmpi .sgt v345 c0_i32_214
  let v348 : BitVec 32 := Scalar.extui v347
  let c0_i32_215 : BitVec 32 := 0#32
  let v349 : BitVec 1 := Scalar.cmpi .slt v345 c0_i32_215
  let v350 : BitVec 32 := Scalar.extui v349
  let v351 : BitVec 32 := Scalar.subi v348 v350
  let c128_i32_213 : BitVec 32 := 128#32
  let c0_i32_216 : BitVec 32 := 0#32
  let v352 : BitVec 1 := Scalar.cmpi .sgt c128_i32_213 c0_i32_216
  let v353 : BitVec 32 := Scalar.extui v352
  let c0_i32_217 : BitVec 32 := 0#32
  let v354 : BitVec 1 := Scalar.cmpi .slt c128_i32_213 c0_i32_217
  let v355 : BitVec 32 := Scalar.extui v354
  let v356 : BitVec 32 := Scalar.subi v353 v355
  let v357 : BitVec 1 := Scalar.cmpi .ne v351 v356
  let v358 : BitVec 32 := Scalar.remsi v345 c128_i32_213
  let c0_i32_218 : BitVec 32 := 0#32
  let v359 : BitVec 1 := Scalar.cmpi .ne v358 c0_i32_218
  let v360 : BitVec 1 := Scalar.andi v357 v359
  let v346 : BitVec 32 := Scalar.divsi v345 c128_i32_213
  let c1_i32_219 : BitVec 32 := 1#32
  let v361 : BitVec 32 := Scalar.subi v346 c1_i32_219
  let v362 : BitVec 32 := Scalar.select v360 v361 v346
  v362
def k0_mult29 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c7_i32_173 : BitVec 32 := 7#32
  let v269 : BitVec 32 := Scalar.addi v2 c7_i32_173
  let c8_i32_220 : BitVec 32 := 8#32
  let v364 : BitVec 32 := Scalar.muli v269 c8_i32_220
  let c4_i32_221 : BitVec 32 := 4#32
  let v365 : BitVec 32 := Scalar.addi v364 c4_i32_221
  let c2048_i32_222 : BitVec 32 := 2048#32
  let v366 : BitVec 32 := Scalar.muli v365 c2048_i32_222
  let c126_i32 : BitVec 32 := 126#32
  let c16_i32_174 : BitVec 32 := 16#32
  let v270 : BitVec 32 := Scalar.remsi c126_i32 c16_i32_174
  let c128_i32_175 : BitVec 32 := 128#32
  let v271 : BitVec 32 := Scalar.muli v270 c128_i32_175
  let v367 : BitVec 32 := Scalar.addi v366 v271
  let c16_i32_223 : BitVec 32 := 16#32
  let v368 : BitVec 32 := Scalar.muli v367 c16_i32_223
  let c0_i32_225 : BitVec 32 := 0#32
  let v370 : BitVec 1 := Scalar.cmpi .sgt v368 c0_i32_225
  let v371 : BitVec 32 := Scalar.extui v370
  let c0_i32_226 : BitVec 32 := 0#32
  let v372 : BitVec 1 := Scalar.cmpi .slt v368 c0_i32_226
  let v373 : BitVec 32 := Scalar.extui v372
  let v374 : BitVec 32 := Scalar.subi v371 v373
  let c128_i32_224 : BitVec 32 := 128#32
  let c0_i32_227 : BitVec 32 := 0#32
  let v375 : BitVec 1 := Scalar.cmpi .sgt c128_i32_224 c0_i32_227
  let v376 : BitVec 32 := Scalar.extui v375
  let c0_i32_228 : BitVec 32 := 0#32
  let v377 : BitVec 1 := Scalar.cmpi .slt c128_i32_224 c0_i32_228
  let v378 : BitVec 32 := Scalar.extui v377
  let v379 : BitVec 32 := Scalar.subi v376 v378
  let v380 : BitVec 1 := Scalar.cmpi .ne v374 v379
  let v381 : BitVec 32 := Scalar.remsi v368 c128_i32_224
  let c0_i32_229 : BitVec 32 := 0#32
  let v382 : BitVec 1 := Scalar.cmpi .ne v381 c0_i32_229
  let v383 : BitVec 1 := Scalar.andi v380 v382
  let v369 : BitVec 32 := Scalar.divsi v368 c128_i32_224
  let c1_i32_230 : BitVec 32 := 1#32
  let v384 : BitVec 32 := Scalar.subi v369 c1_i32_230
  let v385 : BitVec 32 := Scalar.select v383 v384 v369
  v385
def k0_mult30 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c7_i32_173 : BitVec 32 := 7#32
  let v269 : BitVec 32 := Scalar.addi v2 c7_i32_173
  let c8_i32_231 : BitVec 32 := 8#32
  let v387 : BitVec 32 := Scalar.muli v269 c8_i32_231
  let c5_i32_232 : BitVec 32 := 5#32
  let v388 : BitVec 32 := Scalar.addi v387 c5_i32_232
  let c2048_i32_233 : BitVec 32 := 2048#32
  let v389 : BitVec 32 := Scalar.muli v388 c2048_i32_233
  let c126_i32 : BitVec 32 := 126#32
  let c16_i32_174 : BitVec 32 := 16#32
  let v270 : BitVec 32 := Scalar.remsi c126_i32 c16_i32_174
  let c128_i32_175 : BitVec 32 := 128#32
  let v271 : BitVec 32 := Scalar.muli v270 c128_i32_175
  let v390 : BitVec 32 := Scalar.addi v389 v271
  let c16_i32_234 : BitVec 32 := 16#32
  let v391 : BitVec 32 := Scalar.muli v390 c16_i32_234
  let c0_i32_236 : BitVec 32 := 0#32
  let v393 : BitVec 1 := Scalar.cmpi .sgt v391 c0_i32_236
  let v394 : BitVec 32 := Scalar.extui v393
  let c0_i32_237 : BitVec 32 := 0#32
  let v395 : BitVec 1 := Scalar.cmpi .slt v391 c0_i32_237
  let v396 : BitVec 32 := Scalar.extui v395
  let v397 : BitVec 32 := Scalar.subi v394 v396
  let c128_i32_235 : BitVec 32 := 128#32
  let c0_i32_238 : BitVec 32 := 0#32
  let v398 : BitVec 1 := Scalar.cmpi .sgt c128_i32_235 c0_i32_238
  let v399 : BitVec 32 := Scalar.extui v398
  let c0_i32_239 : BitVec 32 := 0#32
  let v400 : BitVec 1 := Scalar.cmpi .slt c128_i32_235 c0_i32_239
  let v401 : BitVec 32 := Scalar.extui v400
  let v402 : BitVec 32 := Scalar.subi v399 v401
  let v403 : BitVec 1 := Scalar.cmpi .ne v397 v402
  let v404 : BitVec 32 := Scalar.remsi v391 c128_i32_235
  let c0_i32_240 : BitVec 32 := 0#32
  let v405 : BitVec 1 := Scalar.cmpi .ne v404 c0_i32_240
  let v406 : BitVec 1 := Scalar.andi v403 v405
  let v392 : BitVec 32 := Scalar.divsi v391 c128_i32_235
  let c1_i32_241 : BitVec 32 := 1#32
  let v407 : BitVec 32 := Scalar.subi v392 c1_i32_241
  let v408 : BitVec 32 := Scalar.select v406 v407 v392
  v408
def k0_mult31 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c7_i32_173 : BitVec 32 := 7#32
  let v269 : BitVec 32 := Scalar.addi v2 c7_i32_173
  let c8_i32_242 : BitVec 32 := 8#32
  let v410 : BitVec 32 := Scalar.muli v269 c8_i32_242
  let c6_i32_243 : BitVec 32 := 6#32
  let v411 : BitVec 32 := Scalar.addi v410 c6_i32_243
  let c2048_i32_244 : BitVec 32 := 2048#32
  let v412 : BitVec 32 := Scalar.muli v411 c2048_i32_244
  let c126_i32 : BitVec 32 := 126#32
  let c16_i32_174 : BitVec 32 := 16#32
  let v270 : BitVec 32 := Scalar.remsi c126_i32 c16_i32_174
  let c128_i32_175 : BitVec 32 := 128#32
  let v271 : BitVec 32 := Scalar.muli v270 c128_i32_175
  let v413 : BitVec 32 := Scalar.addi v412 v271
  let c16_i32_245 : BitVec 32 := 16#32
  let v414 : BitVec 32 := Scalar.muli v413 c16_i32_245
  let c0_i32_247 : BitVec 32 := 0#32
  let v416 : BitVec 1 := Scalar.cmpi .sgt v414 c0_i32_247
  let v417 : BitVec 32 := Scalar.extui v416
  let c0_i32_248 : BitVec 32 := 0#32
  let v418 : BitVec 1 := Scalar.cmpi .slt v414 c0_i32_248
  let v419 : BitVec 32 := Scalar.extui v418
  let v420 : BitVec 32 := Scalar.subi v417 v419
  let c128_i32_246 : BitVec 32 := 128#32
  let c0_i32_249 : BitVec 32 := 0#32
  let v421 : BitVec 1 := Scalar.cmpi .sgt c128_i32_246 c0_i32_249
  let v422 : BitVec 32 := Scalar.extui v421
  let c0_i32_250 : BitVec 32 := 0#32
  let v423 : BitVec 1 := Scalar.cmpi .slt c128_i32_246 c0_i32_250
  let v424 : BitVec 32 := Scalar.extui v423
  let v425 : BitVec 32 := Scalar.subi v422 v424
  let v426 : BitVec 1 := Scalar.cmpi .ne v420 v425
  let v427 : BitVec 32 := Scalar.remsi v414 c128_i32_246
  let c0_i32_251 : BitVec 32 := 0#32
  let v428 : BitVec 1 := Scalar.cmpi .ne v427 c0_i32_251
  let v429 : BitVec 1 := Scalar.andi v426 v428
  let v415 : BitVec 32 := Scalar.divsi v414 c128_i32_246
  let c1_i32_252 : BitVec 32 := 1#32
  let v430 : BitVec 32 := Scalar.subi v415 c1_i32_252
  let v431 : BitVec 32 := Scalar.select v429 v430 v415
  v431
def k0_mult32 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c7_i32_173 : BitVec 32 := 7#32
  let v269 : BitVec 32 := Scalar.addi v2 c7_i32_173
  let c8_i32_253 : BitVec 32 := 8#32
  let v433 : BitVec 32 := Scalar.muli v269 c8_i32_253
  let c7_i32_254 : BitVec 32 := 7#32
  let v434 : BitVec 32 := Scalar.addi v433 c7_i32_254
  let c2048_i32_255 : BitVec 32 := 2048#32
  let v435 : BitVec 32 := Scalar.muli v434 c2048_i32_255
  let c126_i32 : BitVec 32 := 126#32
  let c16_i32_174 : BitVec 32 := 16#32
  let v270 : BitVec 32 := Scalar.remsi c126_i32 c16_i32_174
  let c128_i32_175 : BitVec 32 := 128#32
  let v271 : BitVec 32 := Scalar.muli v270 c128_i32_175
  let v436 : BitVec 32 := Scalar.addi v435 v271
  let c16_i32_256 : BitVec 32 := 16#32
  let v437 : BitVec 32 := Scalar.muli v436 c16_i32_256
  let c0_i32_258 : BitVec 32 := 0#32
  let v439 : BitVec 1 := Scalar.cmpi .sgt v437 c0_i32_258
  let v440 : BitVec 32 := Scalar.extui v439
  let c0_i32_259 : BitVec 32 := 0#32
  let v441 : BitVec 1 := Scalar.cmpi .slt v437 c0_i32_259
  let v442 : BitVec 32 := Scalar.extui v441
  let v443 : BitVec 32 := Scalar.subi v440 v442
  let c128_i32_257 : BitVec 32 := 128#32
  let c0_i32_260 : BitVec 32 := 0#32
  let v444 : BitVec 1 := Scalar.cmpi .sgt c128_i32_257 c0_i32_260
  let v445 : BitVec 32 := Scalar.extui v444
  let c0_i32_261 : BitVec 32 := 0#32
  let v446 : BitVec 1 := Scalar.cmpi .slt c128_i32_257 c0_i32_261
  let v447 : BitVec 32 := Scalar.extui v446
  let v448 : BitVec 32 := Scalar.subi v445 v447
  let v449 : BitVec 1 := Scalar.cmpi .ne v443 v448
  let v450 : BitVec 32 := Scalar.remsi v437 c128_i32_257
  let c0_i32_262 : BitVec 32 := 0#32
  let v451 : BitVec 1 := Scalar.cmpi .ne v450 c0_i32_262
  let v452 : BitVec 1 := Scalar.andi v449 v451
  let v438 : BitVec 32 := Scalar.divsi v437 c128_i32_257
  let c1_i32_263 : BitVec 32 := 1#32
  let v453 : BitVec 32 := Scalar.subi v438 c1_i32_263
  let v454 : BitVec 32 := Scalar.select v452 v453 v438
  v454
abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S67108864 : Shape := ⟨1, ![67108864]⟩
abbrev S2048x2048x16 : Shape := ⟨3, ![2048, 2048, 16]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S67108864, .f32⟩
  | .hbm, ⟨1, _⟩ => ⟨S2048x2048x16, .f32⟩
  | .hbm, ⟨2, _⟩ => ⟨S2048x2048x16, .f32⟩
  | .hbm, ⟨3, _⟩ => ⟨S2048x2048x16, .f32⟩
  | .hbm, ⟨4, _⟩ => ⟨S_, .f32⟩
  | .hbm, ⟨5, _⟩ => ⟨S2048x2048x16, .f32⟩
  | .hbm, ⟨6, _⟩ => ⟨S2048x2048x16, .f32⟩
  | .hbm, ⟨7, _⟩ => ⟨S67108864, .f32⟩
  | _, _ => ⟨S67108864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Proof.Facts.lean ====
/-
  The side conditions of the kernel: every loop is well formed, every access lies in its array, and every row offset
  that is announced a multiple of sixteen is one. The offsets come in a few families only, and each family has one
  closed form here, which the proof of the body uses again.
-/
module

public import proofs.«01_k».proof.Kernel
public import proofs.«01_k».proof.KernelIdeal
public import Idealize.ShloMosaic.Lib.Decide

@[expose] public section

set_option synthInstance.maxSize 4096
set_option Elab.async false

namespace Cert.Proof

open Idealize.ShloMosaic Idealize.SL.Sem Cert.KernelIdeal

/-! ## The scalars of a trip -/

/-- The iteration that the trip `t` starts, as the body computes it. -/
abbrev nxt (t : Fin k0_t2_loop.trips) : BitVec 32 :=
  Scalar.addi 1#32 (Scalar.muli (Scf.iv 0#32 1#32 t) 1#32)

/-- The slot that the trip `t` empties, as the body computes it. -/
abbrev pslot (t : Fin k0_t2_loop.trips) : BitVec 32 :=
  Scalar.subi 1#32 (Scalar.remsi (nxt t) 2#32)

/-- The row of a slot that the trip `u` of the copy loop writes. -/
abbrev crow (u : Fin k0_t4_loop.trips) : BitVec 32 :=
  Scalar.addi 0#32 (Scalar.muli (Scf.iv 0#32 1#32 u) 1#32)

theorem nxt_eq : ∀ t : Fin k0_t2_loop.trips, nxt t = BitVec.ofNat 32 (t.val + 1) := by decide +kernel
theorem pslot_eq : ∀ t : Fin k0_t2_loop.trips, pslot t = BitVec.ofNat 32 (t.val % 2) := by decide +kernel
theorem nslot_eq : ∀ t : Fin k0_t2_loop.trips, Scalar.remsi (nxt t) 2#32 = BitVec.ofNat 32 ((t.val + 1) % 2) := by
  decide +kernel
theorem crow_eq : ∀ u : Fin k0_t4_loop.trips, crow u = BitVec.ofNat 32 u.val := by decide +kernel
theorem nxt_sub1 : ∀ t : Fin k0_t2_loop.trips, Scalar.subi (nxt t) 1#32 = BitVec.ofNat 32 t.val := by decide +kernel
theorem nxt_sub3 : ∀ t : Fin k0_t2_loop.trips, k0_cond2 t = 1#1 →
    Scalar.subi (nxt t) 3#32 = BitVec.ofNat 32 (t.val - 2) := by decide +kernel
theorem cond1_iff : ∀ t : Fin k0_t2_loop.trips, k0_cond1 t = 1#1 ↔ t.val + 1 < 128 := by decide +kernel
theorem cond2_iff : ∀ t : Fin k0_t2_loop.trips, k0_cond2 t = 1#1 ↔ 2 ≤ t.val := by decide +kernel

theorem t2_lt (t : Fin k0_t2_loop.trips) : t.val < 128 := t.isLt.trans_le (by decide +kernel)
theorem t4_lt (u : Fin k0_t4_loop.trips) : u.val < 16 := u.isLt.trans_le (by decide +kernel)

/-! ## The offsets of the copy loop -/

/-- Where the copy loop reads: word `c` on of the row `8 u + v` of the slot. -/
abbrev ldF (t : Fin k0_t2_loop.trips) (u : Fin k0_t4_loop.trips) (v : BitVec 32) (c : Nat) : Fin 3 → Nat :=
  ![(Scalar.indexCast (pslot t)).toNat,
    (Scalar.indexCast (Scalar.addi (Scalar.muli (crow u) 8#32) v)).toNat, c]

/-- Where it writes: word `c` on of the row `u` of the part `r` of the slot. -/
abbrev stF (t : Fin k0_t2_loop.trips) (r : BitVec 32) (u : Fin k0_t4_loop.trips) (c : Nat) : Fin 4 → Nat :=
  ![(Scalar.indexCast (pslot t)).toNat, (Scalar.indexCast r).toNat, (Scalar.indexCast (crow u)).toNat, c]

theorem crow8_eq : ∀ u : Fin k0_t4_loop.trips, ∀ v : Fin 8,
    (Scalar.indexCast (Scalar.addi (Scalar.muli (crow u) 8#32) (BitVec.ofNat 32 v.val))).toNat = 8 * u.val + v.val := by
  decide +kernel

theorem pslot_nat : ∀ t : Fin k0_t2_loop.trips, (Scalar.indexCast (pslot t)).toNat = t.val % 2 := by decide +kernel
theorem crow_nat : ∀ u : Fin k0_t4_loop.trips, (Scalar.indexCast (crow u)).toNat = u.val := by decide +kernel
theorem lit_nat : ∀ r : Fin 8, (Scalar.indexCast (BitVec.ofNat 32 r.val)).toNat = r.val := by decide

theorem ldF_eq (t : Fin k0_t2_loop.trips) (u : Fin k0_t4_loop.trips) (v : Fin 8) (c : Nat) :
    ldF t u (BitVec.ofNat 32 v.val) c = ![t.val % 2, 8 * u.val + v.val, c] := by
  unfold ldF
  rw [pslot_nat, crow8_eq]

theorem stF_eq (t : Fin k0_t2_loop.trips) (r : Fin 8) (u : Fin k0_t4_loop.trips) (c : Nat) :
    stF t (BitVec.ofNat 32 r.val) u c = ![t.val % 2, r.val, u.val, c] := by
  unfold stF
  rw [pslot_nat, crow_nat, lit_nat]

theorem ldF_inb (t : Fin k0_t2_loop.trips) (u : Fin k0_t4_loop.trips) (v : Fin 8) (c : Nat) (hc : c ≤ 112) :
    ∀ a, ldF t u (BitVec.ofNat 32 v.val) c a + S1x1x16.size a ≤ S2x128x128.size a := by
  rw [ldF_eq]
  have hu := t4_lt u
  have hv := v.isLt
  have ht : t.val % 2 < 2 := Nat.mod_lt _ (by decide)
  intro a
  fin_cases a
  · show t.val % 2 + 1 ≤ 2; omega
  · show 8 * u.val + v.val + 1 ≤ 128; omega
  · show c + 16 ≤ 128; omega

theorem stF_inb (t : Fin k0_t2_loop.trips) (r : BitVec 32) (hr : r.toNat < 8) (u : Fin k0_t4_loop.trips) (c : Nat) (hc : c ≤ 112) :
    ∀ a, stF t r u c a + S1x1x1x16.size a ≤ S2x8x16x128.size a := by
  obtain ⟨r, rfl⟩ : ∃ r' : Fin 8, r = BitVec.ofNat 32 r'.val := ⟨⟨r.toNat, hr⟩, by simp⟩
  rw [stF_eq]
  have hu := t4_lt u
  have hv := r.isLt
  have ht : t.val % 2 < 2 := Nat.mod_lt _ (by decide)
  intro a
  fin_cases a
  · show t.val % 2 + 1 ≤ 2; omega
  · show r.val + 1 ≤ 8; omega
  · show u.val + 1 ≤ 16; omega
  · show c + 16 ≤ 128; omega

/-! ## The rows of the transposed array -/

/-- The quotient rounded down, as the body computes it. -/
abbrev fdiv (a b : BitVec 32) : BitVec 32 :=
  Scalar.select
    (Scalar.andi
      (Scalar.cmpi .ne
        (Scalar.subi (Scalar.extui (Scalar.cmpi .sgt a 0#32)) (Scalar.extui (Scalar.cmpi .slt a 0#32)))
        (Scalar.subi (Scalar.extui (Scalar.cmpi .sgt b 0#32)) (Scalar.extui (Scalar.cmpi .slt b 0#32))))
      (Scalar.cmpi .ne (Scalar.remsi a b) 0#32))
    (Scalar.subi (Scalar.divsi a b) 1#32) (Scalar.divsi a b)

/-- Eight times the number of the tile, as the body computes it. -/
abbrev tileQ (i : grid0.Coords) : BitVec 32 :=
  Scalar.muli (Scalar.addi (Scalar.muli (BitVec.ofNat 32 (i 1).val) 2#32) (BitVec.ofNat 32 (i 0).val)) 8#32

/-- The first of the sixteen rows that the part `r` of the iteration `n` fills. -/
def rowF (i : grid0.Coords) (n r : BitVec 32) : BitVec 32 :=
  fdiv (Scalar.muli (Scalar.addi
    (Scalar.muli (Scalar.addi (Scalar.muli (Scalar.addi (tileQ i) (fdiv n 16#32)) 8#32) r) 2048#32)
    (Scalar.muli (Scalar.remsi n 16#32) 128#32)) 16#32) 128#32

theorem rowF_eq : ∀ i : grid0.Coords, ∀ (n : Fin 128) (r : Fin 8),
    (rowF i (BitVec.ofNat 32 n.val) (BitVec.ofNat 32 r.val)).toNat
      = 16384 * ((i 1).val * 2 + (i 0).val) + 2048 * (n.val / 16) + 256 * r.val + 16 * (n.val % 16) := by
  decide +kernel

end Cert.Proof
-- ==== Proof.Side.lean ====
/-
  The side conditions both programs state, from the closed forms of `Facts.lean`.
-/
module

public import proofs.«01_k».proof.Proof.Facts

@[expose] public section

set_option synthInstance.maxSize 4096
set_option Elab.async false

namespace Cert.Proof

open Idealize.ShloMosaic Idealize.SL.Sem Cert.KernelIdeal

/-- The offsets at which the body issues the eight writes of a trip. -/
theorem off92_eq (i : grid0.Coords) (t : Fin k0_t2_loop.trips) (r : Fin 8) :
    k0_off92 i t (BitVec.ofNat 32 r.val)
      = ![16384 * ((i 1).val * 2 + (i 0).val) + 2048 * (t.val / 16) + 256 * r.val + 16 * (t.val % 16), 0] := by
  have e : k0_off92 i t (BitVec.ofNat 32 r.val)
      = ![(rowF i (Scalar.subi (nxt t) 1#32) (BitVec.ofNat 32 r.val)).toNat, 0] := rfl
  rw [e, nxt_sub1 t]
  exact congrArg (fun x => ![x, 0]) (rowF_eq i ⟨t.val, t2_lt t⟩ r)

theorem off10_eq (i : grid0.Coords) (t : Fin k0_t2_loop.trips) (h : k0_cond2 t = 1#1) (r : Fin 8) :
    k0_off10 i t (BitVec.ofNat 32 r.val)
      = ![16384 * ((i 1).val * 2 + (i 0).val) + 2048 * ((t.val - 2) / 16) + 256 * r.val + 16 * ((t.val - 2) % 16), 0] := by
  have e : k0_off10 i t (BitVec.ofNat 32 r.val)
      = ![(rowF i (Scalar.subi (nxt t) 3#32) (BitVec.ofNat 32 r.val)).toNat, 0] := rfl
  rw [e, nxt_sub3 t h]
  exact congrArg (fun x => ![x, 0]) (rowF_eq i ⟨t.val - 2, by have := t2_lt t; omega⟩ r)

theorem off92_inb (i : grid0.Coords) (t : Fin k0_t2_loop.trips) (r : Fin 8) :
    ∀ a, k0_off92 i t (BitVec.ofNat 32 r.val) a + S16x128.size a ≤ S524288x128.size a := by
  have h0 : (i 0).val < 2 := (i 0).isLt
  have h1 : (i 1).val < 16 := (i 1).isLt
  have ht := t2_lt t
  rw [off92_eq]
  intro a
  fin_cases a
  · show 16384 * ((i 1).val * 2 + (i 0).val) + 2048 * (t.val / 16) + 256 * r.val + 16 * (t.val % 16) + 16 ≤ 524288
    omega
  · show 0 + 128 ≤ 128; omega

theorem off10_inb (i : grid0.Coords) (t : Fin k0_t2_loop.trips) (h : k0_cond2 t = 1#1) (r : Fin 8) :
    ∀ a, k0_off10 i t (BitVec.ofNat 32 r.val) a + S16x128.size a ≤ S524288x128.size a := by
  have h0 : (i 0).val < 2 := (i 0).isLt
  have h1 : (i 1).val < 16 := (i 1).isLt
  have ht := t2_lt t
  rw [off10_eq i t h]
  intro a
  fin_cases a
  · show 16384 * ((i 1).val * 2 + (i 0).val) + 2048 * ((t.val - 2) / 16) + 256 * r.val + 16 * ((t.val - 2) % 16) + 16
      ≤ 524288
    omega
  · show 0 + 128 ≤ 128; omega

theorem bv_of_lt (r : BitVec 32) (hr : r.toNat < 8) : ∃ r' : Fin 8, r = BitVec.ofNat 32 r'.val :=
  ⟨⟨r.toNat, hr⟩, by simp⟩

theorem mult_now (i : grid0.Coords) (t : Fin k0_t2_loop.trips) (r : BitVec 32) (hr : r.toNat < 8) :
    16 ∣ (rowF i (Scalar.subi (nxt t) 1#32) r).toNat := by
  obtain ⟨r, rfl⟩ := bv_of_lt r hr
  rw [nxt_sub1 t, rowF_eq i ⟨t.val, t2_lt t⟩ r]
  dsimp only
  omega

theorem mult_old (i : grid0.Coords) (t : Fin k0_t2_loop.trips) (h : k0_cond2 t = 1#1) (r : BitVec 32)
    (hr : r.toNat < 8) : 16 ∣ (rowF i (Scalar.subi (nxt t) 3#32) r).toNat := by
  obtain ⟨r, rfl⟩ := bv_of_lt r hr
  rw [nxt_sub3 t h, rowF_eq i ⟨t.val - 2, by have := t2_lt t; omega⟩ r]
  dsimp only
  omega

set_option maxHeartbeats 4000000 in
/-- The side conditions of the program. -/
theorem facts₀ : Cert.KernelIdeal.Facts₀ := by
  constructor
  case k0_off10_inb => exact off10_inb
  case k0_off92_inb => exact off92_inb
  case hstage1_0 => exact fun j => by fin_cases j <;> exact Memref.isWhole_whole _
  case hstage1_1 => exact fun j => by fin_cases j <;> exact Memref.isWhole_whole _
  case hstage1_2 => exact fun j => by fin_cases j <;> exact Memref.isWhole_whole _
  case hreads1_0 => exact fun i i' h => by unfold cc1_transform_0; rw [h 0 rfl]
  case hreads1_1 => exact fun i i' h => by unfold cc1_transform_1; rw [h 0 rfl]
  case hreads1_2 => exact fun i i' h => by unfold cc1_transform_2; rw [h 0 rfl]
  case hwx1_0 => exact fun _ => .inl rfl
  case hwx1_1 => exact fun _ => .inl rfl
  case hwx1_2 => exact fun _ => .inl rfl
  all_goals first
    | exact fun t u r => ldF_inb t u r _ (by decide)
    | exact fun t u => stF_inb t _ (by decide) u _ (by decide)
    | exact fun i t => mult_now i t _ (by decide)
    | exact fun i t h => mult_old i t h _ (by decide)
    | decide +kernel

/-- Everything the program states. -/
theorem facts : Cert.KernelIdeal.Facts := @Cert.KernelIdeal.Facts.mk facts₀

/-- The other program states the same. -/
theorem facts₀' : Cert.Kernel.Facts₀ :=
  Cert.KernelIdeal.Facts₀.casesOn (motive := fun _ => Cert.Kernel.Facts₀) facts₀ (@Cert.Kernel.Facts₀.mk)

theorem facts' : Cert.Kernel.Facts := @Cert.Kernel.Facts.mk facts₀'

end Cert.Proof
-- ==== Proof.Setup.lean ====
/-
  The vocabulary of the SparseCore kernel's proof: the program as the launch theorem sees it, the buffers, the rows
  that a task reads at each of its 128 iterations, the contents that its scratch buffers and its part of the
  transposed array take, and the element sets through which the kernel addresses them.

  Task `w = 2 * subcore + core` transposes the groups `q = 8 * w, …, 8 * w + 7`; iteration `n` handles the 128 rows
  `128 * (n % 16), …` of group `8 * w + n / 16`.
-/
module

public import proofs.«01_k».proof.Defs
public import proofs.«01_k».proof.Proof.Side
public import Idealize.ShloMosaic.Lib.SparseCore.Quiescent
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.Transfers
public import Idealize.ShloMosaic.Lib.Batch
public import Idealize.ShloMosaic.Lib.Pointwise.Index
public import Idealize.ShloMosaic.Lib.ValueLayout

@[expose] public section

noncomputable section

namespace Cert.Proof.Sc

open Cert.KernelIdeal
open Cert.KernelIdeal.Facts₀ Cert.KernelIdeal.Facts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

instance sideFacts : Cert.KernelIdeal.Facts := Cert.Proof.facts

variable {F : FTy → Type}

/-! ## The program as the launch theorem sees it -/

abbrev ΛP : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds, the pipeline cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

instance EP_landsIn : (EP : Emb UP (MT nD τ sig (HIx 1) (Elt F) ℕ UU ℕ)).LandsIn upEmb := inferInstance

/-! ## Places -/

abbrev xLoc (d : Dev nD) : Loc nD τ sig := (SparseCore.T d).loc main_v0
abbrev wLoc (d : Dev nD) : Loc nD τ sig := (SparseCore.T d).loc main_v1

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev xV : Memref sig .scVector .hbm S524288x128 .f32 := Memref.whole main_v0_scv
abbrev wV : Memref sig .scVector .hbm S524288x128 .f32 := Memref.whole main_v1_scv
abbrev iV : Memref sig .scVector .vmem S2x128 .i32 := Memref.whole cc0_scratch0
abbrev rV : Memref sig .scVector .vmem S2x128x128 .f32 := Memref.whole cc0_scratch1
abbrev oV : Memref sig .scVector .vmem S2x8x16x128 .f32 := Memref.whole cc0_scratch2

abbrev iLoc (d : Dev nD) (L : grid0.Coords) : Loc nD τ sig := (thr d L).loc cc0_scratch0
abbrev rLoc (d : Dev nD) (L : grid0.Coords) : Loc nD τ sig := (thr d L).loc cc0_scratch1
abbrev oLoc (d : Dev nD) (L : grid0.Coords) : Loc nD τ sig := (thr d L).loc cc0_scratch2

/-- The task's number, below 32. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-! ## Contents -/

/-- The source at a row and a column given as numbers. -/
def pick (X : S524288x128.Idx → Elt F .f32) (r c : ℕ) : Elt F .f32 := X (ix2 (Fin.ofNat 524288 r) (Fin.ofNat 128 c))

/-- The row that task `w` fetches as its `a`-th of iteration `n`. -/
def srcRow (w n a : ℕ) : ℕ := (128 * (n % 16) + a) * 256 + (8 * w + n / 16)

theorem srcRow_lt {w n a : ℕ} (hw : w < 32) (hn : n < 128) (ha : a < 128) : srcRow w n a < 524288 := by
  unfold srcRow; omega

/-- The index list of iteration `n`, in either slot. -/
def idxT (w n : ℕ) : S2x128.Idx → BitVec 32 := fun x => BitVec.ofNat 32 (srcRow w n (x 1).val)

/-- The rows fetched at iteration `n`, in either slot. -/
def rowsT (X : S524288x128.Idx → Elt F .f32) (w n : ℕ) : S2x128x128.Idx → Elt F .f32 := fun x => pick X (srcRow w n (x 1).val) (x 2).val

/-- The block written out at iteration `n`, in either slot. -/
def outT (X : S524288x128.Idx → Elt F .f32) (w n : ℕ) : S2x8x16x128.Idx → Elt F .f32 :=
  fun x => pick X (srcRow w n (8 * (x 2).val + (x 3).val / 16)) (16 * (x 1).val + (x 3).val % 16)

/-- The transposed array: row `256 * i + jj`, column `16 * v + l` holds the source at row `256 * (8 * jj + v) + i / 8`
    and column `16 * (i % 8) + l`. -/
def wT (X : S524288x128.Idx → Elt F .f32) : S524288x128.Idx → Elt F .f32 :=
  fun x => pick X ((((x 0).val % 256) * 8 + (x 1).val / 16) * 256 + (x 0).val / 2048) (16 * ((x 0).val / 256 % 8) + (x 1).val % 16)

/-! ## Element sets -/

/-- A slot of each scratch buffer. -/
def slotI (p : ℕ) : Finset S2x128.Idx := Finset.univ.filter fun x => (x 0).val = p
def slotR (p : ℕ) : Finset S2x128x128.Idx := Finset.univ.filter fun x => (x 0).val = p
def slotO (p : ℕ) : Finset S2x8x16x128.Idx := Finset.univ.filter fun x => (x 0).val = p
/-- One of a slot's eight blocks. -/
def blkO (p r : ℕ) : Finset S2x8x16x128.Idx := Finset.univ.filter fun x => (x 0).val = p ∧ (x 1).val = r

/-- The iteration of its task that writes row `a` of the transposed array. -/
def iter (a : ℕ) : ℕ := a % 16384 / 2048 * 16 + a % 256 / 16

/-- A task's rows of the transposed array; those of the iterations before `n`, from `n` on, of iteration `n`, and the
    `r`-th of its eight pieces. -/
def tileW (w : ℕ) : Finset S524288x128.Idx := Finset.univ.filter fun x => (x 0).val / 16384 = w
def doneW (w n : ℕ) : Finset S524288x128.Idx := Finset.univ.filter fun x => (x 0).val / 16384 = w ∧ iter (x 0).val < n
def todoW (w n : ℕ) : Finset S524288x128.Idx := Finset.univ.filter fun x => (x 0).val / 16384 = w ∧ n ≤ iter (x 0).val
def iterW (w n : ℕ) : Finset S524288x128.Idx := Finset.univ.filter fun x => (x 0).val / 16384 = w ∧ iter (x 0).val = n
def pieceW (w n r : ℕ) : Finset S524288x128.Idx :=
  Finset.univ.filter fun x => (x 0).val / 16384 = w ∧ iter (x 0).val = n ∧ (x 0).val / 256 % 8 = r

/-- Where a piece begins. -/
def baseW (w n r : ℕ) : ℕ := 16384 * w + 2048 * (n / 16) + 256 * r + 16 * (n % 16)

/-! ## The views the kernel forms -/

/-- The slot that starts at offsets `o` of the index scratch, of the row scratch; a block of the out scratch; a piece of
    the transposed array; the source as it is sliced whole. -/
abbrev idxVw (o : Fin 2 → ℕ) (h : ∀ a, o a + S1x128.size a ≤ S2x128.size a) : Memref sig .scVector .vmem S128 .i32 :=
  ((iV).slice (Rect.unit (s := S2x128) o S1x128.size h) (fun _ => rfl)).squeeze S128 squeezes_S1x128_S128
abbrev rowsVw (o : Fin 3 → ℕ) (h : ∀ a, o a + S1x128x128.size a ≤ S2x128x128.size a) : Memref sig .scVector .vmem S128x128 .f32 :=
  ((rV).slice (Rect.unit (s := S2x128x128) o S1x128x128.size h) (fun _ => rfl)).squeeze S128x128 squeezes_S1x128x128_S128x128
abbrev outVw (o : Fin 4 → ℕ) (h : ∀ a, o a + S1x1x16x128.size a ≤ S2x8x16x128.size a) : Memref sig .scVector .vmem S16x128 .f32 :=
  ((oV).slice (Rect.unit (s := S2x8x16x128) o S1x1x16x128.size h) (fun _ => rfl)).squeeze S16x128 squeezes_S1x1x16x128_S16x128
abbrev wVw (o : Fin 2 → ℕ) (h : ∀ a, o a + S16x128.size a ≤ S524288x128.size a) : Memref sig .scVector .hbm S16x128 .f32 :=
  (wV).slice (Rect.unit (s := S524288x128) o S16x128.size h) (fun _ => rfl)
abbrev srcVw : Memref sig .scVector .hbm S524288x128 .f32 :=
  (xV).slice (Rect.unit (s := S524288x128) ![0, 0] S524288x128.size inb_S524288x128_S524288x128_0_0) (fun _ => rfl)

/-- The semaphore of a slot. -/
abbrev gSm (o : Fin 1 → ℕ) (h : ∀ a, o a + S1.size a ≤ S2.size a) : DmaSem sig :=
  ((cc0_scratch3.slice (Rect.unit (s := S2) o S1.size h)).squeeze S_ squeezes_S1_S_).sem
abbrev wSm (o : Fin 1 → ℕ) (h : ∀ a, o a + S1.size a ≤ S2.size a) : DmaSem sig :=
  ((cc0_scratch4.slice (Rect.unit (s := S2) o S1.size h)).squeeze S_ squeezes_S1_S_).sem

/-! ### Where the views' elements lie -/

theorem emb_idxVw (p : ℕ) (hp : p < 2) (o : Fin 2 → ℕ) (ho : o = ![p, 0]) (h) (y : S128.Idx) :
    (idxVw o h).view.emb y = (ix2 (⟨p, hp⟩ : Fin 2) (⟨(y 0).val, (y 0).isLt⟩ : Fin 128) : S2x128.Idx) := by
  subst ho
  have e : Shape.reshapeEquiv (s := S1x128) (s' := S128) squeezes_S1x128_S128.numel_eq y = (ix2 (0 : Fin 1) (⟨(y 0).val, (y 0).isLt⟩ : Fin 128) : S1x128.Idx) :=
    Shape.reshapeEquiv_eq_of_rowMajor _ (by
      rw [Shape.rowMajor_val_two, Shape.rowMajor_val_one]
      show 0 * 128 + (y 0).val = (y 0).val
      omega)
  show (Rect.unit (s := S2x128) ![p, 0] S1x128.size h).emb (Shape.reshapeEquiv (s := S1x128) (s' := S128) squeezes_S1x128_S128.numel_eq y) = _
  rw [e]
  funext a
  refine Fin.ext ?_
  rw [Rect.emb_apply]
  match a with
  | 0 => show p + 1 * 0 = p; omega
  | 1 => show 0 + 1 * (y 0).val = (y 0).val; omega

theorem emb_rowsVw (p : ℕ) (hp : p < 2) (o : Fin 3 → ℕ) (ho : o = ![p, 0, 0]) (h) (y : S128x128.Idx) :
    (rowsVw o h).view.emb y = (ix3 (⟨p, hp⟩ : Fin 2) (⟨(y 0).val, (y 0).isLt⟩ : Fin 128) (⟨(y 1).val, (y 1).isLt⟩ : Fin 128) : S2x128x128.Idx) := by
  subst ho
  have e : Shape.reshapeEquiv (s := S1x128x128) (s' := S128x128) squeezes_S1x128x128_S128x128.numel_eq y
      = (ix3 (0 : Fin 1) (⟨(y 0).val, (y 0).isLt⟩ : Fin 128) (⟨(y 1).val, (y 1).isLt⟩ : Fin 128) : S1x128x128.Idx) :=
    Shape.reshapeEquiv_eq_of_rowMajor _ (by
      rw [Shape.rowMajor_val_three, Shape.rowMajor_val_two]
      show (0 * 128 + (y 0).val) * 128 + (y 1).val = (y 0).val * 128 + (y 1).val
      omega)
  show (Rect.unit (s := S2x128x128) ![p, 0, 0] S1x128x128.size h).emb (Shape.reshapeEquiv (s := S1x128x128) (s' := S128x128) squeezes_S1x128x128_S128x128.numel_eq y) = _
  rw [e]
  funext a
  refine Fin.ext ?_
  rw [Rect.emb_apply]
  match a with
  | 0 => show p + 1 * 0 = p; omega
  | 1 => show 0 + 1 * (y 0).val = (y 0).val; omega
  | 2 => show 0 + 1 * (y 1).val = (y 1).val; omega

theorem emb_outVw (p r : ℕ) (hp : p < 2) (hr : r < 8) (o : Fin 4 → ℕ) (ho : o = ![p, r, 0, 0]) (h) (y : S16x128.Idx) :
    (outVw o h).view.emb y
      = (ix4 (⟨p, hp⟩ : Fin 2) (⟨r, hr⟩ : Fin 8) (⟨(y 0).val, (y 0).isLt⟩ : Fin 16) (⟨(y 1).val, (y 1).isLt⟩ : Fin 128) : S2x8x16x128.Idx) := by
  subst ho
  have e : Shape.reshapeEquiv (s := S1x1x16x128) (s' := S16x128) squeezes_S1x1x16x128_S16x128.numel_eq y
      = (ix4 (0 : Fin 1) (0 : Fin 1) (⟨(y 0).val, (y 0).isLt⟩ : Fin 16) (⟨(y 1).val, (y 1).isLt⟩ : Fin 128) : S1x1x16x128.Idx) :=
    Shape.reshapeEquiv_eq_of_rowMajor _ (by
      rw [Shape.rowMajor_val_four, Shape.rowMajor_val_two]
      show ((0 * 1 + 0) * 16 + (y 0).val) * 128 + (y 1).val = (y 0).val * 128 + (y 1).val
      omega)
  show (Rect.unit (s := S2x8x16x128) ![p, r, 0, 0] S1x1x16x128.size h).emb (Shape.reshapeEquiv (s := S1x1x16x128) (s' := S16x128) squeezes_S1x1x16x128_S16x128.numel_eq y) = _
  rw [e]
  funext a
  refine Fin.ext ?_
  rw [Rect.emb_apply]
  match a with
  | 0 => show p + 1 * 0 = p; omega
  | 1 => show r + 1 * 0 = r; omega
  | 2 => show 0 + 1 * (y 0).val = (y 0).val; omega
  | 3 => show 0 + 1 * (y 1).val = (y 1).val; omega

theorem emb_wVw_0 (b : ℕ) (o : Fin 2 → ℕ) (ho : o = ![b, 0]) (h) (y : S16x128.Idx) :
    ((show S524288x128.Idx from (wVw o h).view.emb y) 0).val = b + (y 0).val := by
  subst ho
  show ((Rect.unit (s := S524288x128) ![b, 0] S16x128.size h).emb y 0).val = _
  rw [Rect.emb_apply]
  show b + 1 * (y 0).val = _
  omega

theorem emb_wVw_1 (b : ℕ) (o : Fin 2 → ℕ) (ho : o = ![b, 0]) (h) (y : S16x128.Idx) :
    ((show S524288x128.Idx from (wVw o h).view.emb y) 1).val = (y 1).val := by
  subst ho
  show ((Rect.unit (s := S524288x128) ![b, 0] S16x128.size h).emb y 1).val = _
  rw [Rect.emb_apply]
  show 0 + 1 * (y 1).val = _
  omega

theorem emb_srcVw (y : S524288x128.Idx) : (srcVw).view.emb y = y := by
  show (Rect.unit (s := S524288x128) ![0, 0] S524288x128.size inb_S524288x128_S524288x128_0_0).emb y = y
  funext a
  refine Fin.ext ?_
  rw [Rect.emb_apply]
  match a with
  | 0 => show 0 + 1 * (y 0).val = (y 0).val; omega
  | 1 => show 0 + 1 * (y 1).val = (y 1).val; omega

/-! ### The views' element sets -/

theorem set_idxVw (p : ℕ) (o : Fin 2 → ℕ) (ho : o = ![p, 0]) (h) : (idxVw o h).view.set = slotI p := by
  subst ho
  show (((View.whole cc0_scratch0).slice (Rect.unit (s := S2x128) ![p, 0] S1x128.size h)).reshape S128 squeezes_S1x128_S128.numel_eq).set = slotI p
  rw [View.set_reshape, View.set_slice_whole]
  ext x
  rw [Rect.mem_set_unit]
  have h1 : (x 1).val < 128 := (x 1).isLt
  constructor
  · intro hx
    have h0 : p ≤ (x 0).val ∧ (x 0).val < p + 1 := hx 0
    exact Finset.mem_filter.mpr ⟨Finset.mem_univ _, by omega⟩
  · intro hx
    have h0 : (x 0).val = p := (Finset.mem_filter.mp hx).2
    intro a
    match a with
    | 0 => show p ≤ (x 0).val ∧ (x 0).val < p + 1; omega
    | 1 => show 0 ≤ (x 1).val ∧ (x 1).val < 0 + 128; omega

theorem set_rowsVw (p : ℕ) (o : Fin 3 → ℕ) (ho : o = ![p, 0, 0]) (h) : (rowsVw o h).view.set = slotR p := by
  subst ho
  show (((View.whole cc0_scratch1).slice (Rect.unit (s := S2x128x128) ![p, 0, 0] S1x128x128.size h)).reshape S128x128 squeezes_S1x128x128_S128x128.numel_eq).set = slotR p
  rw [View.set_reshape, View.set_slice_whole]
  ext x
  rw [Rect.mem_set_unit]
  have h1 : (x 1).val < 128 := (x 1).isLt
  have h2 : (x 2).val < 128 := (x 2).isLt
  constructor
  · intro hx
    have h0 : p ≤ (x 0).val ∧ (x 0).val < p + 1 := hx 0
    exact Finset.mem_filter.mpr ⟨Finset.mem_univ _, by omega⟩
  · intro hx
    have h0 : (x 0).val = p := (Finset.mem_filter.mp hx).2
    intro a
    match a with
    | 0 => show p ≤ (x 0).val ∧ (x 0).val < p + 1; omega
    | 1 => show 0 ≤ (x 1).val ∧ (x 1).val < 0 + 128; omega
    | 2 => show 0 ≤ (x 2).val ∧ (x 2).val < 0 + 128; omega

theorem set_outVw (p r : ℕ) (o : Fin 4 → ℕ) (ho : o = ![p, r, 0, 0]) (h) : (outVw o h).view.set = blkO p r := by
  subst ho
  show (((View.whole cc0_scratch2).slice (Rect.unit (s := S2x8x16x128) ![p, r, 0, 0] S1x1x16x128.size h)).reshape S16x128 squeezes_S1x1x16x128_S16x128.numel_eq).set = blkO p r
  rw [View.set_reshape, View.set_slice_whole]
  ext x
  rw [Rect.mem_set_unit]
  have h2 : (x 2).val < 16 := (x 2).isLt
  have h3 : (x 3).val < 128 := (x 3).isLt
  constructor
  · intro hx
    have h0 : p ≤ (x 0).val ∧ (x 0).val < p + 1 := hx 0
    have h1 : r ≤ (x 1).val ∧ (x 1).val < r + 1 := hx 1
    exact Finset.mem_filter.mpr ⟨Finset.mem_univ _, by omega, by omega⟩
  · intro hx
    have h0 : (x 0).val = p ∧ (x 1).val = r := (Finset.mem_filter.mp hx).2
    intro a
    match a with
    | 0 => show p ≤ (x 0).val ∧ (x 0).val < p + 1; omega
    | 1 => show r ≤ (x 1).val ∧ (x 1).val < r + 1; omega
    | 2 => show 0 ≤ (x 2).val ∧ (x 2).val < 0 + 16; omega
    | 3 => show 0 ≤ (x 3).val ∧ (x 3).val < 0 + 128; omega

theorem set_wVw (w n r : ℕ) (hn : n < 128) (hr : r < 8) (o : Fin 2 → ℕ) (ho : o = ![baseW w n r, 0]) (h) :
    (wVw o h).view.set = pieceW w n r := by
  subst ho
  show ((View.whole main_v1_scv).slice (Rect.unit (s := S524288x128) ![baseW w n r, 0] S16x128.size h)).set = pieceW w n r
  rw [View.set_slice_whole]
  ext x
  rw [Rect.mem_set_unit]
  have h1 : (x 1).val < 128 := (x 1).isLt
  have hi : x ∈ pieceW w n r ↔ ((x 0).val / 16384 = w ∧ iter (x 0).val = n ∧ (x 0).val / 256 % 8 = r) := by
    unfold pieceW; rw [Finset.mem_filter]; exact and_iff_right (Finset.mem_univ _)
  rw [hi]
  unfold iter
  constructor
  · intro hx
    have h0 : baseW w n r ≤ (x 0).val ∧ (x 0).val < baseW w n r + 16 := hx 0
    unfold baseW at h0
    omega
  · intro hx a
    match a with
    | 0 => show baseW w n r ≤ (x 0).val ∧ (x 0).val < baseW w n r + 16; unfold baseW; omega
    | 1 => show 0 ≤ (x 1).val ∧ (x 1).val < 0 + 128; omega

theorem set_srcVw : (srcVw).view.set = Finset.univ := by
  ext x
  refine ⟨fun _ => Finset.mem_univ _, fun _ => ?_⟩
  exact Finset.mem_map.mpr ⟨x, Finset.mem_univ _, emb_srcVw x⟩

theorem gSm_eq (p : ℕ) (hp : p < 2) (o : Fin 1 → ℕ) (ho : o = ![p]) (h) : gSm o h = (⟨p, by show p < 10; omega⟩ : Fin 10) := by
  subst ho
  refine Fin.ext ?_
  show 0 + (S2.rowMajor ((Rect.unit (s := S2) ![p] S1.size h).emb (Shape.reshapeEquiv (s := S1) (s' := S_) squeezes_S1_S_.numel_eq fun i => i.elim0))).val = p
  rw [Shape.rowMajor_val_one, Rect.emb_apply]
  have hz : ∀ z : Fin 1, 0 + (p + 1 * z.val) = p := fun z => by omega
  exact hz _

theorem wSm_eq (p : ℕ) (hp : p < 2) (o : Fin 1 → ℕ) (ho : o = ![p]) (h) : wSm o h = (⟨2 + p, by show 2 + p < 10; omega⟩ : Fin 10) := by
  subst ho
  refine Fin.ext ?_
  show 2 + (S2.rowMajor ((Rect.unit (s := S2) ![p] S1.size h).emb (Shape.reshapeEquiv (s := S1) (s' := S_) squeezes_S1_S_.numel_eq fun i => i.elim0))).val = 2 + p
  rw [Shape.rowMajor_val_one, Rect.emb_apply]
  have hz : ∀ z : Fin 1, 2 + (p + 1 * z.val) = 2 + p := fun z => by omega
  exact hz _

end Cert.Proof.Sc
-- ==== Proof.Rules.lean ====
/-
  The rules of the operations of a task, each for the resources in the form in which the task's invariant carries them:
  an indirect stream started and awaited, a piece of the transposed array written and awaited, and the loads and stores
  of the copy loop and of the index loop.
-/
module

public import proofs.«01_k».proof.Proof.Setup

@[expose] public section

noncomputable section

namespace Cert.Proof.Sc

open Cert.KernelIdeal
open Cert.KernelIdeal.Facts₀ Cert.KernelIdeal.Facts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The semaphores and the amounts -/

/-- A slot's gather semaphore and its write semaphore. -/
def gS (p : ℕ) : DmaSem sig := if h : p < 2 then (⟨p, by show p < 10; omega⟩ : Fin 10) else (⟨0, by decide⟩ : Fin 10)
def wS (p : ℕ) : DmaSem sig := if h : p < 2 then (⟨2 + p, by show 2 + p < 10; omega⟩ : Fin 10) else (⟨2, by decide⟩ : Fin 10)

theorem gSm_gS (p : ℕ) (hp : p < 2) (o : Fin 1 → ℕ) (ho : o = ![p]) (h) : gSm o h = gS p := by
  rw [gSm_eq p hp o ho h]; unfold gS; rw [dif_pos hp]

theorem wSm_wS (p : ℕ) (hp : p < 2) (o : Fin 1 → ℕ) (ho : o = ![p]) (h) : wSm o h = wS p := by
  rw [wSm_eq p hp o ho h]; unfold wS; rw [dif_pos hp]

theorem inbR0 : ∀ a, (![0, 0, 0] : Fin 3 → ℕ) a + S1x128x128.size a ≤ S2x128x128.size a := by decide
theorem inbO0 : ∀ a, (![0, 0, 0, 0] : Fin 4 → ℕ) a + S1x1x16x128.size a ≤ S2x8x16x128.size a := by decide
theorem inbW0 : ∀ a, (![0, 0] : Fin 2 → ℕ) a + S16x128.size a ≤ S524288x128.size a := by decide

/-- What a stream of rows credits its semaphore; what a written piece credits its own. -/
def NG : ℕ := (rowsVw ![0, 0, 0] inbR0).view.dmaCredit
def NW : ℕ := (wVw ![0, 0] inbW0).view.dmaCredit

theorem NG_eq (o : Fin 3 → ℕ) (h) : (rowsVw o h).view.dmaCredit = NG := rfl
theorem NW_eq (o : Fin 2 → ℕ) (h) : (wVw o h).view.dmaCredit = NW := rfl
theorem NW_pos : 0 < NW := by decide

/-! ## The indirect stream -/

/-- What the stream of iteration `n` delivers in slot `p`. -/
def GD (d : Dev nD) (L : grid0.Coords) (q : PosShare TreeShare) (X : S524288x128.Idx → Elt F .f32) (p n : ℕ) : sProp 𝕄 :=
  iprop((rLoc d L ↦[slotR p]{fullShare} (rowsT X (wid L) n : S2x128x128.Idx → Elt F .f32)) ∗ (xLoc d ↦{q} X)
    ∗ (iLoc d L ↦[slotI p]{fullShare} (idxT (wid L) n : S2x128.Idx → BitVec 32)))

theorem rows_of_idx (L : grid0.Coords) (X : S524288x128.Idx → Elt F .f32) (n p : ℕ) (hp : p < 2) (hn : n < 128)
    (oR : Fin 3 → ℕ) (hoR : oR = ![p, 0, 0]) (hR) (oI : Fin 2 → ℕ) (hoI : oI = ![p, 0]) (hI)
    (hin : ∀ x, ((idxVw oI hI).view.read (Elt F) (idxT (wid L) n) x).toNat < S524288x128.size (gathers_S524288x128_S128x128).axis)
    (f : S2x128x128.Idx → Elt F .f32) (i : S2x128x128.Idx) (hi : i ∈ slotR p) :
    (rowsVw oR hR).view.write (Elt F) f
      (SparseCore.gatherPayload gathers_S524288x128_S128x128 ((srcVw).view.read (Elt F) X)
        (SparseCore.rows ((idxVw oI hI).view.read (Elt F) (idxT (wid L) n)) rfl hin)) Finset.univ i = rowsT X (wid L) n i := by
  have h0 : (i 0).val = p := (Finset.mem_filter.mp hi).2
  have hw := wid_lt L
  obtain ⟨y, hy⟩ : ∃ y : S128x128.Idx, y = (ix2 (⟨(i 1).val, (i 1).isLt⟩ : Fin 128) (⟨(i 2).val, (i 2).isLt⟩ : Fin 128)) := ⟨_, rfl⟩
  have hi' : i = (rowsVw oR hR).view.emb y := by
    rw [emb_rowsVw p hp oR hoR, hy]
    funext a; refine Fin.ext ?_
    match a with
    | 0 => exact h0
    | 1 => rfl
    | 2 => rfl
  rw [hi', View.write_emb_of_mem _ _ (Finset.mem_univ _), ← hi']
  show X ((srcVw).view.emb ((gathers_S524288x128_S128x128).idx _ y)) = _
  rw [emb_srcVw]
  unfold rowsT pick
  have ha : (i 1).val < 128 := (i 1).isLt
  have hb : (i 2).val < 128 := (i 2).isLt
  have hs := srcRow_lt hw hn ha
  refine congrArg X ?_
  funext a
  refine Fin.ext ?_
  match a with
  | 0 =>
    have e := (gathers_S524288x128_S128x128).idx_axis (SparseCore.rows ((idxVw oI hI).view.read (Elt F) (idxT (wid L) n)) rfl hin) y
    refine (congrArg Fin.val e).trans ?_
    show (idxT (wid L) n ((idxVw oI hI).view.emb _)).toNat = srcRow (wid L) n (i 1).val % 524288
    rw [emb_idxVw p hp oI hoI]
    unfold idxT
    rw [BitVec.toNat_ofNat]
    have hv : ∀ z : S128.Idx, z = S128.rowMajor.symm ((y 0).cast rfl) → (z 0).val = (i 1).val := by
      intro z hz
      have := congrArg (fun u => (S128.rowMajor u).val) hz
      simp only [Equiv.apply_symm_apply, Shape.rowMajor_val_one] at this
      rw [this, hy]; rfl
    have hz := hv _ rfl
    show srcRow (wid L) n ((S128.rowMajor.symm ((y 0).cast rfl)) 0).val % 2 ^ 32 = _
    rw [hz]
    omega
  | 1 =>
    have e := (gathers_S524288x128_S128x128).idx_of_ne (SparseCore.rows ((idxVw oI hI).view.read (Elt F) (idxT (wid L) n)) rfl hin) y 1 (by decide)
    refine e.trans ?_
    show (y 1).val = (i 2).val % 128
    rw [Nat.mod_eq_of_lt hb, hy]; rfl

theorem idx_inb (L : grid0.Coords) (n p : ℕ) (hp : p < 2) (hn : n < 128) (oI : Fin 2 → ℕ) (hoI : oI = ![p, 0]) (hI) (x : S128.Idx) :
    ((idxVw oI hI).view.read (Elt F) (idxT (wid L) n) x).toNat < S524288x128.size (gathers_S524288x128_S128x128).axis := by
  show (idxT (wid L) n ((idxVw oI hI).view.emb x)).toNat < 524288
  rw [emb_idxVw p hp oI hoI]
  unfold idxT
  rw [BitVec.toNat_ofNat]
  have ha : (x 0).val < 128 := (x 0).isLt
  have hs := srcRow_lt (wid_lt L) hn ha
  show srcRow (wid L) n (x 0).val % 2 ^ 32 < 524288
  omega

theorem bind_ret_unit {Ef : Type → Type _} (p : Prog Ef PUnit) : (p >>= fun _ => Prog.ret ⟨⟩) = p := Prog.bind_pure p

theorem gather_start (d : Dev nD) (L : grid0.Coords) (q : PosShare TreeShare) (X : S524288x128.Idx → Elt F .f32) (n p : ℕ) (hp : p < 2) (hn : n < 128)
    (oR : Fin 3 → ℕ) (hoR : oR = ![p, 0, 0]) (hR) (oI : Fin 2 → ℕ) (hoI : oI = ![p, 0]) (hI) (oS : Fin 1 → ℕ) (hoS : oS = ![p]) (hS)
    (h1) (h2) (h3) (h4) (f : S2x128x128.Idx → Elt F .f32) (Q : PUnit → sProp 𝕄) :
    iprop((xLoc d ↦{q} X) ∗ (rLoc d L ↦[slotR p]{fullShare} f) ∗ (iLoc d L ↦[slotI p]{fullShare} (idxT (wid L) n : S2x128.Idx → BitVec 32))
        ∗ semVal (thr d L, SemLoc.dma (gS p)) 0)
      ⊢ iprop((Transfers.Flight countersEmb (thr d L) (.dma (gS p)) (default : HIx 1) NG (GD d L q X p n) -∗ Q ⟨⟩)
          -∗ wp frame (wpE (defs₀ (F := F)) 𝒱₀ (thr d L) none) Set.univ
            (SparseCore.enqueueIndirectGather rfl srcVw (rowsVw oR hR) gathers_S524288x128_S128x128 (idxVw oI hI) rfl (gSm oS hS) h1 h2 h3 h4) Q) := by
  rw [gSm_gS p hp oS hoS hS]
  have hN : ∑ j, ((rowsVw oR hR).slice (S128x128.rowRect (gathers_S524288x128_S128x128).axis' j) (S128x128.stride_rowRect (gathers_S524288x128_S128x128).axis' j)).view.dmaCredit
      = NG := by
    refine (Finset.sum_congr rfl (fun j _ => (rfl : _ = ((rowsVw ![0, 0, 0] inbR0).slice (S128x128.rowRect (gathers_S524288x128_S128x128).axis' (show Fin 128 from 0))
      (S128x128.stride_rowRect (gathers_S524288x128_S128x128).axis' (show Fin 128 from 0))).view.dmaCredit))).trans ?_
    rw [Finset.sum_const]
    decide
  have hin := idx_inb (F := F) L n p hp hn oI hoI hI
  have base := SparseCore.wp_indirectGatherLocal (defs := defs₀ (F := F)) (Q := Q) countersEmb 𝒱₀ (thr d L) none (src := srcVw) (dst := rowsVw oR hR)
    (offs := idxVw oI hI) (hn := rfl) (sem := gS p) (hp := rfl) (hsrc := h1) (he := h2) (hsp := h3) (hr := h4) (hg := gathers_S524288x128_S128x128) (default : HIx 1) NG hN (by decide)
    (fs := X) (fd := f) (fo := (idxT (wid L) n : S2x128.Idx → BitVec 32)) (q := q) (qo := fullShare) (k := fun _ => .ret ⟨⟩) hin
  rw [bind_ret_unit] at base
  iintro ⟨Hx, Hr, Hi, Hs⟩ Hk
  iapply base $$ [Hx Hr Hi Hs]
  · rw [set_rowsVw p oR hoR, set_idxVw p oI hoI, set_srcVw]
    isplitl [Hx]; · iexact Hx
    isplitl [Hr]; · iexact Hr
    isplitl [Hi]; · iexact Hi
    iexact Hs
  iintro Hfl
  iapply (le_wp_ret frame (wpE (defs₀ (F := F)) 𝒱₀ (thr d L) none) (E := Set.univ) (⟨⟩ : PUnit) Q)
  iapply Hk
  iapply (Transfers.Flight_mono countersEmb (thr d L) (D' := GD d L q X p n) ?_) $$ Hfl
  unfold GD
  rw [set_rowsVw p oR hoR, set_idxVw p oI hoI, set_srcVw]
  exact sep_mono_left (Entails.of_eq (pointsTo_congr fun i hi => rows_of_idx L X n p hp hn oR hoR hR oI hoI hI hin f i hi))

theorem gather_wait (d : Dev nD) (L : grid0.Coords) (p : ℕ) (hp : p < 2) (DD : sProp 𝕄)
    (oR : Fin 3 → ℕ) (hR) (oS : Fin 1 → ℕ) (hoS : oS = ![p]) (hS) (h1) (h2)
    (O : CellTallies nD τ sig (HIx 1)) (W : Waits sig (HIx 1)) (Q : PUnit → sProp 𝕄) :
    iprop(Transfers.Flight countersEmb (thr d L) (.dma (gS p)) (default : HIx 1) NG DD ∗ owes (thr d L) O W ∗ Transfers.MayWaits (thr d L) (default : HIx 1) O)
      ⊢ iprop((iprop(DD ∗ semVal (thr d L, SemLoc.dma (gS p)) 0 ∗ owes (thr d L) O (insert (SemLoc.dma (gS p), (default : HIx 1)) W)) -∗ Q ⟨⟩)
          -∗ wp frame (wpE (defs₀ (F := F)) 𝒱₀ (thr d L) none) Set.univ
            (SparseCore.waitIndirectGather (gSm oS hS) srcVw (rowsVw oR hR) h1 h2) Q) := by
  rw [gSm_gS p hp oS hoS hS]
  iintro ⟨Hfl, HO, Hmw⟩ Hk
  iapply (Transfers.wp_waitLocalO (defs := defs₀ (F := F)) (Q := Q) countersEmb 𝒱₀ (thr d L) none (default : HIx 1) (NG_eq oR hR) (k := fun _ => .ret ⟨⟩)) $$ [Hfl HO Hmw]
  · isplitl [Hfl]; · iexact Hfl
    isplitl [HO]; · iexact HO
    iapply (Transfers.MayWaits.elim (SemLoc.dma (gS p))) $$ Hmw
  iintro H
  iapply (le_wp_ret frame (wpE (defs₀ (F := F)) 𝒱₀ (thr d L) none) (E := Set.univ) (⟨⟩ : PUnit) Q)
  iapply Hk $$ H

end Cert.Proof.Sc
-- ==== Proof.Copy.lean ====
/-
  The copy loop of a trip: row `u` of the out scratch's eight blocks receives, by 64 moves of 16 words, the eight rows
  `8 * u, …` of the row scratch. The moves are one program, unrolled; here they are a chain indexed by the move.
-/
module

public import proofs.«01_k».proof.Proof.Rules

@[expose] public section

noncomputable section

namespace Cert.Proof.Sc

open Cert.KernelIdeal
open Cert.KernelIdeal.Facts₀ Cert.KernelIdeal.Facts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The chain of moves -/

theorem ld_inb (t : Fin k0_t2_loop.trips) (u : Fin k0_t4_loop.trips) (k : ℕ) :
    ∀ a, ldF t u (BitVec.ofNat 32 (k / 8 % 8)) (16 * (k % 8)) a + S1x1x16.size a ≤ S2x128x128.size a :=
  ldF_inb t u ⟨k / 8 % 8, Nat.mod_lt _ (by decide)⟩ _ (by omega)

theorem st_inb (t : Fin k0_t2_loop.trips) (u : Fin k0_t4_loop.trips) (k : ℕ) :
    ∀ a, stF t (BitVec.ofNat 32 (k % 8)) u (16 * (k / 8 % 8)) a + S1x1x1x16.size a ≤ S2x8x16x128.size a :=
  stF_inb t _ (by rw [BitVec.toNat_ofNat]; omega) u _ (by omega)

/-- The moves from the `k`-th on, `m` of them. -/
def chain (L : grid0.Coords) (t : Fin k0_t2_loop.trips) (u : Fin k0_t4_loop.trips) :
    ℕ → ℕ → Prog (TpuEff nD τ sig (Elt F) Λ₀ (.scVector ((L 0).castLE hcore0) ((L 1).castLE hsub0))) PUnit
  | 0, _ => .ret ⟨⟩
  | m + 1, k =>
    .op (.load rV (Rect.unit (s := S2x128x128) (ldF t u (BitVec.ofNat 32 (k / 8 % 8)) (16 * (k % 8))) S1x1x16.size (ld_inb t u k)).toLoadRect (View.loadsAt_vmem h_S1x1x16))
      fun a => .op (.load oV (Rect.unit (s := S2x8x16x128) (stF t (BitVec.ofNat 32 (k % 8)) u (16 * (k / 8 % 8))) S1x1x1x16.size (st_inb t u k)).toLoadRect (View.loadsAt_vmem h_S1x1x1x16))
        fun _ => .op (.store oV (Rect.unit (s := S2x8x16x128) (stF t (BitVec.ofNat 32 (k % 8)) u (16 * (k / 8 % 8))) S1x1x1x16.size (st_inb t u k))
            (shapeCast S1x1x1x16 (shapeCast S16 a shapeCasts_S1x1x16_S16) shapeCasts_S16_S1x1x1x16) Finset.univ (View.stores_vmem_bits_univ h_S1x1x1x16 rfl) (.inl rfl))
          fun _ => chain L t u m (k + 1)

theorem copy_eq (L : grid0.Coords) (v523 c0 c1 : BitVec 32) (t : Fin k0_t2_loop.trips) :
    k0_part32 (F := F) L xV (Memref.isWhole_whole _) wV (Memref.isWhole_whole _) iV (Memref.isWhole_whole _)
        rV (Memref.isWhole_whole _) oV (Memref.isWhole_whole _) cc0_scratch3 cc0_scratch4 t v523 c0 c1
      = (Scf.Loop.for k0_t4_loop k0_t4_ok ⟨⟩ (fun u _ => chain L t u 64 0) >>= fun _ => pure ⟨⟩) := by
  rfl

end Cert.Proof.Sc
-- ==== Proof.Clean.lean ====
/-
  A task's program with its offsets and its unrolled runs gathered: the moves of the copy loop, the eight writes of an
  iteration and the eight waits for them are chains, and the index lists are stored at scalars named here. Each equation
  says that the kernel's own text is this program.
-/
module

public import proofs.«01_k».proof.Proof.Copy

@[expose] public section

noncomputable section

namespace Cert.Proof.Sc

open Cert.KernelIdeal
open Cert.KernelIdeal.Facts₀ Cert.KernelIdeal.Facts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Programs of a task. -/
abbrev PG (L : grid0.Coords) : Type _ := Prog (TpuEff nD τ sig (Elt F) Λ₀ (.scVector ((L 0).castLE hcore0) ((L 1).castLE hsub0))) PUnit

/-! ## The index lists -/

/-- The task's first group; sixteen lanes, 256 rows apart. -/
def w8 (L : grid0.Coords) : BitVec 32 :=
  Scalar.muli (Scalar.addi (Scalar.muli (BitVec.ofNat 32 (L 1).val) 2#32) (BitVec.ofNat 32 (L 0).val)) 8#32
def lanes : IVec S16 32 := muli (iota .scVector S16 32 [0] iota_S16_d0_w32_scVector) (broadcast S16 256#32)

/-- The first row of the `u`-th sixteen of the first list, and of the list made in trip `t`. -/
def idxA0 (u : Fin k0_t1_loop.trips) : BitVec 32 :=
  Scalar.muli (Scalar.addi (Scalar.muli (Scalar.remsi 0#32 16#32) 128#32)
    (Scalar.muli (Scalar.addi 0#32 (Scalar.muli (Scf.iv 0#32 1#32 u) 1#32)) 16#32)) 256#32
def idxA (t : Fin k0_t2_loop.trips) (u : Fin k0_t3_loop.trips) : BitVec 32 :=
  Scalar.muli (Scalar.addi (Scalar.muli (Scalar.remsi (nxt t) 16#32) 128#32)
    (Scalar.muli (Scalar.addi 0#32 (Scalar.muli (Scf.iv 0#32 1#32 u) 1#32)) 16#32)) 256#32

/-- Sixteen entries of a list stored. -/
def idxStep (L : grid0.Coords) (o : Fin 2 → ℕ) (h : ∀ a, o a + S1x16.size a ≤ S2x128.size a) (s : BitVec 32) : PG (F := F) L :=
  .op (.load iV (Rect.unit (s := S2x128) o S1x16.size h).toLoadRect (View.loadsAt_vmem h_S1x16))
    fun _ => .op (.store iV (Rect.unit (s := S2x128) o S1x16.size h) (shapeCast S1x16 (addi lanes (broadcast S16 s)) shapeCasts_S16_S1x16)
        Finset.univ (View.stores_vmem_bits_univ h_S1x16 rfl) (.inl rfl))
      fun _ => .ret ⟨⟩

/-! ## The writes and their waits -/

/-- The block `r` of the slot of trip `t`. -/
abbrev blkF (t : Fin k0_t2_loop.trips) (r : ℕ) : Fin 4 → ℕ := ![(pslot t).toNat, r, 0, 0]

theorem blkF_eq (t : Fin k0_t2_loop.trips) (r : ℕ) : blkF t r = ![t.val % 2, r, 0, 0] := by
  have e : (pslot t).toNat = t.val % 2 := pslot_nat t
  unfold blkF; rw [e]

theorem blkF_inb (t : Fin k0_t2_loop.trips) (r : ℕ) : ∀ a, blkF t (r % 8) a + S1x1x16x128.size a ≤ S2x8x16x128.size a := by
  rw [blkF_eq]
  intro a
  match a with
  | 0 => show t.val % 2 + 1 ≤ 2; omega
  | 1 => show r % 8 + 1 ≤ 8; omega
  | 2 => show 0 + 16 ≤ 16; omega
  | 3 => show 0 + 128 ≤ 128; omega

/-- The writes of trip `t` from the `r`-th on, `m` of them. -/
def issues (L : grid0.Coords) (t : Fin k0_t2_loop.trips) : ℕ → ℕ → PG (F := F) L
  | 0, _ => .ret ⟨⟩
  | m + 1, r =>
    .op (.enqueueDma (outVw (blkF t (r % 8)) (blkF_inb t r))
        (.here (wVw (k0_off92 L t (BitVec.ofNat 32 (r % 8))) (k0_off92_inb L t ⟨r % 8, Nat.mod_lt _ (by decide)⟩)))
        (.dma (wSm (k0_off8 t) (k0_off8_inb t))) ((View.wordExact_bits rfl).reshape _ _) (View.wordExact_bits rfl) ⟨Or.inl rfl, trivial⟩)
      fun _ => issues L t m (r + 1)

/-- The waits for the writes out of one slot, from the `r`-th on, `m` of them. -/
def waits (L : grid0.Coords) (oS : Fin 1 → ℕ) (hS : ∀ a, oS a + S1.size a ≤ S2.size a) (oO : ℕ → Fin 4 → ℕ)
    (hO : ∀ r a, oO (r % 8) a + S1x1x16x128.size a ≤ S2x8x16x128.size a) (oW : ℕ → Fin 2 → ℕ)
    (hW : ∀ r a, oW (r % 8) a + S16x128.size a ≤ S524288x128.size a) : ℕ → ℕ → PG (F := F) L
  | 0, _ => .ret ⟨⟩
  | m + 1, r =>
    .op (.waitDma2 (wSm oS hS) (outVw (oO (r % 8)) (hO r)) (wVw (oW (r % 8)) (hW r))
        ((View.wordExact_bits rfl).reshape _ _) (View.wordExact_bits rfl))
      fun _ => waits L oS hS oO hO oW hW m (r + 1)

theorem off10_in (L : grid0.Coords) (t : Fin k0_t2_loop.trips) (h : k0_cond2 t = 1#1) (r : ℕ) :
    ∀ a, k0_off10 L t (BitVec.ofNat 32 (r % 8)) a + S16x128.size a ≤ S524288x128.size a :=
  k0_off10_inb L t h ⟨r % 8, Nat.mod_lt _ (by decide)⟩

theorem off100_in (L : grid0.Coords) (b : Fin 2) (r : ℕ) :
    ∀ a, k0_off100 L (BitVec.ofNat 32 (r % 8)) (BitVec.ofNat 32 (126 + b.val)) a + S16x128.size a ≤ S524288x128.size a :=
  k0_off100_inb L ⟨r % 8, Nat.mod_lt _ (by decide)⟩ b

theorem blk_in (p : Fin 2) (r : ℕ) : ∀ a, (![p.val, r % 8, 0, 0] : Fin 4 → ℕ) a + S1x1x16x128.size a ≤ S2x8x16x128.size a := by
  intro a
  have hp := p.isLt
  match a with
  | 0 => show p.val + 1 ≤ 2; omega
  | 1 => show r % 8 + 1 ≤ 8; omega
  | 2 => show 0 + 16 ≤ 16; omega
  | 3 => show 0 + 128 ≤ 128; omega

/-! ## A trip -/

/-- The next list made and its stream started, when there is a next. -/
def tripA (L : grid0.Coords) (t : Fin k0_t2_loop.trips) : PG (F := F) L :=
  if h1 : k0_cond1 t = 1#1 then
      (Scf.Loop.for k0_t3_loop (k0_t3_ok t h1) ⟨⟩ (fun u _ => idxStep L (k0_off2 t u) (k0_off2_inb t u h1)
          (Scalar.addi (idxA t u) (Scalar.addi (w8 L) (fdiv (nxt t) 16#32)))) >>= fun _ =>
        SparseCore.enqueueIndirectGather rfl srcVw (rowsVw (k0_off3 t) (k0_off3_inb t h1)) gathers_S524288x128_S128x128
          (idxVw (k0_off4 t) (k0_off4_inb t h1)) rfl (gSm (k0_off5 t) (k0_off5_inb t h1)) (View.wordExact_bits rfl) rfl (Or.inl rfl) >>= fun _ => pure PUnit.unit)
    else pure PUnit.unit

/-- The rows of this trip awaited. -/
def tripB (L : grid0.Coords) (t : Fin k0_t2_loop.trips) : PG (F := F) L :=
  SparseCore.waitIndirectGather (gSm (k0_off8 t) (k0_off8_inb t)) srcVw (rowsVw (k0_off6 t) (k0_off6_inb t)) (View.wordExact_bits rfl)
    ((View.wordExact_bits rfl).reshape _ _)

/-- The writes of the trip before the last awaited, when there was one. -/
def tripC (L : grid0.Coords) (t : Fin k0_t2_loop.trips) : PG (F := F) L :=
  if h2 : k0_cond2 t = 1#1 then
      waits L (k0_off11 t) (k0_off11_inb t h2) (blkF t) (blkF_inb t) (fun r => k0_off10 L t (BitVec.ofNat 32 r)) (off10_in L t h2) 8 0
    else pure PUnit.unit

/-- The rows moved to the out scratch. -/
def tripD (L : grid0.Coords) (t : Fin k0_t2_loop.trips) : PG (F := F) L :=
  Scf.Loop.for k0_t4_loop k0_t4_ok ⟨⟩ (fun u _ => chain L t u 64 0) >>= fun _ => pure ⟨⟩

def trip (L : grid0.Coords) (t : Fin k0_t2_loop.trips) : PG (F := F) L :=
  tripA L t >>= fun _ => tripB L t >>= fun _ => tripC L t >>= fun _ => tripD L t >>= fun _ => issues L t 8 0

/-! ## The task -/

/-- The first list made and its stream started; the trips; the last two trips' writes awaited. -/
def task0 (L : grid0.Coords) : PG (F := F) L :=
  Scf.Loop.for k0_t1_loop k0_t1_ok ⟨⟩ (fun u _ => idxStep L (k0_off1 u) (k0_off1_inb u) (Scalar.addi (idxA0 u) (Scalar.addi (w8 L) 0#32))) >>= fun _ => pure ⟨⟩
def taskG (L : grid0.Coords) : PG (F := F) L :=
  SparseCore.enqueueIndirectGather rfl srcVw (rowsVw ![0, 0, 0] inb_S2x128x128_S1x128x128_0_0_0) gathers_S524288x128_S128x128
    (idxVw ![0, 0] inb_S2x128_S1x128_0_0) rfl (gSm ![0] inb_S2_S1_0) (View.wordExact_bits rfl) rfl (Or.inl rfl)
def taskT (L : grid0.Coords) : PG (F := F) L := Scf.Loop.for k0_t2_loop k0_t2_ok ⟨⟩ (fun t _ => trip L t) >>= fun _ => pure ⟨⟩
def drain (L : grid0.Coords) (p b : Fin 2) (hS : ∀ a, (![p.val] : Fin 1 → ℕ) a + S1.size a ≤ S2.size a) : PG (F := F) L :=
  waits L ![p.val] hS (fun r => ![p.val, r, 0, 0]) (blk_in p) (fun r => k0_off100 L (BitVec.ofNat 32 r) (BitVec.ofNat 32 (126 + b.val))) (off100_in L b) 8 0

def task (L : grid0.Coords) : PG (F := F) L :=
  task0 L >>= fun _ => taskG L >>= fun _ => taskT L >>= fun _ => drain L 1 1 inb_S2_S1_1 >>= fun _ => drain L 0 0 inb_S2_S1_0

theorem part28_eq (L : grid0.Coords) (t : Fin k0_t2_loop.trips) :
    k0_part28 (F := F) L xV (Memref.isWhole_whole _) wV (Memref.isWhole_whole _) iV (Memref.isWhole_whole _)
        rV (Memref.isWhole_whole _) oV (Memref.isWhole_whole _) cc0_scratch3 cc0_scratch4 (w8 L) lanes t (nxt t) (Scalar.remsi (nxt t) 2#32)
      = tripA L t := rfl

theorem part29_eq (L : grid0.Coords) (t : Fin k0_t2_loop.trips) :
    k0_part29 (F := F) L xV (Memref.isWhole_whole _) wV (Memref.isWhole_whole _) iV (Memref.isWhole_whole _)
        rV (Memref.isWhole_whole _) oV (Memref.isWhole_whole _) cc0_scratch3 cc0_scratch4 t (nxt t)
      = tripB L t := rfl

theorem part30_eq (L : grid0.Coords) (t : Fin k0_t2_loop.trips) :
    k0_part30 (F := F) L xV (Memref.isWhole_whole _) wV (Memref.isWhole_whole _) iV (Memref.isWhole_whole _)
        rV (Memref.isWhole_whole _) oV (Memref.isWhole_whole _) cc0_scratch3 cc0_scratch4 (w8 L) t (nxt t)
      = tripC L t := rfl

theorem part27_eq (L : grid0.Coords) (t : Fin k0_t2_loop.trips) :
    k0_part27 (F := F) L xV (Memref.isWhole_whole _) wV (Memref.isWhole_whole _) iV (Memref.isWhole_whole _)
        rV (Memref.isWhole_whole _) oV (Memref.isWhole_whole _) cc0_scratch3 cc0_scratch4 0#32 1#32 t
      = pure ⟨nxt t, Scalar.remsi (nxt t) 2#32, pslot t⟩ := rfl

theorem part31_eq (L : grid0.Coords) :
    k0_part31 (F := F) L xV (Memref.isWhole_whole _) wV (Memref.isWhole_whole _) iV (Memref.isWhole_whole _)
        rV (Memref.isWhole_whole _) oV (Memref.isWhole_whole _) cc0_scratch3 cc0_scratch4 = pure ⟨0#32, 1#32⟩ := rfl

theorem part38_eq (L : grid0.Coords) (t : Fin k0_t2_loop.trips) (a : BitVec 32) (b : BitVec 1) :
    k0_part38 (F := F) L xV (Memref.isWhole_whole _) wV (Memref.isWhole_whole _) iV (Memref.isWhole_whole _)
        rV (Memref.isWhole_whole _) oV (Memref.isWhole_whole _) cc0_scratch3 cc0_scratch4 t a b = issues L t 3 0 := rfl

theorem part43_eq (L : grid0.Coords) :
    k0_part43 (F := F) L xV (Memref.isWhole_whole _) wV (Memref.isWhole_whole _) iV (Memref.isWhole_whole _)
        rV (Memref.isWhole_whole _) oV (Memref.isWhole_whole _) cc0_scratch3 cc0_scratch4 (w8 L) lanes 0#32 1#32
      = taskT L := by
  unfold k0_part43 taskT trip
  simp only [part27_eq, part28_eq, part29_eq, part30_eq, part31_eq, copy_eq, pure_bind]
  rfl

theorem part40_eq (L : grid0.Coords) :
    k0_part40 (F := F) L xV (Memref.isWhole_whole _) wV (Memref.isWhole_whole _) iV (Memref.isWhole_whole _)
        rV (Memref.isWhole_whole _) oV (Memref.isWhole_whole _) cc0_scratch3 cc0_scratch4
      = pure ⟨w8 L, lanes, Scalar.addi (w8 L) 0#32, Scalar.muli (Scalar.remsi 0#32 16#32) 128#32, 0#32, 1#32⟩ := rfl

theorem part41_eq (L : grid0.Coords) :
    k0_part41 (F := F) L xV (Memref.isWhole_whole _) wV (Memref.isWhole_whole _) iV (Memref.isWhole_whole _)
        rV (Memref.isWhole_whole _) oV (Memref.isWhole_whole _) cc0_scratch3 cc0_scratch4 lanes (Scalar.addi (w8 L) 0#32)
        (Scalar.muli (Scalar.remsi 0#32 16#32) 128#32) 0#32 1#32
      = task0 L := rfl

theorem part42_eq (L : grid0.Coords) :
    k0_part42 (F := F) L xV (Memref.isWhole_whole _) wV (Memref.isWhole_whole _) iV (Memref.isWhole_whole _)
        rV (Memref.isWhole_whole _) oV (Memref.isWhole_whole _) cc0_scratch3 cc0_scratch4 = (taskG L >>= fun _ => pure ⟨0#32, 1#32⟩) := rfl

theorem task_eq (L : grid0.Coords) :
    cc0__sc_transpose_body (F := F) L xV (Memref.isWhole_whole _) wV (Memref.isWhole_whole _) iV (Memref.isWhole_whole _)
        rV (Memref.isWhole_whole _) oV (Memref.isWhole_whole _) cc0_scratch3 cc0_scratch4 = task L := by
  unfold cc0__sc_transpose_body task
  simp only [part40_eq, part41_eq, part42_eq, part43_eq, pure_bind, bind_assoc]
  rfl

end Cert.Proof.Sc
-- ==== Proof.Moves.lean ====
/-
  The rules of a task's chains: the 64 moves of a row of the out scratch, the eight writes of an iteration, the eight
  waits for them.
-/
module

public import proofs.«01_k».proof.Proof.Clean

@[expose] public section

noncomputable section

namespace Cert.Proof.Sc

open Cert.KernelIdeal
open Cert.KernelIdeal.Facts₀ Cert.KernelIdeal.Facts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.Transfers (Batch pending bigSep_pending_step bigSep_pending_zero wp_dmaBatch wp_waitBatchO wp_waitBatchLastO batch_alloc')

/-! ## The moves -/

/-- The out scratch after `k` moves of row `u` of iteration `n`. -/
def fill (X : S524288x128.Idx → Elt F .f32) (w n : ℕ) (f : S2x8x16x128.Idx → Elt F .f32) (u k : ℕ) : S2x8x16x128.Idx → Elt F .f32 :=
  fun x => if (x 2).val < u ∨ ((x 2).val = u ∧ (x 3).val / 16 * 8 + (x 1).val < k) then outT X w n x else f x

theorem fill_zero (X : S524288x128.Idx → Elt F .f32) (w n : ℕ) (f) : fill X w n f 0 0 = f := by
  funext x
  unfold fill
  rw [if_neg]
  omega

theorem fill_next (X : S524288x128.Idx → Elt F .f32) (w n : ℕ) (f) (u : ℕ) : fill X w n f u 64 = fill X w n f (u + 1) 0 := by
  funext x
  have h1 : (x 1).val < 8 := (x 1).isLt
  have h3 : (x 3).val < 128 := (x 3).isLt
  unfold fill
  refine if_congr ?_ rfl rfl
  omega

theorem fill_full (X : S524288x128.Idx → Elt F .f32) (w n : ℕ) (f) : fill X w n f 16 0 = outT X w n := by
  funext x
  have h2 : (x 2).val < 16 := (x 2).isLt
  unfold fill
  rw [if_pos]
  omega

/-- What a move fetches: sixteen words of a row. -/
theorem ld_read (X : S524288x128.Idx → Elt F .f32) (w n p a c : ℕ) (ha : a < 128) (hc : c ≤ 112) (o : Fin 3 → ℕ) (ho : o = ![p, a, c])
    (h : ∀ a, o a + S1x1x16.size a ≤ S2x128x128.size a) (y : S1x1x16.Idx) :
    (rV.access (Rect.unit (s := S2x128x128) o S1x1x16.size h)).read (Elt F) (rowsT X w n) y = pick X (srcRow w n a) (c + (y 2).val) := by
  subst ho
  show rowsT X w n ((Rect.unit (s := S2x128x128) ![p, a, c] S1x1x16.size h).emb y) = _
  have h1 : (y 1).val < 1 := (y 1).isLt
  unfold rowsT
  rw [Rect.emb_apply, Rect.emb_apply]
  show pick X (srcRow w n (a + 1 * (y 1).val)) (c + 1 * (y 2).val) = _
  rw [show (y 1).val = 0 by omega, Nat.mul_zero, Nat.add_zero, Nat.one_mul]

theorem cast_val (v : S1x1x16.Idx → Elt F .f32) (y : S1x1x1x16.Idx) :
    shapeCast S1x1x1x16 (shapeCast S16 v shapeCasts_S1x1x16_S16) shapeCasts_S16_S1x1x1x16 y
      = v (ix3 (0 : Fin 1) (0 : Fin 1) (⟨(y 3).val, (y 3).isLt⟩ : Fin 16)) := by
  have y0 : (y 0).val = 0 := by have : (y 0).val < 1 := (y 0).isLt; omega
  have y1 : (y 1).val = 0 := by have : (y 1).val < 1 := (y 1).isLt; omega
  have y2 : (y 2).val = 0 := by have : (y 2).val < 1 := (y 2).isLt; omega
  have e1 : Shape.reshapeEquiv (s := S16) (s' := S1x1x1x16) shapeCasts_S16_S1x1x1x16 y = (ix1 (⟨(y 3).val, (y 3).isLt⟩ : Fin 16) : S16.Idx) :=
    Shape.reshapeEquiv_eq_of_rowMajor _ (by
      rw [Shape.rowMajor_val_four, Shape.rowMajor_val_one, y0, y1, y2]
      show (y 3).val = ((0 * 1 + 0) * 1 + 0) * 16 + (y 3).val
      omega)
  have e2 : Shape.reshapeEquiv (s := S1x1x16) (s' := S16) shapeCasts_S1x1x16_S16 (ix1 (⟨(y 3).val, (y 3).isLt⟩ : Fin 16) : S16.Idx)
      = (ix3 (0 : Fin 1) (0 : Fin 1) (⟨(y 3).val, (y 3).isLt⟩ : Fin 16) : S1x1x16.Idx) :=
    Shape.reshapeEquiv_eq_of_rowMajor _ (by
      rw [Shape.rowMajor_val_three, Shape.rowMajor_val_one]
      show (0 * 1 + 0) * 16 + (y 3).val = (y 3).val
      omega)
  unfold shapeCast
  rw [e1, e2]

/-- What a move leaves in its slot. -/
theorem st_write (X : S524288x128.Idx → Elt F .f32) (w n p u k : ℕ) (f : S2x8x16x128.Idx → Elt F .f32) (hk : k < 64)
    (o : Fin 4 → ℕ) (ho : o = ![p, k % 8, u, 16 * (k / 8 % 8)]) (h : ∀ a, o a + S1x1x1x16.size a ≤ S2x8x16x128.size a)
    (v : S1x1x16.Idx → Elt F .f32) (hv : ∀ y, v y = pick X (srcRow w n (8 * u + k / 8 % 8)) (16 * (k % 8) + (y 2).val))
    (i : S2x8x16x128.Idx) (hi : i ∈ slotO p) :
    (oV.access (Rect.unit (s := S2x8x16x128) o S1x1x1x16.size h)).write (Elt F) (fill X w n f u k)
      (shapeCast S1x1x1x16 (shapeCast S16 v shapeCasts_S1x1x16_S16) shapeCasts_S16_S1x1x1x16) Finset.univ i = fill X w n f u (k + 1) i := by
  subst ho
  have h0 : (i 0).val = p := (Finset.mem_filter.mp hi).2
  have h1 : (i 1).val < 8 := (i 1).isLt
  have h2 : (i 2).val < 16 := (i 2).isLt
  have h3 : (i 3).val < 128 := (i 3).isLt
  by_cases hc : (i 1).val = k % 8 ∧ (i 2).val = u ∧ (i 3).val / 16 = k / 8
  · obtain ⟨c1, c2, c3⟩ := hc
    obtain ⟨y, hy⟩ : ∃ y : S1x1x1x16.Idx, y = ix4 (0 : Fin 1) (0 : Fin 1) (0 : Fin 1) (⟨(i 3).val % 16, Nat.mod_lt _ (by decide)⟩ : Fin 16) := ⟨_, rfl⟩
    have hi' : i = (oV.access (Rect.unit (s := S2x8x16x128) ![p, k % 8, u, 16 * (k / 8 % 8)] S1x1x1x16.size h)).emb y := by
      rw [hy]
      funext a
      refine Fin.ext ?_
      show _ = ((Rect.unit (s := S2x8x16x128) ![p, k % 8, u, 16 * (k / 8 % 8)] S1x1x1x16.size h).emb _ a).val
      rw [Rect.emb_apply]
      match a with
      | 0 => show (i 0).val = p + 1 * 0; omega
      | 1 => show (i 1).val = k % 8 + 1 * 0; omega
      | 2 => show (i 2).val = u + 1 * 0; omega
      | 3 => show (i 3).val = 16 * (k / 8 % 8) + 1 * ((i 3).val % 16); omega
    conv_lhs => rw [hi']
    rw [View.write_emb_of_mem _ _ (Finset.mem_univ _)]
    show shapeCast S1x1x1x16 (shapeCast S16 v shapeCasts_S1x1x16_S16) shapeCasts_S16_S1x1x1x16 y = _
    rw [cast_val, hv]
    unfold fill
    rw [if_pos (by omega)]
    unfold outT
    rw [hy]
    show pick X (srcRow w n (8 * u + k / 8 % 8)) (16 * (k % 8) + (i 3).val % 16) = _
    rw [c1, c2, c3, Nat.mod_eq_of_lt (show k / 8 < 8 by omega)]
  · rw [View.write_of_not_mem]
    · unfold fill
      refine if_congr ?_ rfl rfl
      omega
    · rw [View.setOn_univ]
      show i ∉ ((View.whole cc0_scratch2).slice (Rect.unit (s := S2x8x16x128) ![p, k % 8, u, 16 * (k / 8 % 8)] S1x1x1x16.size h)).set
      rw [View.set_slice_whole, Rect.mem_set_unit]
      intro hx
      have x1 : k % 8 ≤ (i 1).val ∧ (i 1).val < k % 8 + 1 := hx 1
      have x2 : u ≤ (i 2).val ∧ (i 2).val < u + 1 := hx 2
      have x3 : 16 * (k / 8 % 8) ≤ (i 3).val ∧ (i 3).val < 16 * (k / 8 % 8) + 16 := hx 3
      exact hc ⟨by omega, by omega, by omega⟩

theorem ld_set (p a c : ℕ) (o : Fin 3 → ℕ) (ho : o = ![p, a, c]) (h : ∀ a, o a + S1x1x16.size a ≤ S2x128x128.size a) :
    (rV.access (Rect.unit (s := S2x128x128) o S1x1x16.size h)).set ⊆ slotR p := by
  subst ho
  show ((View.whole cc0_scratch1).slice (Rect.unit (s := S2x128x128) ![p, a, c] S1x1x16.size h)).set ⊆ slotR p
  rw [View.set_slice_whole]
  intro x hx
  rw [Rect.mem_set_unit] at hx
  have h0 : p ≤ (x 0).val ∧ (x 0).val < p + 1 := hx 0
  exact Finset.mem_filter.mpr ⟨Finset.mem_univ _, by omega⟩

theorem st_set (p a b c : ℕ) (o : Fin 4 → ℕ) (ho : o = ![p, a, b, c]) (h : ∀ a, o a + S1x1x1x16.size a ≤ S2x8x16x128.size a) :
    (oV.access (Rect.unit (s := S2x8x16x128) o S1x1x1x16.size h)).set ⊆ slotO p := by
  subst ho
  show ((View.whole cc0_scratch2).slice (Rect.unit (s := S2x8x16x128) ![p, a, b, c] S1x1x1x16.size h)).set ⊆ slotO p
  rw [View.set_slice_whole]
  intro x hx
  rw [Rect.mem_set_unit] at hx
  have h0 : p ≤ (x 0).val ∧ (x 0).val < p + 1 := hx 0
  exact Finset.mem_filter.mpr ⟨Finset.mem_univ _, by omega⟩

theorem wp_chain (d : Dev nD) (L : grid0.Coords) (X : S524288x128.Idx → Elt F .f32) (f : S2x8x16x128.Idx → Elt F .f32)
    (t : Fin k0_t2_loop.trips) (u : Fin k0_t4_loop.trips) (Q : PUnit → sProp 𝕄) : ∀ m k, k + m = 64 →
    iprop((rLoc d L ↦[slotR (t.val % 2)]{fullShare} (rowsT X (wid L) t.val : S2x128x128.Idx → Elt F .f32))
        ∗ (oLoc d L ↦[slotO (t.val % 2)]{fullShare} (fill X (wid L) t.val f u.val k)))
      ⊢ iprop((iprop((rLoc d L ↦[slotR (t.val % 2)]{fullShare} (rowsT X (wid L) t.val : S2x128x128.Idx → Elt F .f32))
            ∗ (oLoc d L ↦[slotO (t.val % 2)]{fullShare} (fill X (wid L) t.val f u.val 64))) -∗ Q ⟨⟩)
          -∗ wp frame (wpE (defs₀ (F := F)) 𝒱₀ (thr d L) none) Set.univ (chain L t u m k) Q) := by
  intro m
  induction m with
  | zero =>
    intro k hk
    rw [show k = 64 by omega]
    iintro H Hk
    iapply (le_wp_ret frame (wpE (defs₀ (F := F)) 𝒱₀ (thr d L) none) (E := Set.univ) (⟨⟩ : PUnit) Q)
    iapply Hk $$ H
  | succ m ih =>
    intro k hk
    have hu := t4_lt u
    have hld := ldF_eq t u ⟨k / 8 % 8, Nat.mod_lt _ (by decide)⟩ (16 * (k % 8))
    have hst := stF_eq t ⟨k % 8, Nat.mod_lt _ (by decide)⟩ u (16 * (k / 8 % 8))
    iintro ⟨Hr, Ho⟩ Hk
    unfold chain
    iapply (wp_load_rect 𝒱₀ (thr d L) none Set.univ (m := rV) (ld_set (t.val % 2) _ _ _ hld (ld_inb t u k))) $$ Hr
    iintro Hr
    iapply (wp_load_rect 𝒱₀ (thr d L) none Set.univ (m := oV) (st_set (t.val % 2) _ _ _ _ hst (st_inb t u k))) $$ Ho
    iintro Ho
    iapply (wp_store 𝒱₀ (thr d L) none Set.univ (m := oV)
      (r := Rect.unit (s := S2x8x16x128) (stF t (BitVec.ofNat 32 (k % 8)) u (16 * (k / 8 % 8))) S1x1x1x16.size (st_inb t u k)) (Mk := Finset.univ)
      (S := slotO (t.val % 2)) (by rw [View.setOn_univ]; exact st_set (t.val % 2) _ _ _ _ hst (st_inb t u k))) $$ Ho
    iintro Ho
    iapply (ih (k + 1) (by omega)) $$ [Hr Ho]
    · isplitl [Hr]; · iexact Hr
      iapply (Entails.of_eq (pointsTo_congr fun i hi => st_write X (wid L) t.val (t.val % 2) u.val k f (by omega) _ hst (st_inb t u k) _
        (fun y => ld_read X (wid L) t.val (t.val % 2) (8 * u.val + k / 8 % 8) (16 * (k % 8)) (by omega) (by omega) _ hld (ld_inb t u k) y) i hi))
      iexact Ho
    iexact Hk

/-! ## The writes -/

/-- What the `r`-th write of iteration `n` delivers. -/
def Del (d : Dev nD) (L : grid0.Coords) (X : S524288x128.Idx → Elt F .f32) (n : ℕ) (r : Fin 8) : sProp 𝕄 :=
  iprop((wLoc d ↦[pieceW (wid L) n r.val]{fullShare} (wT X : S524288x128.Idx → Elt F .f32))
    ∗ (oLoc d L ↦[blkO (n % 2) r.val]{fullShare} (outT X (wid L) n : S2x8x16x128.Idx → Elt F .f32)))

instance (d : Dev nD) (L : grid0.Coords) (X : S524288x128.Idx → Elt F .f32) (n : ℕ) (r : Fin 8) :
    Storable (upEmb : UEmb _ 𝕄) (Del d L X n r) := by unfold Del; infer_instance

abbrev Bat (d : Dev nD) (L : grid0.Coords) (X : S524288x128.Idx → Elt F .f32) (n j u : ℕ) : sProp 𝕄 :=
  Batch countersEmb (thr d L) (SemLoc.dma (wS (n % 2))) (default : HIx 1) NW (Del d L X n) j u

theorem piece_write (X : S524288x128.Idx → Elt F .f32) (w n r : ℕ) (hw : w < 32) (hn : n < 128) (hr : r < 8)
    (oW : Fin 2 → ℕ) (hoW : oW = ![baseW w n r, 0]) (hW) (oO : Fin 4 → ℕ) (hoO : oO = ![n % 2, r, 0, 0]) (hO)
    (f : S524288x128.Idx → Elt F .f32) (i : S524288x128.Idx) (hi : i ∈ pieceW w n r) :
    (wVw oW hW).view.write (Elt F) f ((ReadAs.same : ReadAs (Elt F) S16x128 .f32 S16x128 .f32).apply ((outVw oO hO).view.read (Elt F) (outT X w n))) Finset.univ i = wT X i := by
  have h1 : (i 1).val < 128 := (i 1).isLt
  have hm : (i 0).val / 16384 = w ∧ iter (i 0).val = n ∧ (i 0).val / 256 % 8 = r := (Finset.mem_filter.mp hi).2
  have hb : (i 0).val = baseW w n r + (i 0).val % 16 := by unfold iter at hm; unfold baseW; omega
  obtain ⟨y, hy⟩ : ∃ y : S16x128.Idx, y = (ix2 (⟨(i 0).val % 16, Nat.mod_lt _ (by decide)⟩ : Fin 16) (⟨(i 1).val, (i 1).isLt⟩ : Fin 128)) := ⟨_, rfl⟩
  have hi' : i = (wVw oW hW).view.emb y := by
    funext a
    refine Fin.ext ?_
    match a with
    | 0 => rw [hb]; refine Eq.trans ?_ (emb_wVw_0 (baseW w n r) oW hoW hW y).symm; rw [hy]; rfl
    | 1 => refine Eq.trans ?_ (emb_wVw_1 (baseW w n r) oW hoW hW y).symm; rw [hy]; rfl
  conv_lhs => rw [hi']
  rw [View.write_emb_of_mem _ _ (Finset.mem_univ _)]
  show outT X w n ((outVw oO hO).view.emb y) = _
  rw [emb_outVw (n % 2) r (Nat.mod_lt _ (by decide)) hr oO hoO, hy]
  unfold outT wT srcRow
  show pick X ((128 * (n % 16) + (8 * ((i 0).val % 16) + (i 1).val / 16)) * 256 + (8 * w + n / 16)) (16 * r + (i 1).val % 16) = _
  unfold iter at hm
  congr 1
  · omega
  · omega

theorem wp_issues (d : Dev nD) (L : grid0.Coords) (X W0 : S524288x128.Idx → Elt F .f32)
    (t : Fin k0_t2_loop.trips) (Q : PUnit → sProp 𝕄) : ∀ m r, r + m = 8 →
    iprop(Bat d L X t.val r 0 ∗ bigSep (pending (n := 8) r) (fun j => (wLoc d ↦[pieceW (wid L) t.val j.val]{fullShare} W0))
        ∗ bigSep (pending (n := 8) r) (fun j => (oLoc d L ↦[blkO (t.val % 2) j.val]{fullShare} (outT X (wid L) t.val : S2x8x16x128.Idx → Elt F .f32))))
      ⊢ iprop((Bat d L X t.val 8 0 -∗ Q ⟨⟩)
          -∗ wp frame (wpE (defs₀ (F := F)) 𝒱₀ (thr d L) none) Set.univ (issues L t m r) Q) := by
  intro m
  induction m with
  | zero =>
    intro r hr
    rw [show r = 8 by omega]
    iintro ⟨H, -, -⟩ Hk
    iapply (le_wp_ret frame (wpE (defs₀ (F := F)) 𝒱₀ (thr d L) none) (E := Set.univ) (⟨⟩ : PUnit) Q)
    iapply Hk $$ H
  | succ m ih =>
    intro r hr
    have ht := t2_lt t
    have hw := wid_lt L
    have hr8 : r < 8 := by omega
    have hm : r % 8 = r := Nat.mod_eq_of_lt hr8
    have ho : blkF t (r % 8) = ![t.val % 2, r, 0, 0] := by rw [hm]; exact blkF_eq t r
    have hd : k0_off92 L t (BitVec.ofNat 32 (r % 8)) = ![baseW (wid L) t.val r, 0] := by
      refine (Cert.Proof.off92_eq L t ⟨r % 8, Nat.mod_lt _ (by decide)⟩).trans ?_
      show ![16384 * ((L 1).val * 2 + (L 0).val) + 2048 * (t.val / 16) + 256 * (r % 8) + 16 * (t.val % 16), 0] = _
      unfold baseW wid
      rw [hm, show (L 1).val * 2 = 2 * (L 1).val by omega]
    have hs : k0_off8 t = ![t.val % 2] := by
      have e : k0_off8 t = ![(pslot t).toNat] := rfl
      rw [e, show (pslot t).toNat = t.val % 2 from pslot_nat t]
    have hin : ∀ a, k0_off92 L t (BitVec.ofNat 32 (r % 8)) a + S16x128.size a ≤ S524288x128.size a :=
      k0_off92_inb L t ⟨r % 8, Nat.mod_lt _ (by decide)⟩
    have hB : ∀ j u, Bat d L X t.val j u
        = Batch countersEmb (thr d L) (SemLoc.dma (wSm (k0_off8 t) (k0_off8_inb t))) (default : HIx 1) NW (Del d L X t.val) j u := by
      intro j u
      rw [wSm_wS (t.val % 2) (Nat.mod_lt _ (by decide)) _ hs]
    rw [bigSep_pending_step _ r hr8, bigSep_pending_step _ r hr8]
    iintro ⟨HB, ⟨Hw, Hws⟩, ⟨Ho, Hos⟩⟩ Hk
    unfold issues
    iapply (wp_dmaBatch countersEmb 𝒱₀ (thr d L) none (defs := defs₀ (F := F)) (default : HIx 1) NW (src := outVw (blkF t (r % 8)) (blkF_inb t r))
      (dst := wVw (k0_off92 L t (BitVec.ofNat 32 (r % 8))) hin)
      (fs := (outT X (wid L) t.val : S2x8x16x128.Idx → Elt F .f32)) (fd := W0) (q := fullShare) (Sd := pieceW (wid L) t.val r)
      (D := Del d L X t.val) (j := r) (u := 0) rfl
      (by rw [set_wVw (wid L) t.val r ht hr8 _ hd]) hr8 (Nat.zero_le _) ?_) $$ [Hw Ho HB]
    · rw [set_outVw (t.val % 2) r _ ho]
      unfold Del
      exact sep_mono_left (Entails.of_eq (pointsTo_congr fun i hi => piece_write X (wid L) t.val r hw ht hr8 _ hd _ _ ho _ W0 i hi))
    · rw [set_outVw (t.val % 2) r _ ho]
      isplitl [Ho]; · iexact Ho
      isplitl [Hw]; · iexact Hw
      iapply (Entails.of_eq (hB r 0)) $$ HB
    iintro HB
    iapply (ih (r + 1) (by omega)) $$ [HB Hws Hos]
    · isplitl [HB]; · iapply (Entails.of_eq (hB (r + 1) 0).symm) $$ HB
      isplitl [Hws] <;> iassumption
    iexact Hk

/-! ## The waits -/

theorem wp_waits (d : Dev nD) (L : grid0.Coords) (X : S524288x128.Idx → Elt F .f32) (n : ℕ) (oS : Fin 1 → ℕ) (hoS : oS = ![n % 2]) (hS) (oO) (hO) (oW) (hW)
    (O : CellTallies nD τ sig (HIx 1)) (Q : PUnit → sProp 𝕄) : ∀ m r, r + m = 7 → ∀ (W : Waits sig (HIx 1)),
    iprop(Bat d L X n 8 (r * NW) ∗ owes (thr d L) O W ∗ Transfers.MayWaits (thr d L) (default : HIx 1) O)
      ⊢ iprop((iprop(bigSep Finset.univ (Del d L X n) ∗ semVal (thr d L, SemLoc.dma (wS (n % 2))) 0
            ∗ owes (thr d L) O (insert (SemLoc.dma (wS (n % 2)), (default : HIx 1)) W)) -∗ Q ⟨⟩)
          -∗ wp frame (wpE (defs₀ (F := F)) 𝒱₀ (thr d L) none) Set.univ (waits L oS hS oO hO oW hW (m + 1) r) Q) := by
  intro m
  induction m with
  | zero =>
    intro r hr W
    rw [show r = 7 by omega]
    unfold waits
    rw [wSm_wS (n % 2) (Nat.mod_lt _ (by decide)) oS hoS]
    iintro ⟨HB, HO, #Hmw⟩ Hk
    iapply (wp_waitBatchLastO countersEmb 𝒱₀ (thr d L) none (defs := defs₀ (F := F)) (default : HIx 1) (NW_eq _ _) NW_pos (u := 7 * NW) (D := Del d L X n) (by omega)) $$ [HB HO]
    · isplitl [HB]; · iexact HB
      isplitl [HO]; · iexact HO
      iapply (Transfers.MayWaits.elim (SemLoc.dma (wS (n % 2)))) $$ Hmw
    iintro H
    unfold waits
    iapply (le_wp_ret frame (wpE (defs₀ (F := F)) 𝒱₀ (thr d L) none) (E := Set.univ) (⟨⟩ : PUnit) Q)
    iapply Hk $$ H
  | succ m ih =>
    intro r hr W
    have hN := NW_pos
    unfold waits
    rw [wSm_wS (n % 2) (Nat.mod_lt _ (by decide)) oS hoS]
    iintro ⟨HB, HO, #Hmw⟩ Hk
    iapply (wp_waitBatchO countersEmb 𝒱₀ (thr d L) none (defs := defs₀ (F := F)) (default : HIx 1) (NW_eq _ _) (u := r * NW) (D := Del d L X n)
      (by rw [← Nat.succ_mul, Nat.mul_comm]; exact Nat.mul_lt_mul_of_pos_left (by omega) hN)) $$ [HB HO]
    · isplitl [HB]; · iexact HB
      isplitl [HO]; · iexact HO
      iapply (Transfers.MayWaits.elim (SemLoc.dma (wS (n % 2)))) $$ Hmw
    iintro ⟨HB, HO⟩
    iapply (ih (r + 1) (by omega) (insert (SemLoc.dma (wS (n % 2)), (default : HIx 1)) W)) $$ [HB HO]
    · isplitl [HB]; · rw [Nat.succ_mul]; iexact HB
      isplitl [HO]; · iexact HO
      iexact Hmw
    rw [Finset.insert_idem]
    iexact Hk

end Cert.Proof.Sc
-- ==== Proof.Lists.lean ====
/-
  The lists of rows: the words that a step of the index loops stores, the rule of a step, and the two loops.
-/
module

public import proofs.«01_k».proof.Proof.Moves

@[expose] public section

noncomputable section

namespace Cert.Proof.Sc

open Cert.KernelIdeal
open Cert.KernelIdeal.Facts₀ Cert.KernelIdeal.Facts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The words -/

theorem t1_lt (u : Fin k0_t1_loop.trips) : u.val < 8 := u.isLt.trans_le (by decide +kernel)
theorem t3_lt (u : Fin k0_t3_loop.trips) : u.val < 8 := u.isLt.trans_le (by decide +kernel)

theorem lanes_at : ∀ l : Fin 16, lanes (ix1 l) = BitVec.ofNat 32 (256 * l.val) := by decide +kernel
theorem idxA0_eq : ∀ u : Fin k0_t1_loop.trips, idxA0 u = BitVec.ofNat 32 (16 * u.val * 256) := by decide +kernel
theorem rem16_eq : ∀ t : Fin k0_t2_loop.trips, Scalar.muli (Scalar.remsi (nxt t) 16#32) 128#32 = BitVec.ofNat 32 (128 * ((t.val + 1) % 16)) := by
  decide +kernel
theorem iv3_eq : ∀ u : Fin k0_t3_loop.trips, Scalar.muli (Scalar.addi 0#32 (Scalar.muli (Scf.iv 0#32 1#32 u) 1#32)) 16#32 = BitVec.ofNat 32 (16 * u.val) := by
  decide +kernel
theorem fdiv_eq : ∀ t : Fin k0_t2_loop.trips, fdiv (nxt t) 16#32 = BitVec.ofNat 32 ((t.val + 1) / 16) := by decide +kernel
theorem off1_eq : ∀ u : Fin k0_t1_loop.trips, k0_off1 u = ![0, 16 * u.val] := by decide +kernel
theorem off3_eq : ∀ t : Fin k0_t2_loop.trips, k0_off3 t = ![(t.val + 1) % 2, 0, 0] := by decide +kernel
theorem off4_eq : ∀ t : Fin k0_t2_loop.trips, k0_off4 t = ![(t.val + 1) % 2, 0] := by decide +kernel
theorem off5_eq : ∀ t : Fin k0_t2_loop.trips, k0_off5 t = ![(t.val + 1) % 2] := by decide +kernel
theorem off6_eq : ∀ t : Fin k0_t2_loop.trips, k0_off6 t = ![t.val % 2, 0, 0] := by decide +kernel
theorem off8_eq : ∀ t : Fin k0_t2_loop.trips, k0_off8 t = ![t.val % 2] := by decide +kernel
theorem off11_eq : ∀ t : Fin k0_t2_loop.trips, k0_off11 t = ![t.val % 2] := by decide +kernel
theorem slot_next : ∀ t : Fin k0_t2_loop.trips, (Scalar.indexCast (Scalar.remsi (nxt t) 2#32)).toNat = (t.val + 1) % 2 := by decide +kernel
theorem col_next : ∀ u : Fin k0_t3_loop.trips,
    (Scalar.indexCast (Scalar.muli (Scalar.addi 0#32 (Scalar.muli (Scf.iv 0#32 1#32 u) 1#32)) 16#32)).toNat = 16 * u.val := by decide +kernel

theorem off2_eq (t : Fin k0_t2_loop.trips) (u : Fin k0_t3_loop.trips) : k0_off2 t u = ![(t.val + 1) % 2, 16 * u.val] := by
  have e : k0_off2 t u = ![(Scalar.indexCast (Scalar.remsi (nxt t) 2#32)).toNat,
      (Scalar.indexCast (Scalar.muli (Scalar.addi 0#32 (Scalar.muli (Scf.iv 0#32 1#32 u) 1#32)) 16#32)).toNat] := rfl
  rw [e, slot_next, col_next]

theorem w8_eq (L : grid0.Coords) : w8 L = BitVec.ofNat 32 (8 * wid L) := by
  have e : w8 L = (BitVec.ofNat 32 (L 1).val * 2#32 + BitVec.ofNat 32 (L 0).val) * 8#32 := rfl
  rw [e, show (2#32 : BitVec 32) = BitVec.ofNat 32 2 from rfl, show (8#32 : BitVec 32) = BitVec.ofNat 32 8 from rfl,
    ← BitVec.ofNat_mul, ← BitVec.ofNat_add, ← BitVec.ofNat_mul]
  unfold wid
  congr 1
  omega

theorem idxA_eq (t : Fin k0_t2_loop.trips) (u : Fin k0_t3_loop.trips) :
    idxA t u = BitVec.ofNat 32 ((128 * ((t.val + 1) % 16) + 16 * u.val) * 256) := by
  unfold idxA
  rw [rem16_eq, iv3_eq]
  show (BitVec.ofNat 32 _ + BitVec.ofNat 32 _) * 256#32 = _
  rw [show (256#32 : BitVec 32) = BitVec.ofNat 32 256 from rfl, ← BitVec.ofNat_add, ← BitVec.ofNat_mul]

/-- The first row of a step. -/
theorem start0_eq (L : grid0.Coords) (u : Fin k0_t1_loop.trips) :
    Scalar.addi (idxA0 u) (Scalar.addi (w8 L) 0#32) = BitVec.ofNat 32 (srcRow (wid L) 0 (16 * u.val)) := by
  rw [idxA0_eq, w8_eq]
  show BitVec.ofNat 32 _ + (BitVec.ofNat 32 _ + BitVec.ofNat 32 0) = _
  rw [← BitVec.ofNat_add, ← BitVec.ofNat_add]
  unfold srcRow
  congr 1
  omega

theorem start_eq (L : grid0.Coords) (t : Fin k0_t2_loop.trips) (u : Fin k0_t3_loop.trips) :
    Scalar.addi (idxA t u) (Scalar.addi (w8 L) (fdiv (nxt t) 16#32)) = BitVec.ofNat 32 (srcRow (wid L) (t.val + 1) (16 * u.val)) := by
  rw [idxA_eq, w8_eq, fdiv_eq]
  show BitVec.ofNat 32 _ + (BitVec.ofNat 32 _ + BitVec.ofNat 32 _) = _
  rw [← BitVec.ofNat_add, ← BitVec.ofNat_add]
  rfl

/-! ## A step -/

/-- The list's slot after `u` steps. -/
def fillI (w n : ℕ) (f : S2x128.Idx → BitVec 32) (u : ℕ) : S2x128.Idx → BitVec 32 := fun x => if (x 1).val < 16 * u then idxT w n x else f x

theorem fillI_zero (w n : ℕ) (f) : fillI w n f 0 = f := by
  funext x
  unfold fillI
  rw [if_neg]
  omega

theorem fillI_full (w n : ℕ) (f) : fillI w n f 8 = idxT w n := by
  funext x
  have h1 : (x 1).val < 128 := (x 1).isLt
  unfold fillI
  rw [if_pos]
  omega

theorem castI_val (v : S16.Idx → BitVec 32) (y : S1x16.Idx) :
    shapeCast S1x16 v shapeCasts_S16_S1x16 y = v (ix1 (⟨(y 1).val, (y 1).isLt⟩ : Fin 16)) := by
  have y0 : (y 0).val = 0 := by have : (y 0).val < 1 := (y 0).isLt; omega
  have e1 : Shape.reshapeEquiv (s := S16) (s' := S1x16) shapeCasts_S16_S1x16 y = (ix1 (⟨(y 1).val, (y 1).isLt⟩ : Fin 16) : S16.Idx) :=
    Shape.reshapeEquiv_eq_of_rowMajor _ (by
      rw [Shape.rowMajor_val_two, Shape.rowMajor_val_one, y0]
      show (y 1).val = 0 * 16 + (y 1).val
      omega)
  unfold shapeCast
  rw [e1]

theorem sti_set (p c : ℕ) (o : Fin 2 → ℕ) (ho : o = ![p, c]) (h : ∀ a, o a + S1x16.size a ≤ S2x128.size a) :
    (iV.access (Rect.unit (s := S2x128) o S1x16.size h)).set ⊆ slotI p := by
  subst ho
  show ((View.whole cc0_scratch0).slice (Rect.unit (s := S2x128) ![p, c] S1x16.size h)).set ⊆ slotI p
  rw [View.set_slice_whole]
  intro x hx
  rw [Rect.mem_set_unit] at hx
  have h0 : p ≤ (x 0).val ∧ (x 0).val < p + 1 := hx 0
  exact Finset.mem_filter.mpr ⟨Finset.mem_univ _, by omega⟩

theorem sti_write (w n p u : ℕ) (f : S2x128.Idx → BitVec 32) (o : Fin 2 → ℕ) (ho : o = ![p, 16 * u])
    (h : ∀ a, o a + S1x16.size a ≤ S2x128.size a) (s : BitVec 32) (hs : s = BitVec.ofNat 32 (srcRow w n (16 * u)))
    (i : S2x128.Idx) (hi : i ∈ slotI p) :
    (iV.access (Rect.unit (s := S2x128) o S1x16.size h)).write (Elt F) (fillI w n f u)
      (shapeCast S1x16 (addi lanes (broadcast S16 s)) shapeCasts_S16_S1x16) Finset.univ i = fillI w n f (u + 1) i := by
  subst ho
  have h0 : (i 0).val = p := (Finset.mem_filter.mp hi).2
  have h1 : (i 1).val < 128 := (i 1).isLt
  by_cases hc : (i 1).val / 16 = u
  · obtain ⟨y, hy⟩ : ∃ y : S1x16.Idx, y = ix2 (0 : Fin 1) (⟨(i 1).val % 16, Nat.mod_lt _ (by decide)⟩ : Fin 16) := ⟨_, rfl⟩
    have hi' : i = (iV.access (Rect.unit (s := S2x128) ![p, 16 * u] S1x16.size h)).emb y := by
      rw [hy]
      funext a
      refine Fin.ext ?_
      show _ = ((Rect.unit (s := S2x128) ![p, 16 * u] S1x16.size h).emb _ a).val
      rw [Rect.emb_apply]
      match a with
      | 0 => show (i 0).val = p + 1 * 0; omega
      | 1 => show (i 1).val = 16 * u + 1 * ((i 1).val % 16); omega
    conv_lhs => rw [hi']
    rw [View.write_emb_of_mem _ _ (Finset.mem_univ _)]
    show shapeCast S1x16 (addi lanes (broadcast S16 s)) shapeCasts_S16_S1x16 y = _
    rw [castI_val, hy, hs]
    show lanes (ix1 (⟨(i 1).val % 16, _⟩ : Fin 16)) + BitVec.ofNat 32 (srcRow w n (16 * u)) = _
    rw [lanes_at, ← BitVec.ofNat_add]
    unfold fillI
    rw [if_pos (by omega)]
    unfold idxT srcRow
    congr 1
    show 256 * ((i 1).val % 16) + ((128 * (n % 16) + 16 * u) * 256 + (8 * w + n / 16)) = (128 * (n % 16) + (i 1).val) * 256 + (8 * w + n / 16)
    omega
  · rw [View.write_of_not_mem]
    · unfold fillI
      refine if_congr ?_ rfl rfl
      omega
    · rw [View.setOn_univ]
      show i ∉ ((View.whole cc0_scratch0).slice (Rect.unit (s := S2x128) ![p, 16 * u] S1x16.size h)).set
      rw [View.set_slice_whole, Rect.mem_set_unit]
      intro hx
      have x1 : 16 * u ≤ (i 1).val ∧ (i 1).val < 16 * u + 16 := hx 1
      exact hc (by omega)

theorem wp_idxStep (d : Dev nD) (L : grid0.Coords) (n p u : ℕ) (f : S2x128.Idx → BitVec 32) (o : Fin 2 → ℕ) (ho : o = ![p, 16 * u])
    (h) (s : BitVec 32) (hs : s = BitVec.ofNat 32 (srcRow (wid L) n (16 * u))) (Q : PUnit → sProp 𝕄) :
    iprop(iLoc d L ↦[slotI p]{fullShare} (fillI (wid L) n f u))
      ⊢ iprop((iprop(iLoc d L ↦[slotI p]{fullShare} (fillI (wid L) n f (u + 1))) -∗ Q ⟨⟩)
          -∗ wp frame (wpE (defs₀ (F := F)) 𝒱₀ (thr d L) none) Set.univ (idxStep L o h s) Q) := by
  iintro Hi Hk
  unfold idxStep
  iapply (wp_load_rect 𝒱₀ (thr d L) none Set.univ (m := iV) (r := Rect.unit (s := S2x128) o S1x16.size h) (S := slotI p) (sti_set p _ o ho h)) $$ Hi
  iintro Hi
  iapply (wp_store 𝒱₀ (thr d L) none Set.univ (m := iV) (r := Rect.unit (s := S2x128) o S1x16.size h) (Mk := Finset.univ)
    (S := slotI p) (by rw [View.setOn_univ]; exact sti_set p _ o ho h)) $$ Hi
  iintro Hi
  iapply (le_wp_ret frame (wpE (defs₀ (F := F)) 𝒱₀ (thr d L) none) (E := Set.univ) (⟨⟩ : PUnit) Q)
  iapply Hk
  iapply (Entails.of_eq (pointsTo_congr fun i hi => sti_write (F := F) (wid L) n p u f o ho h s hs i hi))
  iexact Hi

/-! ## The loops -/

theorem trips1 : k0_t1_loop.trips = 8 := by decide +kernel
theorem trips3 : k0_t3_loop.trips = 8 := by decide +kernel

theorem wp_task0 (d : Dev nD) (L : grid0.Coords) (f : S2x128.Idx → BitVec 32) (Q : PUnit → sProp 𝕄) :
    iprop(iLoc d L ↦[slotI 0]{fullShare} f)
      ⊢ iprop((iprop(iLoc d L ↦[slotI 0]{fullShare} (idxT (wid L) 0)) -∗ Q ⟨⟩)
          -∗ wp frame (wpE (defs₀ (F := F)) 𝒱₀ (thr d L) none) Set.univ (task0 L) Q) := by
  iintro Hi Hk
  unfold task0
  iapply (Scf.wp_for_bind frame (wpE (defs₀ (F := F)) 𝒱₀ (thr d L) none) Set.univ _ _ _ _ _ _
    (fun k _ => iprop(iLoc d L ↦[slotI 0]{fullShare} (fillI (wid L) 0 f k))) ?_) $$ [Hi]
  · intro u acc
    iintro Hi
    iapply (wp_idxStep d L 0 0 u.val f (k0_off1 u) (off1_eq u) _ _ (start0_eq L u)) $$ Hi
    iintro Hi; iexact Hi
  · rw [fillI_zero]; iexact Hi
  iintro %acc Hi
  iapply (le_wp_ret frame (wpE (defs₀ (F := F)) 𝒱₀ (thr d L) none) (E := Set.univ) (⟨⟩ : PUnit) Q)
  iapply Hk
  rw [show Scf.trips k0_t1_loop.lb k0_t1_loop.ub k0_t1_loop.st = 8 from trips1, fillI_full]
  iexact Hi

end Cert.Proof.Sc
-- ==== Proof.Body.lean ====
/-
  A task's run: what a trip of the loop keeps, a trip, the loop, and the task from its operands and scratch to the
  rows of the transposed array that it writes.
-/
module

public import proofs.«01_k».proof.Proof.Lists

@[expose] public section

noncomputable section

namespace Cert.Proof.Sc

open Cert.KernelIdeal
open Cert.KernelIdeal.Facts₀ Cert.KernelIdeal.Facts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.Transfers (Batch pending bigSep_pending_step bigSep_pending_zero batch_alloc')

/-! ## The pieces of an iteration -/

theorem mem_slotO {p : ℕ} {x : S2x8x16x128.Idx} : x ∈ slotO p ↔ (x 0).val = p := by
  unfold slotO; rw [Finset.mem_filter]; exact and_iff_right (Finset.mem_univ _)
theorem mem_blkO {p r : ℕ} {x : S2x8x16x128.Idx} : x ∈ blkO p r ↔ (x 0).val = p ∧ (x 1).val = r := by
  unfold blkO; rw [Finset.mem_filter]; exact and_iff_right (Finset.mem_univ _)
theorem mem_iterW {w n : ℕ} {x : S524288x128.Idx} : x ∈ iterW w n ↔ (x 0).val / 16384 = w ∧ iter (x 0).val = n := by
  unfold iterW; rw [Finset.mem_filter]; exact and_iff_right (Finset.mem_univ _)
theorem mem_pieceW {w n r : ℕ} {x : S524288x128.Idx} : x ∈ pieceW w n r ↔ (x 0).val / 16384 = w ∧ iter (x 0).val = n ∧ (x 0).val / 256 % 8 = r := by
  unfold pieceW; rw [Finset.mem_filter]; exact and_iff_right (Finset.mem_univ _)
theorem mem_doneW {w n : ℕ} {x : S524288x128.Idx} : x ∈ doneW w n ↔ (x 0).val / 16384 = w ∧ iter (x 0).val < n := by
  unfold doneW; rw [Finset.mem_filter]; exact and_iff_right (Finset.mem_univ _)
theorem mem_todoW {w n : ℕ} {x : S524288x128.Idx} : x ∈ todoW w n ↔ (x 0).val / 16384 = w ∧ n ≤ iter (x 0).val := by
  unfold todoW; rw [Finset.mem_filter]; exact and_iff_right (Finset.mem_univ _)
theorem mem_tileW {w : ℕ} {x : S524288x128.Idx} : x ∈ tileW w ↔ (x 0).val / 16384 = w := by
  unfold tileW; rw [Finset.mem_filter]; exact and_iff_right (Finset.mem_univ _)

theorem iter_lt (a : ℕ) : iter a < 128 := by unfold iter; omega

theorem union_blkO (p : ℕ) : (Finset.univ : Finset (Fin 8)).biUnion (fun r => blkO p r.val) = slotO p := by
  ext x
  have h1 : (x 1).val < 8 := (x 1).isLt
  simp only [Finset.mem_biUnion, Finset.mem_univ, true_and, mem_blkO, mem_slotO]
  exact ⟨fun ⟨r, a, b⟩ => a, fun a => ⟨⟨_, h1⟩, a, rfl⟩⟩

theorem disj_blkO (p : ℕ) : ∀ r ∈ (Finset.univ : Finset (Fin 8)), ∀ r' ∈ (Finset.univ : Finset (Fin 8)), r ≠ r' → Disjoint (blkO p r.val) (blkO p r'.val) := by
  intro r _ r' _ h
  refine Finset.disjoint_left.mpr fun x a b => h (Fin.ext ?_)
  rw [mem_blkO] at a b
  omega

theorem union_pieceW (w n : ℕ) : (Finset.univ : Finset (Fin 8)).biUnion (fun r => pieceW w n r.val) = iterW w n := by
  ext x
  simp only [Finset.mem_biUnion, Finset.mem_univ, true_and, mem_pieceW, mem_iterW]
  exact ⟨fun ⟨r, a, b, c⟩ => ⟨a, b⟩, fun ⟨a, b⟩ => ⟨⟨(x 0).val / 256 % 8, Nat.mod_lt _ (by decide)⟩, a, b, rfl⟩⟩

theorem disj_pieceW (w n : ℕ) : ∀ r ∈ (Finset.univ : Finset (Fin 8)), ∀ r' ∈ (Finset.univ : Finset (Fin 8)), r ≠ r' → Disjoint (pieceW w n r.val) (pieceW w n r'.val) := by
  intro r _ r' _ h
  refine Finset.disjoint_left.mpr fun x a b => h (Fin.ext ?_)
  rw [mem_pieceW] at a b
  omega

theorem blocks_eq (d : Dev nD) (L : grid0.Coords) (p : ℕ) (f : S2x8x16x128.Idx → Elt F .f32) :
    (oLoc d L ↦[slotO p]{fullShare} f : sProp 𝕄) = bigSep Finset.univ fun r : Fin 8 => oLoc d L ↦[blkO p r.val]{fullShare} f := by
  rw [← union_blkO p]
  exact pointsTo_biUnion (ℓ := oLoc d L) Finset.univ (fun r : Fin 8 => blkO p r.val) (disj_blkO p)

theorem pieces_eq (d : Dev nD) (w n : ℕ) (f : S524288x128.Idx → Elt F .f32) :
    (wLoc d ↦[iterW w n]{fullShare} f : sProp 𝕄) = bigSep Finset.univ fun r : Fin 8 => wLoc d ↦[pieceW w n r.val]{fullShare} f := by
  rw [← union_pieceW w n]
  exact pointsTo_biUnion (ℓ := wLoc d) Finset.univ (fun r : Fin 8 => pieceW w n r.val) (disj_pieceW w n)

theorem delivered (d : Dev nD) (L : grid0.Coords) (X : S524288x128.Idx → Elt F .f32) (n : ℕ) :
    bigSep Finset.univ (Del d L X n) = iprop((wLoc d ↦[iterW (wid L) n]{fullShare} (wT X : S524288x128.Idx → Elt F .f32))
      ∗ (oLoc d L ↦[slotO (n % 2)]{fullShare} (outT X (wid L) n : S2x8x16x128.Idx → Elt F .f32))) := by
  rw [pieces_eq, blocks_eq]
  exact bigSep_sep' Finset.univ _ _

theorem todo_step (d : Dev nD) (w n : ℕ) (f : S524288x128.Idx → Elt F .f32) :
    (wLoc d ↦[todoW w n]{fullShare} f : sProp 𝕄) ⊣⊢ iprop((wLoc d ↦[iterW w n]{fullShare} f) ∗ (wLoc d ↦[todoW w (n + 1)]{fullShare} f)) := by
  have e : todoW w n = iterW w n ∪ todoW w (n + 1) := by
    ext x
    rw [Finset.mem_union, mem_todoW, mem_todoW, mem_iterW]
    omega
  rw [e]
  refine pointsTo_union (ℓ := wLoc d) (Finset.disjoint_left.mpr fun x a b => ?_)
  rw [mem_iterW] at a
  rw [mem_todoW] at b
  omega

theorem done_step (d : Dev nD) (w n : ℕ) (f : S524288x128.Idx → Elt F .f32) :
    (wLoc d ↦[doneW w (n + 1)]{fullShare} f : sProp 𝕄) ⊣⊢ iprop((wLoc d ↦[doneW w n]{fullShare} f) ∗ (wLoc d ↦[iterW w n]{fullShare} f)) := by
  have e : doneW w (n + 1) = doneW w n ∪ iterW w n := by
    ext x
    rw [Finset.mem_union, mem_doneW, mem_doneW, mem_iterW]
    omega
  rw [e]
  refine pointsTo_union (ℓ := wLoc d) (Finset.disjoint_left.mpr fun x a b => ?_)
  rw [mem_doneW] at a
  rw [mem_iterW] at b
  omega

theorem todo_all (w : ℕ) : todoW w 0 = tileW w := by
  ext x
  rw [mem_todoW, mem_tileW]
  omega

theorem done_none (w : ℕ) : doneW w 0 = ∅ := by
  ext x
  rw [mem_doneW]
  exact ⟨fun h => absurd h.2 (Nat.not_lt_zero _), fun h => absurd h (Finset.notMem_empty _)⟩

theorem done_all (w : ℕ) : doneW w 128 = tileW w := by
  ext x
  rw [mem_doneW, mem_tileW]
  exact and_iff_left (iter_lt _)

/-! ## What a trip keeps -/

section

variable (d : Dev nD) (L : grid0.Coords) (X : S524288x128.Idx → Elt F .f32) (qs : ℕ → PosShare TreeShare)

/-- A gather in flight on the slot of iteration `n`; the slot `p` idle. -/
def Fl (n : ℕ) : sProp 𝕄 :=
  Transfers.Flight countersEmb (thr d L) (SemLoc.dma (gS (n % 2))) (default : HIx 1) NG (GD d L (qs (n % 2)) X (n % 2) n)
def gIdle (p : ℕ) : sProp 𝕄 :=
  iprop(semVal (thr d L, SemLoc.dma (gS p)) 0 ∗ (∃ f : S2x128x128.Idx → Elt F .f32, rLoc d L ↦[slotR p]{fullShare} f)
    ∗ (∃ f : S2x128.Idx → BitVec 32, iLoc d L ↦[slotI p]{fullShare} f) ∗ (xLoc d ↦{qs p} X))
def GSl (t : ℕ) : sProp 𝕄 := if t < 128 then Fl d L X qs t else gIdle d L X qs (t % 2)

/-- The out slot `p` idle; the out slot of trip `k` before it, its last writes in flight when there are some. -/
def wIdle (p : ℕ) : sProp 𝕄 :=
  iprop(semVal (thr d L, SemLoc.dma (wS p)) 0 ∗ (∃ f : S2x8x16x128.Idx → Elt F .f32, oLoc d L ↦[slotO p]{fullShare} f))
def WSl (k : ℕ) : sProp 𝕄 := if 2 ≤ k then Bat d L X (k - 2) 8 0 else wIdle (F := F) d L (k % 2)

/-- The debts, the waits grown by this call's only. -/
def OW (O : CellTallies nD τ sig (HIx 1)) (W : Waits sig (HIx 1)) : sProp 𝕄 :=
  iprop(∃ W', ⌜∀ p ∈ W', p ∈ W ∨ p.2 = none⌝ ∗ owes (thr d L) O W')

theorem OW_open (O : CellTallies nD τ sig (HIx 1)) (W : Waits sig (HIx 1)) :
    OW (F := F) d L O W ⊢ iprop(∃ W', ⌜∀ p ∈ W', p ∈ W ∨ p.2 = none⌝ ∗ owes (thr d L) O W') := .refl
theorem gIdle_open (p : ℕ) : gIdle d L X qs p ⊢ iprop(semVal (thr d L, SemLoc.dma (gS p)) 0
    ∗ (∃ f : S2x128x128.Idx → Elt F .f32, rLoc d L ↦[slotR p]{fullShare} f)
    ∗ (∃ f : S2x128.Idx → BitVec 32, iLoc d L ↦[slotI p]{fullShare} f) ∗ (xLoc d ↦{qs p} X)) := .refl
theorem GSl_lt {t : ℕ} (h : t < 128) : GSl d L X qs t = Fl d L X qs t := if_pos h

theorem OW_insert (O : CellTallies nD τ sig (HIx 1)) (W W' : Waits sig (HIx 1)) (h : ∀ p ∈ W', p ∈ W ∨ p.2 = none) (s : SemLoc sig) :
    (owes (thr d L) O (insert (s, (default : HIx 1)) W') : sProp 𝕄) ⊢ OW (F := F) d L O W := by
  unfold OW
  iintro H
  iexists _
  isplitr
  swap
  · iexact H
  ipureintro
  intro p hp
  rcases Finset.mem_insert.mp hp with e | e
  · exact .inr (e ▸ rfl)
  · exact h p e

/-! ## The parts of a trip -/

abbrev wpT {α : Type} (e : Prog (TpuEff nD τ sig (Elt F) Λ₀ (thr d L).2) α) (Q : α → sProp 𝕄) : sProp 𝕄 :=
  wp frame (wpE (defs₀ (F := F)) 𝒱₀ (thr d L) none) Set.univ e Q

theorem wp_tripA (t : Fin k0_t2_loop.trips) (Q : PUnit → sProp 𝕄) :
    gIdle d L X qs ((t.val + 1) % 2) ⊢ iprop((GSl d L X qs (t.val + 1) -∗ Q ⟨⟩)
      -∗ wp frame (wpE (defs₀ (F := F)) 𝒱₀ (thr d L) none) Set.univ (tripA L t) Q) := by
  unfold tripA
  by_cases h1 : k0_cond1 t = 1#1
  · have ht : t.val + 1 < 128 := (cond1_iff t).mp h1
    rw [dif_pos h1]
    unfold GSl
    rw [if_pos ht]
    unfold gIdle
    iintro ⟨Hs, ⟨%fr, Hr⟩, ⟨%fi, Hi⟩, Hx⟩ Hk
    iapply (Scf.wp_for_bind frame (wpE (defs₀ (F := F)) 𝒱₀ (thr d L) none) Set.univ _ _ _ _ _ _
      (fun k _ => iprop(iLoc d L ↦[slotI ((t.val + 1) % 2)]{fullShare} (fillI (wid L) (t.val + 1) fi k))) ?_) $$ [Hi]
    · intro u acc
      iintro Hi
      iapply (wp_idxStep d L (t.val + 1) ((t.val + 1) % 2) u.val fi (k0_off2 t u) (off2_eq t u) _ _ (start_eq L t u)) $$ Hi
      iintro Hi; iexact Hi
    · rw [fillI_zero]; iexact Hi
    iintro %acc Hi
    rw [show Scf.trips k0_t3_loop.lb k0_t3_loop.ub k0_t3_loop.st = 8 from trips3, fillI_full, wp_bind]
    iapply (gather_start d L (qs ((t.val + 1) % 2)) X (t.val + 1) ((t.val + 1) % 2) (Nat.mod_lt _ (by decide)) ht _ (off3_eq t) _ _ (off4_eq t) _ _ (off5_eq t)) $$ [Hx Hr Hi Hs]
    · isplitl [Hx]; · iexact Hx
      isplitl [Hr]; · iexact Hr
      isplitl [Hi]; · iexact Hi
      iexact Hs
    iintro Hf
    iapply (le_wp_ret frame (wpE (defs₀ (F := F)) 𝒱₀ (thr d L) none) (E := Set.univ) (⟨⟩ : PUnit) Q)
    iapply Hk
    unfold Fl
    iexact Hf
  · have ht : ¬ t.val + 1 < 128 := fun h => h1 ((cond1_iff t).mpr h)
    rw [dif_neg h1]
    unfold GSl
    rw [if_neg ht]
    iintro H Hk
    iapply (le_wp_ret frame (wpE (defs₀ (F := F)) 𝒱₀ (thr d L) none) (E := Set.univ) (⟨⟩ : PUnit) Q)
    iapply Hk $$ H

theorem wp_tripB (t : Fin k0_t2_loop.trips) (O : CellTallies nD τ sig (HIx 1)) (W : Waits sig (HIx 1)) (Q : PUnit → sProp 𝕄) :
    iprop(Fl d L X qs t.val ∗ OW (F := F) d L O W ∗ Transfers.MayWaits (thr d L) (default : HIx 1) O)
      ⊢ iprop((iprop(GD d L (qs (t.val % 2)) X (t.val % 2) t.val ∗ semVal (thr d L, SemLoc.dma (gS (t.val % 2))) 0 ∗ OW (F := F) d L O W) -∗ Q ⟨⟩)
      -∗ wp frame (wpE (defs₀ (F := F)) 𝒱₀ (thr d L) none) Set.univ (tripB L t) Q) := by
  unfold tripB Fl
  iintro ⟨Hf, HO, #Hmw⟩ Hk
  ihave HO' := (OW_open d L O W) $$ HO
  icases HO' with ⟨%W', %hW, HO⟩
  iapply (gather_wait d L (t.val % 2) (Nat.mod_lt _ (by decide)) (GD d L (qs (t.val % 2)) X (t.val % 2) t.val) _ _ _ (off8_eq t)) $$ [Hf HO]
  · isplitl [Hf]; · iexact Hf
    isplitl [HO]; · iexact HO
    iexact Hmw
  iintro ⟨HD, Hs, HO⟩
  iapply Hk
  isplitl [HD]; · iexact HD
  isplitl [Hs]; · iexact Hs
  iapply (OW_insert d L O W W' hW _) $$ HO

theorem wp_tripC (t : Fin k0_t2_loop.trips) (O : CellTallies nD τ sig (HIx 1)) (W : Waits sig (HIx 1)) (Q : PUnit → sProp 𝕄) :
    iprop(WSl d L X t.val ∗ (wLoc d ↦[doneW (wid L) (t.val - 2)]{fullShare} (wT X : S524288x128.Idx → Elt F .f32)) ∗ OW (F := F) d L O W
        ∗ Transfers.MayWaits (thr d L) (default : HIx 1) O)
      ⊢ iprop((iprop(wIdle (F := F) d L (t.val % 2) ∗ (wLoc d ↦[doneW (wid L) (t.val - 1)]{fullShare} (wT X : S524288x128.Idx → Elt F .f32))
          ∗ OW (F := F) d L O W) -∗ Q ⟨⟩)
      -∗ wp frame (wpE (defs₀ (F := F)) 𝒱₀ (thr d L) none) Set.univ (tripC L t) Q) := by
  unfold tripC WSl
  by_cases h2 : k0_cond2 t = 1#1
  · have ht : 2 ≤ t.val := (cond2_iff t).mp h2
    have hp : (t.val - 2) % 2 = t.val % 2 := by omega
    rw [dif_pos h2, if_pos ht, show t.val - 1 = (t.val - 2) + 1 by omega]
    iintro ⟨HB, Hd, HO, #Hmw⟩ Hk
    ihave HO' := (OW_open d L O W) $$ HO
    icases HO' with ⟨%W', %hW, HO⟩
    iapply (wp_waits d L X (t.val - 2) (k0_off11 t) ((off11_eq t).trans (by rw [hp])) (k0_off11_inb t h2) (blkF t) (blkF_inb t)
      (fun r => k0_off10 L t (BitVec.ofNat 32 r)) (off10_in L t h2) O Q 7 0 rfl W') $$ [HB HO]
    · rw [Nat.zero_mul]
      isplitl [HB]; · iexact HB
      isplitl [HO]; · iexact HO
      iexact Hmw
    rw [delivered, hp]
    iintro ⟨⟨Hw, Ho⟩, Hs, HO⟩
    iapply Hk
    isplitl [Hs Ho]
    · unfold wIdle
      isplitl [Hs]; · iexact Hs
      iexists _; iexact Ho
    isplitl [Hd Hw]
    · iapply (done_step d (wid L) (t.val - 2) (wT X)).2
      isplitl [Hd] <;> iassumption
    iapply (OW_insert d L O W W' hW _) $$ HO
  · have ht : ¬ 2 ≤ t.val := fun h => h2 ((cond2_iff t).mpr h)
    rw [dif_neg h2, if_neg ht, show t.val - 1 = t.val - 2 by omega]
    iintro ⟨HB, Hd, HO, -⟩ Hk
    iapply (le_wp_ret frame (wpE (defs₀ (F := F)) 𝒱₀ (thr d L) none) (E := Set.univ) (⟨⟩ : PUnit) Q)
    iapply Hk
    isplitl [HB]; · iexact HB
    isplitl [Hd] <;> iassumption

theorem trips4 : k0_t4_loop.trips = 16 := by decide +kernel
theorem trips2 : k0_t2_loop.trips = 128 := by decide +kernel

theorem wp_tripD (t : Fin k0_t2_loop.trips) (f : S2x8x16x128.Idx → Elt F .f32) (Q : PUnit → sProp 𝕄) :
    iprop((rLoc d L ↦[slotR (t.val % 2)]{fullShare} (rowsT X (wid L) t.val : S2x128x128.Idx → Elt F .f32))
        ∗ (oLoc d L ↦[slotO (t.val % 2)]{fullShare} f))
      ⊢ iprop((iprop((rLoc d L ↦[slotR (t.val % 2)]{fullShare} (rowsT X (wid L) t.val : S2x128x128.Idx → Elt F .f32))
        ∗ (oLoc d L ↦[slotO (t.val % 2)]{fullShare} (outT X (wid L) t.val : S2x8x16x128.Idx → Elt F .f32))) -∗ Q ⟨⟩)
      -∗ wp frame (wpE (defs₀ (F := F)) 𝒱₀ (thr d L) none) Set.univ (tripD L t) Q) := by
  unfold tripD
  iintro ⟨Hr, Ho⟩ Hk
  iapply (Scf.wp_for_bind frame (wpE (defs₀ (F := F)) 𝒱₀ (thr d L) none) Set.univ _ _ _ _ _ _
    (fun k _ => iprop((rLoc d L ↦[slotR (t.val % 2)]{fullShare} (rowsT X (wid L) t.val : S2x128x128.Idx → Elt F .f32))
        ∗ (oLoc d L ↦[slotO (t.val % 2)]{fullShare} (fill X (wid L) t.val f k 0)))) ?_) $$ [Hr Ho]
  · intro u acc
    iintro H
    iapply (wp_chain d L X f t u _ 64 0 rfl) $$ H
    rw [fill_next]
    iintro H; iexact H
  · rw [fill_zero]
    isplitl [Hr] <;> iassumption
  rw [show Scf.trips k0_t4_loop.lb k0_t4_loop.ub k0_t4_loop.st = 16 from trips4, fill_full]
  iintro %acc H
  iapply (le_wp_ret frame (wpE (defs₀ (F := F)) 𝒱₀ (thr d L) none) (E := Set.univ) (⟨⟩ : PUnit) Q)
  iapply Hk $$ H

/-! ## The loop -/

def Inv (W0 : S524288x128.Idx → Elt F .f32) (O : CellTallies nD τ sig (HIx 1)) (W : Waits sig (HIx 1)) (t : ℕ) : sProp 𝕄 :=
  iprop(GSl d L X qs t ∗ gIdle d L X qs ((t + 1) % 2) ∗ WSl d L X t ∗ WSl d L X (t + 1)
    ∗ (wLoc d ↦[doneW (wid L) (t - 2)]{fullShare} (wT X : S524288x128.Idx → Elt F .f32)) ∗ (wLoc d ↦[todoW (wid L) t]{fullShare} W0)
    ∗ OW (F := F) d L O W ∗ Transfers.MayWaits (thr d L) (default : HIx 1) O)

theorem wp_trip (W0 : S524288x128.Idx → Elt F .f32) (O : CellTallies nD τ sig (HIx 1)) (W : Waits sig (HIx 1)) (t : Fin k0_t2_loop.trips) :
    Inv d L X qs W0 O W t.val ⊢ wp frame (wpE (defs₀ (F := F)) 𝒱₀ (thr d L) none) Set.univ (trip L t) fun _ => Inv d L X qs W0 O W (t.val + 1) := by
  have ht := t2_lt t
  unfold trip Inv
  iintro ⟨HG, Hg, HW, HW1, Hd, Ht, HO, #Hmw⟩
  rw [wp_bind]
  iapply (wp_tripA d L X qs t) $$ Hg
  iintro HG1
  rw [wp_bind]
  iapply (wp_tripB d L X qs t O W) $$ [HG HO]
  · isplitl [HG]; · iapply (Entails.of_eq (GSl_lt d L X qs ht)) $$ HG
    isplitl [HO]; · iexact HO
    iexact Hmw
  unfold GD
  iintro ⟨⟨Hr, Hx, Hi⟩, Hs, HO⟩
  rw [wp_bind]
  iapply (wp_tripC d L X t O W) $$ [HW Hd HO]
  · isplitl [HW]; · iexact HW
    isplitl [Hd]; · iexact Hd
    isplitl [HO]; · iexact HO
    iexact Hmw
  unfold wIdle
  iintro ⟨⟨Hws, ⟨%fo, Ho⟩⟩, Hd, HO⟩
  rw [wp_bind]
  iapply (wp_tripD d L X t fo) $$ [Hr Ho]
  · isplitl [Hr] <;> iassumption
  iintro ⟨Hr, Ho⟩
  imod (batch_alloc' countersEmb (c := thr d L) (sm := SemLoc.dma (wS (t.val % 2))) (default : HIx 1) NW (Del d L X t.val) (E := Set.univ)) $$ Hws with HB
  ihave Ht' := (todo_step d (wid L) t.val W0).1 $$ Ht
  icases Ht' with ⟨Hit, Ht⟩
  iapply (wp_issues d L X W0 t _ 8 0 rfl) $$ [HB Hit Ho]
  · isplitl [HB]; · iexact HB
    rw [← bigSep_pending_zero, ← bigSep_pending_zero, ← pieces_eq, ← blocks_eq]
    isplitl [Hit] <;> iassumption
  iintro HB
  isplitl [HG1]; · iexact HG1
  isplitl [Hr Hx Hi Hs]
  · rw [show (t.val + 1 + 1) % 2 = t.val % 2 by omega]
    unfold gIdle
    isplitl [Hs]; · iexact Hs
    isplitl [Hr]; · iexists _; iexact Hr
    isplitl [Hi]; · iexists _; iexact Hi
    iexact Hx
  isplitl [HW1]; · iexact HW1
  isplitl [HB]
  · unfold WSl
    rw [if_pos (by omega), show t.val + 1 + 1 - 2 = t.val by omega]
    iexact HB
  isplitl [Hd]
  · rw [show t.val + 1 - 2 = t.val - 1 by omega]
    iexact Hd
  isplitl [Ht]; · iexact Ht
  isplitl [HO]; · iexact HO
  iexact Hmw

theorem wp_taskT (W0 : S524288x128.Idx → Elt F .f32) (O : CellTallies nD τ sig (HIx 1)) (W : Waits sig (HIx 1)) (Q : PUnit → sProp 𝕄) :
    Inv d L X qs W0 O W 0 ⊢ iprop((Inv d L X qs W0 O W 128 -∗ Q ⟨⟩)
      -∗ wp frame (wpE (defs₀ (F := F)) 𝒱₀ (thr d L) none) Set.univ (taskT L) Q) := by
  unfold taskT
  iintro HI Hk
  iapply (Scf.wp_for_bind frame (wpE (defs₀ (F := F)) 𝒱₀ (thr d L) none) Set.univ _ _ _ _ _ _
    (fun k _ => Inv d L X qs W0 O W k) (fun t _ => wp_trip d L X qs W0 O W t)) $$ HI
  rw [show Scf.trips k0_t2_loop.lb k0_t2_loop.ub k0_t2_loop.st = 128 from trips2]
  iintro %acc H
  iapply (le_wp_ret frame (wpE (defs₀ (F := F)) 𝒱₀ (thr d L) none) (E := Set.univ) (⟨⟩ : PUnit) Q)
  iapply Hk $$ H

/-! ## The last waits -/

theorem wp_drain (n : ℕ) (p b : Fin 2) (hp : p.val = n % 2) (hS) (O : CellTallies nD τ sig (HIx 1)) (W : Waits sig (HIx 1)) (Q : PUnit → sProp 𝕄) :
    iprop(Bat d L X n 8 0 ∗ OW (F := F) d L O W ∗ Transfers.MayWaits (thr d L) (default : HIx 1) O)
      ⊢ iprop((iprop((wLoc d ↦[iterW (wid L) n]{fullShare} (wT X : S524288x128.Idx → Elt F .f32)) ∗ wIdle (F := F) d L (n % 2) ∗ OW (F := F) d L O W) -∗ Q ⟨⟩)
      -∗ wp frame (wpE (defs₀ (F := F)) 𝒱₀ (thr d L) none) Set.univ (drain L p b hS) Q) := by
  unfold drain
  iintro ⟨HB, HO, #Hmw⟩ Hk
  ihave HO' := (OW_open d L O W) $$ HO
  icases HO' with ⟨%W', %hW, HO⟩
  iapply (wp_waits d L X n ![p.val] (by rw [hp]) hS (fun r => ![p.val, r, 0, 0]) (blk_in p)
    (fun r => k0_off100 L (BitVec.ofNat 32 r) (BitVec.ofNat 32 (126 + b.val))) (off100_in L b) O Q 7 0 rfl W') $$ [HB HO]
  · rw [Nat.zero_mul]
    isplitl [HB]; · iexact HB
    isplitl [HO]; · iexact HO
    iexact Hmw
  rw [delivered]
  iintro ⟨⟨Hw, Ho⟩, Hs, HO⟩
  iapply Hk
  isplitl [Hw]; · iexact Hw
  isplitl [Hs Ho]
  · unfold wIdle
    isplitl [Hs]; · iexact Hs
    iexists _; iexact Ho
  iapply (OW_insert d L O W W' hW _) $$ HO

/-! ## The task -/

theorem wp_task (W0 : S524288x128.Idx → Elt F .f32) (O : CellTallies nD τ sig (HIx 1)) (W : Waits sig (HIx 1)) (Q : PUnit → sProp 𝕄) :
    iprop(gIdle d L X qs 0 ∗ gIdle d L X qs 1 ∗ wIdle (F := F) d L 0 ∗ wIdle (F := F) d L 1
        ∗ (wLoc d ↦[tileW (wid L)]{fullShare} W0) ∗ OW (F := F) d L O W ∗ Transfers.MayWaits (thr d L) (default : HIx 1) O)
      ⊢ iprop((iprop(gIdle d L X qs 0 ∗ gIdle d L X qs 1 ∗ wIdle (F := F) d L 0 ∗ wIdle (F := F) d L 1
        ∗ (wLoc d ↦[tileW (wid L)]{fullShare} (wT X : S524288x128.Idx → Elt F .f32)) ∗ OW (F := F) d L O W) -∗ Q ⟨⟩)
      -∗ wp frame (wpE (defs₀ (F := F)) 𝒱₀ (thr d L) none) Set.univ (task L) Q) := by
  unfold task
  iintro ⟨Hg0, Hg1, HW0, HW1, Hw, HO, #Hmw⟩ Hk
  ihave Hg0' := (gIdle_open d L X qs 0) $$ Hg0
  icases Hg0' with ⟨Hs, ⟨%fr, Hr⟩, ⟨%fi, Hi⟩, Hx⟩
  rw [wp_bind]
  iapply (wp_task0 d L fi) $$ Hi
  iintro Hi
  rw [wp_bind]
  unfold taskG
  iapply (gather_start d L (qs 0) X 0 0 (by decide) (by decide) ![0, 0, 0] rfl _ ![0, 0] rfl _ ![0] rfl) $$ [Hx Hr Hi Hs]
  · isplitl [Hx]; · iexact Hx
    isplitl [Hr]; · iexact Hr
    isplitl [Hi]; · iexact Hi
    iexact Hs
  iintro Hf
  rw [wp_bind]
  iapply (wp_taskT d L X qs W0 O W) $$ [Hf Hg1 HW0 HW1 Hw HO]
  · unfold Inv
    isplitl [Hf]
    · unfold GSl
      rw [if_pos (by decide)]
      unfold Fl
      iexact Hf
    isplitl [Hg1]; · iexact Hg1
    isplitl [HW0]
    · unfold WSl
      rw [if_neg (by decide)]
      iexact HW0
    isplitl [HW1]
    · unfold WSl
      rw [if_neg (by decide)]
      iexact HW1
    rw [todo_all, done_none, pointsTo_empty]
    isplitr; · iempintro
    isplitl [Hw]; · iexact Hw
    isplitl [HO]; · iexact HO
    iexact Hmw
  unfold Inv GSl WSl
  rw [if_neg (by decide), if_pos (by decide), if_pos (by decide)]
  iintro ⟨Hg0, Hg1, HB0, HB1, Hd, -, HO, -⟩
  rw [wp_bind]
  iapply (wp_drain d L X 127 1 1 rfl inb_S2_S1_1 O W) $$ [HB1 HO]
  · isplitl [HB1]; · iexact HB1
    isplitl [HO]; · iexact HO
    iexact Hmw
  iintro ⟨Hw1, HW1, HO⟩
  iapply (wp_drain d L X 126 0 0 rfl inb_S2_S1_0 O W) $$ [HB0 HO]
  · isplitl [HB0]; · iexact HB0
    isplitl [HO]; · iexact HO
    iexact Hmw
  iintro ⟨Hw0, HW0, HO⟩
  iapply Hk
  isplitl [Hg0]; · iexact Hg0
  isplitl [Hg1]; · iexact Hg1
  isplitl [HW0]; · iexact HW0
  isplitl [HW1]; · iexact HW1
  isplitl [Hd Hw0 Hw1]
  · rw [← done_all]
    iapply (done_step d (wid L) 127 (wT X)).2
    isplitl [Hd Hw0]
    · iapply (done_step d (wid L) 126 (wT X)).2
      isplitl [Hd] <;> iassumption
    iexact Hw1
  iexact HO

end

end Cert.Proof.Sc
-- ==== Proof.Launch.lean ====
/-
  The SparseCore call as the launch sees it: what its handshakes carry (each task a share of the source and its own rows
  of the transposed array), the task's obligation from `wp_task`, and the dispatch's split over the tasks.
-/
module

public import proofs.«01_k».proof.Proof.Body
public import proofs.«01_k».proof.Proof.Clean
public import Idealize.ShloMosaic.Lib.ShareLeaves

@[expose] public section

noncomputable section

namespace Cert.Proof.Sc

open Cert.KernelIdeal
open Cert.KernelIdeal.Facts₀ Cert.KernelIdeal.Facts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ShareLeaves (leaf pointsTo_leaves)

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## What the handshakes carry -/

/-- Task `w`'s share of the source, and its rows of the transposed array at contents `f`. -/
def part (d : Dev nD) (X f : S524288x128.Idx → Elt F .f32) (w : Fin 32) : sProp 𝕄 :=
  iprop((xLoc d ↦{leaf 5 fullShare w} X) ∗ (wLoc d ↦[tileW w.val]{fullShare} f))

instance part_storable (d : Dev nD) (X f : S524288x128.Idx → Elt F .f32) (w : Fin 32) : BI.Storable (upEmb : UEmb _ 𝕄) (part d X f w) := by
  unfold part; infer_instance

/-- The number of the task on core `c` and tile `i`. -/
def num (c : Fin 2) (i : Fin 16) : Fin 32 := ⟨2 * i.val + c.val, by omega⟩

theorem nCore_zero : (K (F := F)).nCore 0 = 2 := rfl
theorem nSub_zero : (K (F := F)).nSub 0 = 16 := rfl

/-- What a core takes and brings back: its tasks' parts. -/
def coreParts (d : Dev nD) (X f : S524288x128.Idx → Elt F .f32) (c : Fin 2) : sProp 𝕄 :=
  bigSep Finset.univ fun i : Fin 16 => part d X f (num c i)

instance coreParts_storable (d : Dev nD) (X f : S524288x128.Idx → Elt F .f32) (c : Fin 2) : BI.Storable (upEmb : UEmb _ 𝕄) (coreParts d X f c) := by
  unfold coreParts; infer_instance

/-- The call on source `X d`, the transposed array going from `W₀ d` to `wT (X d)`. -/
def PC (X W₀ : Dev nD → S524288x128.Idx → Elt F .f32) : (K (F := F)).Pay (nD := nD) (Val := Elt F) (Name := ℕ) (U := UU) where
  st := fun q d c => match q with | 0 => coreParts d (X d) (W₀ d) (Fin.cast nCore_zero c)
  dn := fun q d c => match q with | 0 => coreParts d (X d) (wT (X d)) (Fin.cast nCore_zero c)
  go := fun q d c i => match q with | 0 => part d (X d) (W₀ d) (num (Fin.cast nCore_zero c) (Fin.cast nSub_zero i))
  td := fun q d c i => match q with | 0 => part d (X d) (wT (X d)) (num (Fin.cast nCore_zero c) (Fin.cast nSub_zero i))
  x := fun _ _ => iprop(emp)

instance PC_storable (X W₀ : Dev nD → S524288x128.Idx → Elt F .f32) : (PC (F := F) X W₀).IsStorable where
  st q d c := match q with | 0 => coreParts_storable d (X d) (W₀ d) (Fin.cast nCore_zero c)
  dn q d c := match q with | 0 => coreParts_storable d (X d) (wT (X d)) (Fin.cast nCore_zero c)
  go q d c i := match q with | 0 => part_storable d (X d) (W₀ d) (num (Fin.cast nCore_zero c) (Fin.cast nSub_zero i))
  td q d c i := match q with | 0 => part_storable d (X d) (wT (X d)) (num (Fin.cast nCore_zero c) (Fin.cast nSub_zero i))

/-! ## The whole source and transposed array are the cores' parts -/

/-- A core and a tile from a task's number. -/
def numEquiv : Fin 2 × Fin 16 ≃ Fin 32 := (Equiv.prodComm (Fin 2) (Fin 16)).trans finProdFinEquiv

theorem numEquiv_apply (c : Fin 2) (i : Fin 16) : numEquiv (c, i) = num c i :=
  Fin.ext (by show c.val + 2 * i.val = 2 * i.val + c.val; omega)

theorem tiles_cover : (Finset.univ : Finset (Fin 32)).biUnion (fun w => tileW w.val) = (Finset.univ : Finset S524288x128.Idx) := by
  ext x
  have h : (x 0).val < 524288 := (x 0).isLt
  refine ⟨fun _ => Finset.mem_univ _, fun _ => ?_⟩
  exact Finset.mem_biUnion.mpr ⟨⟨(x 0).val / 16384, by omega⟩, Finset.mem_univ _, mem_tileW.mpr rfl⟩

theorem tiles_disjoint : ∀ w ∈ (Finset.univ : Finset (Fin 32)), ∀ w' ∈ (Finset.univ : Finset (Fin 32)), w ≠ w' → Disjoint (tileW w.val) (tileW w'.val) :=
  fun w _ w' _ h => Finset.disjoint_left.mpr fun x hx hx' => h (Fin.ext ((mem_tileW.mp hx).symm.trans (mem_tileW.mp hx')))

theorem bigSep_num (Φ : Fin 32 → sProp 𝕄) : bigSep Finset.univ Φ = bigSep Finset.univ fun c : Fin 2 => bigSep Finset.univ fun i : Fin 16 => Φ (num c i) := by
  rw [bigSep_univ_equiv numEquiv, ← Finset.univ_product_univ, SparseCore.bigSep_product]
  exact bigSep_congr fun c _ => bigSep_congr fun i _ => congrArg Φ (numEquiv_apply c i)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem whole_parts (d : Dev nD) (X f : S524288x128.Idx → Elt F .f32) :
    (iprop((xLoc d ↦{fullShare} X) ∗ (wLoc d ↦{fullShare} f)) : sProp 𝕄) = bigSep Finset.univ fun c : Fin 2 => coreParts d X f c := by
  have hw : (wLoc d ↦{fullShare} f : sProp 𝕄) = bigSep Finset.univ fun w : Fin 32 => wLoc d ↦[tileW w.val]{fullShare} f := by
    rw [← pointsTo_biUnion Finset.univ (ℓ := wLoc d) (fun w : Fin 32 => tileW w.val) tiles_disjoint, tiles_cover]
  have hx : (xLoc d ↦{fullShare} X : sProp 𝕄) = bigSep Finset.univ fun w : Fin 32 => xLoc d ↦{leaf 5 fullShare w} X :=
    pointsTo_leaves (ℓ := xLoc d) (Val := Elt F) Finset.univ X 5 fullShare
  exact (congrArg₂ (fun a b : sProp 𝕄 => iprop(a ∗ b)) hx hw).trans ((bigSep_sep' _ _ _).symm.trans (bigSep_num (fun w => part d X f w)))

theorem vecSplit (X W₀ : Dev nD → S524288x128.Idx → Elt F .f32) : (K (F := F)).VecSplit' (PC X W₀) 0 := by
  intro d c
  show coreParts d (X d) (W₀ d) (Fin.cast nCore_zero c) ⊢ |={Set.univ}=> iprop(
      (bigSep Finset.univ fun i : Fin ((K (F := F)).nSub 0) => part d (X d) (W₀ d) (num (Fin.cast nCore_zero c) (Fin.cast nSub_zero i)))
      ∗ ((bigSep Finset.univ fun i : Fin ((K (F := F)).nSub 0) => part d (X d) (wT (X d)) (num (Fin.cast nCore_zero c) (Fin.cast nSub_zero i)))
          -∗ coreParts d (X d) (wT (X d)) (Fin.cast nCore_zero c)))
  rw [bigSep_tasks (F := F) (fun i => part d (X d) (W₀ d) (num (Fin.cast nCore_zero c) i)),
    bigSep_tasks (F := F) (fun i => part d (X d) (wT (X d)) (num (Fin.cast nCore_zero c) i))]
  unfold coreParts
  iintro H
  imodintro
  isplitl [H]; · iexact H
  iintro H; iexact H

/-! ## A task's scratch -/

/-- A buffer at some contents is its two halves at some. -/
theorem halves {ℓ : Loc nD τ sig} (I J : Finset (Idx ℓ)) (hd : Disjoint I J) (hu : I ∪ J = Finset.univ) :
    (iprop(∃ f, ℓ ↦{fullShare} f) : sProp 𝕄) ⊢ iprop((∃ f, ℓ ↦[I]{fullShare} f) ∗ (∃ f, ℓ ↦[J]{fullShare} f)) := by
  iintro ⟨%f, H⟩
  ihave H' := (Entails.of_eq (show (ℓ ↦{fullShare} f : sProp 𝕄) = ℓ ↦[I ∪ J]{fullShare} f by rw [hu])) $$ H
  ihave H' := (pointsTo_union (q := fullShare) (f := f) hd).1 $$ H'
  icases H' with ⟨H1, H2⟩
  isplitl [H1]
  · iexists f; iexact H1
  iexists f; iexact H2

theorem halves_join {ℓ : Loc nD τ sig} (I J : Finset (Idx ℓ)) (hd : Disjoint I J) (hu : I ∪ J = Finset.univ) :
    (iprop((∃ f, ℓ ↦[I]{fullShare} f) ∗ (∃ f, ℓ ↦[J]{fullShare} f)) : sProp 𝕄) ⊢ iprop(∃ f, ℓ ↦{fullShare} f) := by
  iintro ⟨⟨%f, H1⟩, %g, H2⟩
  ihave H := (pointsTo_join (q := fullShare) (f := f) (g := g) hd) $$ [H1 H2]
  · isplitl [H1]; · iexact H1
    iexact H2
  iexists _
  iapply (Entails.of_eq (show (ℓ ↦[I ∪ J]{fullShare} (J.piecewise g f) : sProp 𝕄) = ℓ ↦{fullShare} (J.piecewise g f) by rw [hu])) $$ H

theorem slotI_disj : Disjoint (slotI 0) (slotI 1) := Finset.disjoint_left.mpr fun x h h' => by
  have := (Finset.mem_filter.mp h).2; have := (Finset.mem_filter.mp h').2; omega
theorem slotR_disj : Disjoint (slotR 0) (slotR 1) := Finset.disjoint_left.mpr fun x h h' => by
  have := (Finset.mem_filter.mp h).2; have := (Finset.mem_filter.mp h').2; omega
theorem slotO_disj : Disjoint (slotO 0) (slotO 1) := Finset.disjoint_left.mpr fun x h h' => by
  have := (Finset.mem_filter.mp h).2; have := (Finset.mem_filter.mp h').2; omega
theorem slotI_union : slotI 0 ∪ slotI 1 = Finset.univ := by
  ext x
  have h : (x 0).val < 2 := (x 0).isLt
  refine ⟨fun _ => Finset.mem_univ _, fun _ => Finset.mem_union.mpr ?_⟩
  rcases (show (x 0).val = 0 ∨ (x 0).val = 1 by omega) with e | e
  · exact .inl (Finset.mem_filter.mpr ⟨Finset.mem_univ _, e⟩)
  · exact .inr (Finset.mem_filter.mpr ⟨Finset.mem_univ _, e⟩)
theorem slotR_union : slotR 0 ∪ slotR 1 = Finset.univ := by
  ext x
  have h : (x 0).val < 2 := (x 0).isLt
  refine ⟨fun _ => Finset.mem_univ _, fun _ => Finset.mem_union.mpr ?_⟩
  rcases (show (x 0).val = 0 ∨ (x 0).val = 1 by omega) with e | e
  · exact .inl (Finset.mem_filter.mpr ⟨Finset.mem_univ _, e⟩)
  · exact .inr (Finset.mem_filter.mpr ⟨Finset.mem_univ _, e⟩)
theorem slotO_union : slotO 0 ∪ slotO 1 = Finset.univ := by
  ext x
  have h : (x 0).val < 2 := (x 0).isLt
  refine ⟨fun _ => Finset.mem_univ _, fun _ => Finset.mem_union.mpr ?_⟩
  rcases (show (x 0).val = 0 ∨ (x 0).val = 1 by omega) with e | e
  · exact .inl (Finset.mem_filter.mpr ⟨Finset.mem_univ _, e⟩)
  · exact .inr (Finset.mem_filter.mpr ⟨Finset.mem_univ _, e⟩)

section Tile

variable (d : Dev nD) (L : grid0.Coords)

abbrev cell (s : DmaSem sig) : GSem nD τ sig := (thr d L, .dma s)

theorem cell_own (s : DmaSem sig) (h : (SemLoc.dma s : SemLoc sig).isScoped .scVector = true) : cell d L s ∈ ownCells (thr d L) :=
  mem_ownCells.mpr ⟨rfl, h⟩
theorem cell_ne {s s' : DmaSem sig} (h : s ≠ s') : cell d L s ≠ cell d L s' :=
  fun e => h (by injection e with _ e; injection e)

theorem ownSems0_task :
    (ownSems0 (thr d L) : sProp 𝕄)
      = iprop(semVal (thr d L, SemLoc.dma (gS 0)) 0 ∗ semVal (thr d L, SemLoc.dma (gS 1)) 0 ∗ semVal (thr d L, SemLoc.dma (wS 0)) 0
          ∗ semVal (thr d L, SemLoc.dma (wS 1)) 0
          ∗ bigSep (((((ownCells (thr d L)).erase (cell d L (gS 0))).erase (cell d L (gS 1))).erase (cell d L (wS 0))).erase (cell d L (wS 1))) fun g => semVal g 0) := by
  unfold SparseCore.Cfg.ownSems0
  rw [SparseCore.bigSep_erase' (cell_own d L (gS 0) (by decide)),
    SparseCore.bigSep_erase' (Finset.mem_erase.mpr ⟨cell_ne d L (by decide), cell_own d L (gS 1) (by decide)⟩),
    SparseCore.bigSep_erase' (Finset.mem_erase.mpr ⟨cell_ne d L (by decide), Finset.mem_erase.mpr ⟨cell_ne d L (by decide), cell_own d L (wS 0) (by decide)⟩⟩),
    SparseCore.bigSep_erase' (Finset.mem_erase.mpr ⟨cell_ne d L (by decide), Finset.mem_erase.mpr ⟨cell_ne d L (by decide),
      Finset.mem_erase.mpr ⟨cell_ne d L (by decide), cell_own d L (wS 1) (by decide)⟩⟩⟩)]

abbrev ref (b : Ref sig .scVector) : DevRef τ sig := (Proc.scVector (cV L) (jV L)).devRef b

theorem ref_ne {b b' : Ref sig .scVector} (h : b ≠ b') : ref L b ≠ ref L b' := fun e => h (Proc.devRef_injective _ e)

theorem ownBufs_task :
    (ownBufs (thr d L) : sProp 𝕄)
      = iprop((∃ f, iLoc d L ↦{fullShare} f) ∗ (∃ f, rLoc d L ↦{fullShare} f) ∗ (∃ f, oLoc d L ↦{fullShare} f)
          ∗ bigSep ((((ownRefs (τ := τ) (.scVector (cV L) (jV L))).erase (ref L cc0_scratch0)).erase (ref L cc0_scratch1)).erase (ref L cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ref L cc0_scratch0) rfl)).trans ?_
  rw [SparseCore.bigSep_erase' (Finset.mem_erase.mpr ⟨ref_ne L (by decide),
      SparseCore.Cfg.mem_ownRefs_of_owner (p := Proc.scVector (cV L) (jV L)) (b := ref L cc0_scratch1) rfl⟩),
    SparseCore.bigSep_erase' (Finset.mem_erase.mpr ⟨ref_ne L (by decide), Finset.mem_erase.mpr ⟨ref_ne L (by decide),
      SparseCore.Cfg.mem_ownRefs_of_owner (p := Proc.scVector (cV L) (jV L)) (b := ref L cc0_scratch2) rfl⟩⟩)]

/-- A slot's half of a task's share of the source. -/
def half (w : Fin 32) (p : ℕ) : PosShare TreeShare := if p = 0 then (leaf 5 fullShare w).left else (leaf 5 fullShare w).right

theorem tile_body (X f : S524288x128.Idx → Elt F .f32) (O : CellTallies nD τ sig (HIx 1)) (W : Waits sig (HIx 1)) (hO : ∀ g, O g none = 0) :
    iprop(levAts (K (F := F)).L (K (F := F)).lev ∗ emp ∗ part d X f ⟨wid L, wid_lt L⟩
        ∗ scopedBufs (thr d L) ∗ scopedSems0 (thr d L) ∗ owes (thr d L) O W)
      ⊢ wp frame (wpE (defs₀ (F := F)) 𝒱₀ (thr d L) none) Set.univ
          (cc0__sc_transpose_body L xV (Memref.isWhole_whole _) wV (Memref.isWhole_whole _) iV (Memref.isWhole_whole _)
            rV (Memref.isWhole_whole _) oV (Memref.isWhole_whole _) cc0_scratch3 cc0_scratch4)
          fun _ => iprop(part d X (wT X) ⟨wid L, wid_lt L⟩ ∗ scopedBufs (thr d L) ∗ scopedSems0 (thr d L)
            ∗ ∃ W', ⌜∀ p ∈ W', p ∈ W ∨ p.2 = none⌝ ∗ owes (thr d L) O W') := by
  rw [task_eq, (K (F := F)).scopedBufs_V scFacts d (cV L) (jV L), SparseCore.Cfg.scopedSems0_V (Val := Elt F) d (cV L) (jV L), ownSems0_task, ownBufs_task]
  unfold part
  iintro ⟨#Hlv, -, ⟨Hx, Hw⟩, ⟨Hi, Hr, Ho, Hbufs⟩, ⟨Hg0, Hg1, Hw0, Hw1, Hsems⟩, HO⟩
  ihave Hmw := (show levAts (K (F := F)).L (K (F := F)).lev ⊢ Transfers.MayWaits (thr d L) (default : HIx 1) O from
    (K (F := F)).mayWaits_none (thr := thr d L) hO) $$ Hlv
  ihave Hi := (halves (ℓ := iLoc d L) (slotI 0) (slotI 1) slotI_disj slotI_union) $$ Hi
  icases Hi with ⟨Hi0, Hi1⟩
  ihave Hr := (halves (ℓ := rLoc d L) (slotR 0) (slotR 1) slotR_disj slotR_union) $$ Hr
  icases Hr with ⟨Hr0, Hr1⟩
  ihave Ho := (halves (ℓ := oLoc d L) (slotO 0) (slotO 1) slotO_disj slotO_union) $$ Ho
  icases Ho with ⟨Ho0, Ho1⟩
  ihave Hx := (pointsTo_share (PosShare.mem_left_op_right (leaf 5 fullShare ⟨wid L, wid_lt L⟩))).1 $$ Hx
  icases Hx with ⟨Hx0, Hx1⟩
  iapply (wp_task d L X (half ⟨wid L, wid_lt L⟩) f O W) $$ [Hi0 Hi1 Hr0 Hr1 Ho0 Ho1 Hx0 Hx1 Hg0 Hg1 Hw0 Hw1 Hw HO Hmw]
  · isplitl [Hg0 Hr0 Hi0 Hx0]
    · unfold gIdle
      isplitl [Hg0]; · iexact Hg0
      isplitl [Hr0]; · iexact Hr0
      isplitl [Hi0]; · iexact Hi0
      iexact Hx0
    isplitl [Hg1 Hr1 Hi1 Hx1]
    · unfold gIdle
      isplitl [Hg1]; · iexact Hg1
      isplitl [Hr1]; · iexact Hr1
      isplitl [Hi1]; · iexact Hi1
      iexact Hx1
    isplitl [Hw0 Ho0]
    · unfold wIdle
      isplitl [Hw0]; · iexact Hw0
      iexact Ho0
    isplitl [Hw1 Ho1]
    · unfold wIdle
      isplitl [Hw1]; · iexact Hw1
      iexact Ho1
    isplitl [Hw]; · iexact Hw
    isplitl [HO]
    · unfold OW
      iexists W
      isplitr; · ipureintro; exact fun _ h => .inl h
      iexact HO
    iexact Hmw
  unfold gIdle wIdle OW
  iintro ⟨⟨Hg0, Hr0, Hi0, Hx0⟩, ⟨Hg1, Hr1, Hi1, Hx1⟩, ⟨Hw0, Ho0⟩, ⟨Hw1, Ho1⟩, Hw, HO⟩
  isplitl [Hx0 Hx1 Hw]
  · isplitl [Hx0 Hx1]
    · iapply (pointsTo_share (PosShare.mem_left_op_right (leaf 5 fullShare ⟨wid L, wid_lt L⟩))).2
      isplitl [Hx0]; · iexact Hx0
      iexact Hx1
    iexact Hw
  isplitl [Hi0 Hi1 Hr0 Hr1 Ho0 Ho1 Hbufs]
  · isplitl [Hi0 Hi1]
    · iapply (halves_join (ℓ := iLoc d L) (slotI 0) (slotI 1) slotI_disj slotI_union)
      isplitl [Hi0]; · iexact Hi0
      iexact Hi1
    isplitl [Hr0 Hr1]
    · iapply (halves_join (ℓ := rLoc d L) (slotR 0) (slotR 1) slotR_disj slotR_union)
      isplitl [Hr0]; · iexact Hr0
      iexact Hr1
    isplitl [Ho0 Ho1]
    · iapply (halves_join (ℓ := oLoc d L) (slotO 0) (slotO 1) slotO_disj slotO_union)
      isplitl [Ho0]; · iexact Ho0
      iexact Ho1
    iexact Hbufs
  isplitl [Hg0 Hg1 Hw0 Hw1 Hsems]
  · isplitl [Hg0]; · iexact Hg0
    isplitl [Hg1]; · iexact Hg1
    isplitl [Hw0]; · iexact Hw0
    isplitl [Hw1]; · iexact Hw1
    iexact Hsems
  iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_transpose_body (coordsV c s) xV (Memref.isWhole_whole _) wV (Memref.isWhole_whole _)
          iV (Memref.isWhole_whole _) rV (Memref.isWhole_whole _) oV (Memref.isWhole_whole _) cc0_scratch3 cc0_scratch4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (X W₀ : Dev nD → S524288x128.Idx → Elt F .f32) : (K (F := F)).TileObl (D (F := F)) 𝒱 (PC X W₀) v₀ 0 := by
  intro d c i O W hO _ _
  simp only [show (PC X W₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (X d) (W₀ d) O W hO).trans (wp_mono frame _ _ fun _ => obl_post)

end Tile

end Cert.Proof.Sc

end
-- ==== Proof.Combine.lean ====
/-
  The TensorCore call: at each of 64 grid points the mean of a block of the source and of the same block of the
  transposed array. The call's run as one region, and the contents that it leaves in its result.
-/
module

public import proofs.«01_k».proof.Proof.Setup
public import Idealize.ShloMosaic.Lib.Pipeline.ValueKit
public import Idealize.ShloMosaic.Lib.Pipeline.RegionArrays
public import Idealize.ShloMosaic.Lib.VecWindow

@[expose] public section

noncomputable section

namespace Cert.Proof.Sc

open Cert.KernelIdeal
open Cert.KernelIdeal.Facts₀ Cert.KernelIdeal.Facts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.TcCoe
open Idealize.ShloMosaic.Pipeline (Dat BodyObligation)

/-! ## The body -/

/-- One half, as the body's constant spells it. -/
def oneHalf : Elt F .f32 := (Scalar.ofBits .f32 0x3F000000#32 : F .f32)

/-- The mean of two arrays of a shape, as the body computes it. -/
def mean (s : Shape) (X Y : s.Idx → Elt F .f32) : s.Idx → Elt F .f32 :=
  mulf (F := F) (φ := .f32) (addf (F := F) (φ := .f32) X Y) (broadcast s (oneHalf (F := F)))

/-- A block's whole rectangle. -/
abbrev rB : Rect S8192x128 := Rect.unit (s := S8192x128) ![0, 0] S8192x128.size inb_S8192x128_S8192x128_0_0

/-- A block read whole through a view. -/
theorem load_block {κ : Kind} (v : View sig κ .vmem S8192x128 .f32) (f : v.ty.Contents (Elt F)) :
    (v.slice rB).read (Elt F) f = v.read (Elt F) f := by
  funext y
  have hy : rB.emb y = y :=
    Rect.emb_unit_full _ y
  show v.read (Elt F) f (rB.emb y) = _
  rw [hy]

/-- The elements that a block reads are its view's. -/
theorem sub_block {κ : Kind} (v : View sig κ .vmem S8192x128 .f32) : (v.slice rB).set ⊆ v.set := View.set_slice_subset v rB

/-- A block stored whole through a view. -/
theorem store_block {κ : Kind} (v : View sig κ .vmem S8192x128 .f32) (f : v.ty.Contents (Elt F)) (w : S8192x128.Idx → Elt F .f32) :
    v.read (Elt F) ((v.slice rB).write (Elt F) f w Finset.univ) = w :=
  (load_block v _).symm.trans (View.read_write_univ _ _)

/-- A whole block loaded. -/
theorem wp_load_block (d : Dev nD) (A : Memref sig .tc .vmem S8192x128 .f32) {hl : A.view.LoadsAt rB.toLoadRect}
    (k : (S8192x128.Idx → Elt F .f32) → Prog (TpuEff nD τ sig (Elt F) Λ₀ .tc) PUnit) (f : Buf (Elt F) (A.view.loc (SparseCore.T d)))
    (E : Set ℕ) (Q : PUnit → sProp 𝕄) :
    (A.view.loc (SparseCore.T d) ↦[A.view.set]{fullShare} f : sProp 𝕄)
      ⊢ iprop(((A.view.loc (SparseCore.T d) ↦[A.view.set]{fullShare} f)
            -∗ wp frame (wpE (defs₀ (F := F)) 𝒱₀ (SparseCore.T d) none) E (k (A.view.read (Elt F) f)) Q)
        -∗ wp frame (wpE (defs₀ (F := F)) 𝒱₀ (SparseCore.T d) none) E (.op (.load A rB.toLoadRect hl) k) Q) := by
  rw [← show A.view.readAt (Elt F) rB.toLoadRect f = A.view.read (Elt F) f from load_block A.view f]
  exact wp_load (defs := defs₀ (F := F)) (Name := ℕ) (U := UU) (Ix := HIx 1) (Lvl := ℕ) 𝒱₀ (SparseCore.T d) none E (m := A)
    (r := rB.toLoadRect) (hl := hl) (k := k) (Q := Q) (S := A.view.set) (q := fullShare) (f := f) (View.setOn_subset_set _ _)

/-- A whole block stored. -/
theorem wp_store_block (d : Dev nD) (A : Memref sig .tc .vmem S8192x128 .f32) {w : S8192x128.Idx → Elt F .f32} {hx hm}
    (k : PUnit → Prog (TpuEff nD τ sig (Elt F) Λ₀ .tc) PUnit) (f : Buf (Elt F) (A.view.loc (SparseCore.T d)))
    (E : Set ℕ) (Q : PUnit → sProp 𝕄) :
    (A.view.loc (SparseCore.T d) ↦[A.view.set]{fullShare} f : sProp 𝕄)
      ⊢ iprop(((A.view.loc (SparseCore.T d) ↦[A.view.set]{fullShare} ((A.view.slice rB).write (Elt F) f w Finset.univ))
            -∗ wp frame (wpE (defs₀ (F := F)) 𝒱₀ (SparseCore.T d) none) E (k ⟨⟩) Q)
        -∗ wp frame (wpE (defs₀ (F := F)) 𝒱₀ (SparseCore.T d) none) E (.op (.store A rB w Finset.univ hx hm) k) Q) :=
  wp_store (defs := defs₀ (F := F)) (Name := ℕ) (U := UU) (Ix := HIx 1) (Lvl := ℕ) 𝒱₀ (SparseCore.T d) none E (m := A) (r := rB) (w := w) (Mk := Finset.univ) (hx := hx) (hm := hm) (k := k) (Q := Q)
    (f := f) ((View.setOn_subset_set _ _).trans (sub_block A.view))

/-- The body from its three staging buffers. -/
theorem wp_combine (d : Dev nD) (i : grid1.Coords) (A B C : Memref sig .tc .vmem S8192x128 .f32) (hA : A.IsWhole) (hB : B.IsWhole) (hC : C.IsWhole)
    (X Y Z : S8192x128.Idx → Elt F .f32) (E : Set ℕ) (Q : PUnit → sProp 𝕄) :
    iprop(owns (SparseCore.T d) A fullShare X ∗ owns (SparseCore.T d) B fullShare Y ∗ owns (SparseCore.T d) C fullShare Z
        ∗ (iprop(owns (SparseCore.T d) A fullShare X ∗ owns (SparseCore.T d) B fullShare Y ∗ owns (SparseCore.T d) C fullShare (mean S8192x128 X Y)) -∗ Q ⟨⟩))
      ⊢ wp frame (wpE (defs₀ (F := F)) 𝒱₀ (SparseCore.T d) none) E (cc1__combine_body i A hA B hB C hC) Q := by
  rw [show cc1__combine_body (F := F) i A hA B hB C hC
      = .op (.load A rB.toLoadRect (View.loadsAt_vmem h_S8192x128)) fun x =>
        .op (.load B rB.toLoadRect (View.loadsAt_vmem h_S8192x128)) fun y =>
        .op (.load C rB.toLoadRect (View.loadsAt_vmem h_S8192x128)) fun _ =>
        .op (.store C rB (mean S8192x128 (shapeCast S8192x128 x shapeCasts_S8192x128_S8192x128)
            (shapeCast S8192x128 y shapeCasts_S8192x128_S8192x128)) Finset.univ
          (View.stores_vmem_bits_univ h_S8192x128 rfl) (.inl rfl)) .ret from rfl]
  unfold owns
  iintro ⟨⟨%f, %hf, HA⟩, ⟨%g, %hg, HB⟩, ⟨%h, -, HC⟩, Hk⟩
  iapply (wp_load_block d A _ f E Q) $$ HA
  iintro HA
  iapply (wp_load_block d B _ g E Q) $$ HB
  iintro HB
  iapply (wp_load_block d C _ h E Q) $$ HC
  iintro HC
  iapply (wp_store_block d C _ h E Q) $$ HC
  iintro HC
  iapply le_wp_ret
  iapply Hk
  isplitl [HA]
  · iexists f; isplitr
    · ipureintro; exact hf
    · iexact HA
  isplitl [HB]
  · iexists g; isplitr
    · ipureintro; exact hg
    · iexact HB
  iexists _; isplitr; swap
  · iexact HC
  · ipureintro
    refine (store_block C.view _ _).trans ?_
    exact congrArg₂ (mean S8192x128) ((shapeCast_self _ _).trans hf) ((shapeCast_self _ _).trans hg)

/-! ## The call's layout -/

def semTab : Fin 1 → List (DmaSem sig) := fun
  | 0 => Pipeline.specSems spec1
  | ⟨_ + 1, h⟩ => absurd h (Nat.not_lt.2 (Nat.le_add_left _ _))
theorem semsDistinct : ∀ p, (semTab p).Nodup := by decide
theorem semsDisjoint : ∀ p p', p ≠ p' → (semTab p).Forall (· ∉ semTab p') := by decide

theorem cellOf_inj : Function.Injective (Pipeline.cellOf (nD := nD) (τ := τ) cfgs) :=
  Pipeline.cellOf_injective_of_table cfgs semTab (fun | 0 => rfl | ⟨_ + 1, h⟩ => absurd h (Nat.not_lt.2 (Nat.le_add_left _ _))) semsDistinct semsDisjoint

theorem winFacts : Pipeline.WinFacts spec1 := by decide
theorem block_pos : ∀ w : Fin 3, 0 < (spec1 w).block.numel := by decide
theorem arr_whole : ∀ w : Fin 3, (spec1 w).arr.IsWhole := fun
  | 0 => Memref.isWhole_whole _
  | 1 => Memref.isWhole_whole _
  | 2 => Memref.isWhole_whole _
  | ⟨_ + 3, h⟩ => absurd h (Nat.not_lt.2 (Nat.le_add_left _ _))
theorem stage_whole : ∀ (w : Fin 3) (s : Fin (spec1 w).nbuf), ((spec1 w).stage s).IsWhole := fun
  | 0 => fun s => hstage1_0 (s.cast nbuf1_0)
  | 1 => fun s => hstage1_1 (s.cast nbuf1_1)
  | 2 => fun s => hstage1_2 (s.cast nbuf1_2)
  | ⟨_ + 3, h⟩ => absurd h (Nat.not_lt.2 (Nat.le_add_left _ _))

theorem layout : Pipeline.LaunchFacts (nD := nD) (τ := τ) cfgs 0 := ⟨cellOf_inj, winFacts, block_pos, arr_whole, stage_whole⟩

theorem bigSep_win (Φ : Fin cfg1.W → sProp 𝕄) : bigSep Finset.univ Φ = iprop(Φ 0 ∗ Φ 1 ∗ Φ 2) :=
  bigSep_univ_eq_bigSepL [0, 1, 2] (by decide) (by decide) Φ

theorem scopedRest_emp (c : Dev nD) :
    (Pipeline.scopedRest (Ix := HIx 1) (Name := ℕ) (U := UU) (Lvl := ℕ) (Val := Elt F) spec1 c : sProp 𝕄) = BI.emp :=
  Pipeline.scopedRest_eq_of_list spec1 c [] (by decide) (by decide)

theorem fetch_0 : ∀ t : Fin cfg1.N, (cfg1.win 0).fetch t = true :=
  (fun t => (Pipeline.Window.fetch_reads win1_0 rfl 0 (by decide) (by decide)
    (Pipeline.Window.sep_of_coord cc1_transform_0 0 0 (fun _ => rfl) (by decide)) (P := 1) (by decide) t).mpr (Nat.mod_one _) :
      ∀ t : Fin grid1.N, win1_0.fetch t = true)
theorem fetch_1 : ∀ t : Fin cfg1.N, (cfg1.win 1).fetch t = true :=
  (fun t => (Pipeline.Window.fetch_reads win1_1 rfl 0 (by decide) (by decide)
    (Pipeline.Window.sep_of_coord cc1_transform_1 0 0 (fun _ => rfl) (by decide)) (P := 1) (by decide) t).mpr (Nat.mod_one _) :
      ∀ t : Fin grid1.N, win1_1.fetch t = true)

/-! ## The contents -/

variable (X Y Z : Dev nD → S524288x128.Idx → Elt F .f32)

/-- The blocks of the two operands at a grid point. -/
def blkX (d : Dev nD) (t : Fin cfg1.N) : S8192x128.Idx → Elt F .f32 := ((cfg1.win 0).blk t).view.read (Elt F) (X d)
def blkY (d : Dev nD) (t : Fin cfg1.N) : S8192x128.Idx → Elt F .f32 := ((cfg1.win 1).blk t).view.read (Elt F) (Y d)

/-- The call's data: its arrays on entry, and its staging buffers after each point. -/
def dat (d : Dev nD) : Dat τ (Elt F) (HIx 1) ℕ UU ℕ cfg1 d where
  A w := match w with
    | ⟨0, _⟩ => X d
    | ⟨1, _⟩ => Y d
    | ⟨2, _⟩ => Z d
  after w t := match w with
    | ⟨0, _⟩ => blkX X d t
    | ⟨1, _⟩ => blkY Y d t
    | ⟨2, _⟩ => mean S8192x128 (blkX X d t) (blkY Y d t)
  Φ _ := BI.emp
  q _ := fullShare
  owed _ := 0

abbrev adm (p : Fin 1) : (pcfgs (F := F) p).Adm := (cfgs p).toPCfg_adm

def pdats : (p : Fin 1) → (d : Dev nD) → Dat τ (Elt F) (HIx 1) ℕ UU ℕ (Pipeline.pin (pcfgs (F := F)) adm p) d
  | ⟨0, _⟩ => fun d => dat X Y Z d

theorem before_0 (d : Dev nD) (t : Fin cfg1.N) (e) : (dat X Y Z d).before 0 t e = blkX X d t := by
  rw [Dat.before_fetched _ _ _ (fetch_0 t)]; rfl
theorem before_1 (d : Dev nD) (t : Fin cfg1.N) (e) : (dat X Y Z d).before 1 t e = blkY Y d t := by
  rw [Dat.before_fetched _ _ _ (fetch_1 t)]; rfl

theorem combine_obligation (d : Dev nD) : BodyObligation (dat X Y Z d) (defs₀ (F := F)) 𝒱₀ none Set.univ := fun t => by
  rw [bigSep_win, bigSep_win]
  rw [show (dat X Y Z d).Φ t.succ = (dat X Y Z d).Φ t.castSucc from rfl,
    show (dat X Y Z d).owesAt none t.succ = (dat X Y Z d).owesAt none t.castSucc from rfl]
  iintro ⟨HΦ, Howes, ⟨%d0, H0⟩, ⟨%d1, H1⟩, ⟨%d2, H2⟩⟩
  ihave H0 := (Entails.of_eq (congrArg (fun x => owns (SparseCore.T d) ((cfg1.win 0).stage (cfg1.slots t 0)) fullShare x) (before_0 X Y Z d t d0))) $$ H0
  ihave H1 := (Entails.of_eq (congrArg (fun x => owns (SparseCore.T d) ((cfg1.win 1).stage (cfg1.slots t 1)) fullShare x) (before_1 X Y Z d t d1))) $$ H1
  iapply (wp_combine d (grid1.coords t) (win1_0.stage (cfg1.slots t 0)) (win1_1.stage (cfg1.slots t 1)) (win1_2.stage (cfg1.slots t 2))
    (hstage1_0 ((cfg1.slots t 0).cast nbuf1_0)) (hstage1_1 ((cfg1.slots t 1).cast nbuf1_1)) (hstage1_2 ((cfg1.slots t 2).cast nbuf1_2))
    (blkX X d t) (blkY Y d t) ((dat X Y Z d).before 2 t d2) Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

/-- The call's result: the mean of the two operands. -/
theorem result (d : Dev nD) : (dat X Y Z d).arrAt 2 cfg1.N = mean S524288x128 (X d) (Y d) := by
  refine (dat X Y Z d).arrAt_eq_of_covers 2 _ (by decide +kernel) fun t hf y => ?_
  rfl

/-! ## The call as a region -/

/-- The three arrays of the call. -/
abbrev yLoc (d : Dev nD) : Loc nD τ sig := (SparseCore.T d).loc main_v2

def arrs (X Y Z : Dev nD → S524288x128.Idx → Elt F .f32) (d : Dev nD) : sProp 𝕄 :=
  iprop((xLoc d ↦{fullShare} X d) ∗ (wLoc d ↦{fullShare} Y d) ∗ (yLoc d ↦{fullShare} Z d))

/-- The core owes nothing. -/
def free (d : Dev nD) : sProp 𝕄 := iprop(∃ W, owes (SparseCore.T d : Thread nD τ) (0 : CellTallies nD τ sig (HIx 1)) W)

theorem arrays_entry (d : Dev nD) : ((pdats X Y Z 0 d).arrays (pdats X Y Z 0 d).A : sProp 𝕄) = arrs X Y Z d :=
  (Pipeline.arrays_eq (Pipeline.pin (pcfgs (F := F)) adm) (pdats X Y Z) 0 d arr_whole ((dat X Y Z d).share_full fun _ => rfl) (dat X Y Z d).A).trans
    (bigSep_win _)

theorem arrays_exit (d : Dev nD) :
    ((pdats X Y Z 0 d).arrays ((pdats X Y Z 0 d).arrAt · (Pipeline.pin (pcfgs (F := F)) adm 0).N) : sProp 𝕄)
      = arrs X Y (fun d => mean S524288x128 (X d) (Y d)) d := by
  refine ((Pipeline.arrays_eq (Pipeline.pin (pcfgs (F := F)) adm) (pdats X Y Z) 0 d arr_whole ((dat X Y Z d).share_full fun _ => rfl)
    ((dat X Y Z d).arrAt · cfg1.N)).trans (bigSep_win _)).trans ?_
  rw [Dat.arrAt_in _ 0 rfl, Dat.arrAt_in _ 1 rfl, result]
  rfl

abbrev noLev : GSem nD τ sig → Finset (HIx 1) := fun _ => ∅
abbrev zeroLev : GSem nD τ sig → HIx 1 → ℕ := fun _ _ => 0

set_option backward.isDefEq.respectTransparency.types false in
/-- The call entered from its arrays, and left with the mean in the third. -/
def region : Pipeline.RegionSeg (pcfgs (F := F)) adm (pdats X Y Z) none defs₀ 𝒱₀ noLev zeroLev 0 where
  win := layout.win.to₀
  block_pos := block_pos
  stage_whole := stage_whole
  K := PEmpty
  osem k := k.elim
  ho := Pipeline.OwnSemFacts.none _
  hbody d := (combine_obligation X Y Z d).loose
  hwaits := Pipeline.hwaits_of_owed_zero _ _ _ _ noLev zeroLev 0 fun _ _ => rfl
  pre d := iprop(arrs X Y Z d ∗ free d)
  post d := iprop(arrs X Y (fun d => mean S524288x128 (X d) (Y d)) d ∗ free d)
  X _ := BI.emp
  Y _ := BI.emp
  Z _ := BI.emp
  hentry d := by
    rw [Pipeline.ownSems0_none, Pipeline.prefHeld_of_none _ rfl]
    unfold free
    iintro ⟨⟨Ha, %W, HO⟩, -, -⟩
    imodintro
    isplitl [Ha]
    · iapply (Entails.of_eq (arrays_entry X Y Z d).symm) $$ Ha
    isplitr; · iempintro
    isplitl [HO]
    · unfold Pipeline.Dat.owesAt Pipeline.owesWithin
      iexists W; isplitr
      · ipureintro; exact fun _ _ => Or.inl trivial
      · iexact HO
    isplitr <;> iempintro
  hin d := by
    iintro -
    iempintro
  hout d := by
    rw [Pipeline.ownSems0_none, show Pipeline.scopedRest (pcfgs (F := F) 0).spec d = (BI.emp : sProp 𝕄) from scopedRest_emp d]
    iintro -
    isplitr; · iempintro
    isplitr <;> iempintro
  hexit d := by
    unfold Pipeline.Dat.owesAt Pipeline.owesWithin free
    iintro ⟨Ha, ⟨%W, -, HO⟩, -, -⟩
    imodintro
    isplitl [Ha]
    · iapply (Entails.of_eq (arrays_exit X Y Z d)) $$ Ha
    iexists W; iexact HO

/-- The ghost state that one run of the call takes. -/
def callGhost (d : Dev nD) : sProp 𝕄 :=
  iprop(Pipeline.cellsGhost (Pipeline.pin (pcfgs (F := F)) adm) EP 0 d ∗ Pipeline.toksInit (Pipeline.pin (pcfgs (F := F)) adm) EP 0 d)

theorem levAts_none : (BI.emp : sProp 𝕄) ⊢ levAts noLev zeroLev := by
  unfold levAts
  simp

/-- The call under the launch's table. -/
theorem wp_call [∀ e, Nonempty (Elt F e)] (d : Dev nD) (Q : PUnit → sProp 𝕄) :
    iprop((boundary (SparseCore.T d) ∗ arrs X Y (fun d => mean S524288x128 (X d) (Y d)) d ∗ free d -∗ Q ⟨⟩)
        ∗ boundary (SparseCore.T d) ∗ arrs X Y Z d ∗ free d ∗ callGhost d)
      ⊢ wp frame (wpE ((K (F := F)).defs D) 𝒱 (SparseCore.T d) none) Set.univ
        (Prog.lift (.customCall (SparseCore.inner (Pipeline.entry 0)) ())) Q := by
  have h := (K (F := F)).wp_liftProg (Name := ℕ) (U := UU) (D (F := F)) 𝒱 (SparseCore.T d) Set.univ none
    (.op (.customCall (Pipeline.entry 0) ()) .ret) Q
  refine BIBase.Entails.trans ?_ h
  refine BIBase.Entails.trans ?_ (Pipeline.RegionSeg.wp (pcfgs (F := F)) adm (pdats X Y Z) none cellOf_inj EP defs₀ 𝒱₀ noLev zeroLev
    (region X Y Z) d none (fun _ h => nomatch h) .ret Q)
  unfold callGhost
  iintro ⟨Hk, Hb, Ha, HO, Hg, Ht⟩
  isplitl [Hk]
  · iintro ⟨Hb, Hp⟩
    ihave Hp := (show (region X Y Z).post d ⊢ iprop(arrs X Y (fun d => mean S524288x128 (X d) (Y d)) d ∗ free d) from .refl) $$ Hp
    icases Hp with ⟨Ha, HO⟩
    iapply le_wp_ret
    iapply Hk
    isplitl [Hb]; · iexact Hb
    isplitl [Ha]; · iexact Ha
    iexact HO
  isplitl [Hb]; · iexact Hb
  isplitl [Ha HO]
  · iapply (show iprop(arrs X Y Z d ∗ free d) ⊢ (region X Y Z).pre d from .refl)
    isplitl [Ha]; · iexact Ha
    iexact HO
  isplitr
  · iapply levAts_none; iempintro
  isplitl [Hg]; · iexact Hg
  iexact Ht

end Cert.Proof.Sc
-- ==== Proof.Main.lean ====
/-
  The whole program's run: the reshape of the argument, the SparseCore call, the TensorCore call and the reshape of the
  result, from any launch memory; the argument kept, and the result as a function of it.
-/
module

public import proofs.«01_k».proof.Proof.Launch
public import proofs.«01_k».proof.Proof.Combine

@[expose] public section

noncomputable section

namespace Cert.Proof.Sc

open Cert.KernelIdeal
open Cert.KernelIdeal.Facts₀ Cert.KernelIdeal.Facts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The contents -/

abbrev aLoc (d : Dev nD) : Loc nD τ sig := (SparseCore.T d).loc main_arg0
abbrev zLoc (d : Dev nD) : Loc nD τ sig := (SparseCore.T d).loc main_v3

/-- The argument in rows of 128, the mean of it and of its transpose, and that mean as one row. -/
def rows (a : S67108864.Idx → Elt F .f32) : S524288x128.Idx → Elt F .f32 := shapeCast S524288x128 a shapeCasts_S67108864_S524288x128
def sym (a : S67108864.Idx → Elt F .f32) : S524288x128.Idx → Elt F .f32 := mean S524288x128 (rows a) (wT (rows a))
def out (a : S67108864.Idx → Elt F .f32) : S67108864.Idx → Elt F .f32 := shapeCast S67108864 (sym a) shapeCasts_S524288x128_S67108864

variable (m : (ℓ : Loc nD τ sig) → Buf (Elt F) ℓ) (ρ : Dev nD → PrngReg)

abbrev X₀ (d : Dev nD) : S524288x128.Idx → Elt F .f32 := rows (m (aLoc d))
abbrev W₀ (d : Dev nD) : S524288x128.Idx → Elt F .f32 := m (wLoc d)
abbrev PM : (K (F := F)).Pay (nD := nD) (Val := Elt F) (Name := ℕ) (U := UU) := PC (X₀ m) (W₀ m)

/-! ## The launch element of the ghost state -/

def u₀ : UU := (initOf (K (F := F)).hsCells (K (F := F)).hsToks,
  (initOf (Pipeline.cells (nD := nD) (τ := τ) cfgs cellOf_inj) (Pipeline.launchToks (nD := nD) (τ := τ) cfgs cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => callGhost d)
        ∗ bigSep Finset.univ fun thr : Thread nD τ => bigSep Finset.univ fun q : Fin 1 => (PM m).x q thr) := by
  unfold u₀
  iintro Hu
  ihave H := (ownU_pair (initOf (K (F := F)).hsCells (K (F := F)).hsToks)
    ((initOf (Pipeline.cells (nD := nD) (τ := τ) cfgs cellOf_inj) (Pipeline.launchToks (nD := nD) (τ := τ) cfgs cellOf_inj), 1) : UP × Counters)) $$ Hu
  icases H with ⟨HH, Hr⟩
  ihave Hr := (own_pair_emb (embR : Emb (UP × Counters) 𝕄)
    (initOf (Pipeline.cells (nD := nD) (τ := τ) cfgs cellOf_inj) (Pipeline.launchToks (nD := nD) (τ := τ) cfgs cellOf_inj)) (1 : Counters)) $$ Hr
  icases Hr with ⟨Hp, -⟩
  imod (Pipeline.fund_ghost (Pipeline.pin (pcfgs (F := F)) adm) EP cellOf_inj) $$ Hp with ⟨Hc, Ht⟩
  imodintro
  isplitl [HH]; · iexact HH
  isplitl [Hc Ht]
  · iapply (Entails.of_eq (bigSep_univ_of_subsingleton (0 : Dev nD)).symm)
    unfold callGhost
    isplitl [Hc]
    · ihave Hc := (Entails.of_eq (bigSep_univ_of_subsingleton (0 : Dev nD))) $$ Hc
      iapply (Entails.of_eq (bigSep_univ_of_subsingleton (0 : Fin 1))) $$ Hc
    · ihave Ht := (Entails.of_eq (bigSep_univ_of_subsingleton (0 : Dev nD))) $$ Ht
      iapply (Entails.of_eq (bigSep_univ_of_subsingleton (0 : Fin 1))) $$ Ht
  rw [show (bigSep Finset.univ fun thr : Thread nD τ => bigSep Finset.univ fun q : Fin 1 => (PM m).x q thr) = bigSep Finset.univ fun _ => (BI.emp : sProp 𝕄) from
    bigSep_congr fun _ _ => bigSep_univ_of_subsingleton (0 : Fin 1), bigSep_emp_const]
  iempintro

/-! ## The TensorCore's steps -/

/-- A reshape between two buffers held whole. -/
theorem wp_reshape (d : Dev nD) (x y : Ref sig .tc) (hne : x ≠ y) (he hn hx hy) (G : Valuation τ sig (Elt F)) {hp k}
    (Q : PUnit → sProp 𝕄) :
    iprop(boundary (SparseCore.T d) ∗ ((SparseCore.T d).loc x ↦{fullShare} G (Proc.devRef .tc x)) ∗ ((SparseCore.T d).loc y ↦{fullShare} G (Proc.devRef .tc y)))
      ⊢ iprop(((boundary (SparseCore.T d) ∗ ((SparseCore.T d).loc x ↦{fullShare} G (Proc.devRef .tc x))
            ∗ ((SparseCore.T d).loc y ↦{fullShare} (StableHlo.reshape (τ := τ) (Val := Elt F) x y he hn hx hy).result G (Proc.devRef .tc y)))
          -∗ wp frame (wpE ((K (F := F)).defs D) 𝒱 (SparseCore.T d) none) Set.univ
              (k ((StableHlo.reshape (τ := τ) (Val := Elt F) x y he hn hx hy).fn fun b => G b.1)) Q)
        -∗ wp frame (wpE ((K (F := F)).defs D) 𝒱 (SparseCore.T d) none) Set.univ (hlo hp (StableHlo.reshape (τ := τ) (Val := Elt F) x y he hn hx hy) k) Q) := by
  have h2 : ∀ H : (b : DevRef τ sig) → sProp 𝕄, bigSep (StableHlo.reshape (τ := τ) (Val := Elt F) x y he hn hx hy).bufs H
      = iprop(H (Proc.devRef .tc x) ∗ H (Proc.devRef .tc y)) := fun H => by
    rw [StableHlo.reshape_bufs, SparseCore.bigSep_insert' (by rw [Finset.mem_singleton]; exact fun e => hne (Proc.devRef_injective _ e)), bigSep_singleton]
  have h := wp_hlo (defs := (K (F := F)).defs D) (Name := ℕ) (U := UU) 𝒱 (SparseCore.T d) none Set.univ (hp := hp)
    (op := StableHlo.reshape (τ := τ) (Val := Elt F) x y he hn hx hy) (k := k) (q := fun _ => fullShare) (F := G) (Q := Q) (Γ := .empty) (fun _ _ => rfl) rfl
  rw [h2, h2, StableHlo.reshape_result_ne _ _ _ _ _ _ _ hne] at h
  exact h

abbrev inOp : HloOp τ sig (Elt F) := StableHlo.reshape main_arg0 main_v0 (rfl : (.f32 : EltTy) = .f32) shapeCasts_S67108864_S524288x128
abbrev outOp : HloOp τ sig (Elt F) := StableHlo.reshape main_v2 main_v3 (rfl : (.f32 : EltTy) = .f32) shapeCasts_S524288x128_S67108864

theorem unscoped_eq (d : Dev nD) (G : (b : Ref sig .tc) → Buf (Elt F) ((d.tc : Thread nD τ).loc b)) :
    (unscopedBufs d G : sProp 𝕄) = iprop((aLoc d ↦{fullShare} G main_arg0) ∗ (xLoc d ↦{fullShare} G main_v0) ∗ (wLoc d ↦{fullShare} G main_v1)
        ∗ (yLoc d ↦{fullShare} G main_v2) ∗ (zLoc d ↦{fullShare} G main_v3)) := by
  unfold unscopedBufs
  rw [show (Finset.univ.filter fun b : Ref sig .tc => ¬ b.isScoped) = {main_arg0, main_v0, main_v1, main_v2, main_v3} by decide,
    SparseCore.bigSep_insert' (by decide), SparseCore.bigSep_insert' (by decide), SparseCore.bigSep_insert' (by decide), SparseCore.bigSep_insert' (by decide),
    bigSep_singleton]

theorem cores_eq (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st_eq (d : Dev nD) :
    (bigSep Finset.univ fun c : Fin ((K (F := F)).nCore 0) => (PM m).st 0 d c) = (iprop((xLoc d ↦{fullShare} X₀ m d) ∗ (wLoc d ↦{fullShare} W₀ m d)) : sProp 𝕄) :=
  (cores_eq (fun c => coreParts d (X₀ m d) (W₀ m d) c)).trans (whole_parts d (X₀ m d) (W₀ m d)).symm
theorem dn_eq (d : Dev nD) :
    (bigSep Finset.univ fun c : Fin ((K (F := F)).nCore 0) => (PM m).dn 0 d c) = (iprop((xLoc d ↦{fullShare} X₀ m d) ∗ (wLoc d ↦{fullShare} wT (X₀ m d))) : sProp 𝕄) :=
  (cores_eq (fun c => coreParts d (X₀ m d) (wT (X₀ m d)) c)).trans (whole_parts d (X₀ m d) (wT (X₀ m d))).symm

/-- With the SparseCore call done the core owes nothing, whatever it has waited on. -/
theorem tcSt_free (d : Dev nD) : ((K (F := F)).tcSt EH d 1 : sProp 𝕄) ⊢ iprop(free d ∗ (free d -∗ (K (F := F)).tcSt EH d 1)) := by
  unfold SparseCore.Cfg.tcSt free
  rw [(K (F := F)).Otc_end d le_rfl]
  iintro ⟨⟨%W, -, HO⟩, Hr⟩
  isplitl [HO]; · iexists W; iexact HO
  iintro ⟨%W', HO⟩
  isplitl [HO]
  · iexists W'; isplitr
    · ipureintro
      intro p _
      rcases p with ⟨s, i⟩
      rcases i with _ | q
      · exact Nat.zero_le _
      · have hq : q.val = 0 := by omega
        have hp : (K (F := F)).place (SparseCore.T d, s) ≤ 6 := le_refl 6
        show 8 * q.val + (K (F := F)).place (SparseCore.T d, s) + 1 ≤ 8 * 1
        omega
    · iexact HO
  iexact Hr

abbrev FIN (d : Dev nD) : sProp 𝕄 := iprop((aLoc d ↦{fullShare} m (aLoc d)) ∗ (zLoc d ↦{fullShare} out (m (aLoc d))))

/-- The buffers on the launch, and with the mean in its own. -/
abbrev G₀ (d : Dev nD) : Valuation τ sig (Elt F) := fun b => m (d, b)
abbrev G₁ (d : Dev nD) : Valuation τ sig (Elt F) := Function.update (G₀ m d) (Proc.devRef .tc main_v2) (sym (m (aLoc d)))

theorem G₁_mean (d : Dev nD) : G₁ m d (Proc.devRef .tc main_v2) = sym (m (aLoc d)) := Function.update_self _ _ _
theorem G₁_out (d : Dev nD) : G₁ m d (Proc.devRef .tc main_v3) = m (zLoc d) :=
  Function.update_of_ne (fun e => absurd (Proc.devRef_injective _ e) (by decide)) _ _

theorem hmain [∀ e, Nonempty (Elt F e)] (κ : GSem nD τ sig → ℕ) (d : Dev nD) :
    iprop((K (F := F)).ctx EH (PM m) κ ∗ (K (F := F)).tcSt EH d 0 ∗ (K (F := F)).tcRes m ρ d ∗ callGhost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_eq]
  simp only [main, wp_bind, wp_pure]
  iintro ⟨#Hctx, Hst, ⟨Hb, ⟨Ha, Hx, Hw, Hy, Hz⟩, Hts, -⟩, HG⟩
  iapply (wp_reshape d main_arg0 main_v0 (by decide) _ _ _ _ (G₀ m d) _) $$ [Hb Ha Hx]
  · isplitl [Hb]; · iexact Hb
    isplitl [Ha]; · iexact Ha
    iexact Hx
  iintro ⟨Hb, Ha, Hx⟩
  iapply le_wp_ret
  ihave Hx := (Entails.of_eq (show ((SparseCore.T d).loc main_v0 ↦{fullShare} (inOp (F := F)).result (G₀ m d) (Proc.devRef .tc main_v0) : sProp 𝕄)
    = (xLoc d ↦{fullShare} X₀ m d) from congrArg (fun f => (xLoc d ↦{fullShare} f : sProp 𝕄)) (StableHlo.reshape_result _ _ _ _ _ _ _))) $$ Hx
  iapply ((K (F := F)).wp_run (D (F := F)) 𝒱 (EH := EH) (P := PM m) κ d 0) $$ [Hst Ha Hx Hw Hy Hz Hb Hts HG]
  isplitr; · iexact Hctx
  isplitl [Hst]; · iexact Hst
  isplitl [Hx Hw]
  · iapply (Entails.of_eq (st_eq m d).symm)
    isplitl [Hx]; · iexact Hx
    iexact Hw
  iintro ⟨Hst, Hdn⟩
  ihave Hdn := (Entails.of_eq (dn_eq m d)) $$ Hdn
  icases Hdn with ⟨Hx, Hw⟩
  ihave Hst := (show ((K (F := F)).tcSt EH d ((0 : Fin 1).val + 1) : sProp 𝕄) ⊢ (K (F := F)).tcSt EH d 1 from .refl) $$ Hst
  ihave Hst := (tcSt_free d) $$ Hst
  icases Hst with ⟨Hf, Hback⟩
  iapply (wp_call (X₀ m) (fun d => wT (X₀ m d)) (fun d => m (yLoc d)) d _)
  isplitr [Hb Hx Hw Hy Hf HG]; swap
  · isplitl [Hb]; · iexact Hb
    isplitl [Hx Hw Hy]
    · unfold arrs
      isplitl [Hx]; · iexact Hx
      isplitl [Hw]; · iexact Hw
      iexact Hy
    isplitl [Hf]; · iexact Hf
    iexact HG
  unfold arrs
  iintro ⟨Hb, ⟨Hx, Hw, Hy⟩, Hf⟩
  ihave Hst := Hback $$ Hf
  ihave Hy := (Entails.of_eq (show (yLoc d ↦{fullShare} (fun d => mean S524288x128 (X₀ m d) (wT (X₀ m d))) d : sProp 𝕄) = (yLoc d ↦{fullShare} G₁ m d (Proc.devRef .tc main_v2))
    from congrArg (fun f => (yLoc d ↦{fullShare} f : sProp 𝕄)) (G₁_mean m d).symm)) $$ Hy
  ihave Hz := (Entails.of_eq (congrArg (fun f => (zLoc d ↦{fullShare} f : sProp 𝕄)) (G₁_out m d).symm)) $$ Hz
  iapply (wp_reshape d main_v2 main_v3 (by decide) _ _ _ _ (G₁ m d) _) $$ [Hb Hy Hz]
  · isplitl [Hb]; · iexact Hb
    isplitl [Hy]; · iexact Hy
    iexact Hz
  iintro ⟨Hb, Hy, Hz⟩
  iapply le_wp_ret
  imodintro
  ihave Hz := (Entails.of_eq (show ((SparseCore.T d).loc main_v3 ↦{fullShare} (outOp (F := F)).result (G₁ m d) (Proc.devRef .tc main_v3) : sProp 𝕄)
    = (zLoc d ↦{fullShare} out (m (aLoc d))) from congrArg (fun f => (zLoc d ↦{fullShare} f : sProp 𝕄))
      ((StableHlo.reshape_result _ _ _ _ _ _ _).trans (by rw [G₁_mean]; rfl)))) $$ Hz
  isplitl [Hst]; · iexact Hst
  isplitl [Ha Hz]
  · isplitl [Ha]; · iexact Ha
    iexact Hz
  isplitl [Hb] <;> iassumption

/-! ## The program's run -/

def fq (d : Dev nD) (s' : Phys nD τ sig (Elt F)) : Prop := s'.mem.mem (aLoc d) = m (aLoc d) ∧ s'.mem.mem (zLoc d) = out (m (aLoc d))

set_option maxRecDepth 16384 in
theorem hfin (d : Dev nD) (s' : Phys nD τ sig (Elt F)) : iprop(FIN m d ∗ SI s') ⊢ (⌜fq m d s'⌝ : sProp 𝕄) := by
  iintro ⟨⟨Ha, Hz⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := zLoc d) (I := Finset.univ) (q := fullShare) (f := out (m (aLoc d)))) $$ [HSI Hz]
  · isplitl [HSI] <;> iassumption
  icases H with %h2
  ipureintro
  exact ⟨funext fun i => h1 i (Finset.mem_univ i), funext fun i => h2 i (Finset.mem_univ i)⟩

def QC : PUnit × MemSt nD τ sig (Elt F) → Prop := fun r =>
  (∀ d : Dev nD, r.2.mem (aLoc d) = m (aLoc d) ∧ r.2.mem (zLoc d) = out (m (aLoc d))) ∧ r.2.sem = fun _ => 0

/-- From any launch memory with its counters at zero, every weakly fair execution ends with the argument kept, the
    result at `out` of it, and every counter at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) scFacts v₀
    (fun q hq => match q with | 0 => nomatch hq)
    (fun q _ => match q with | 0 => tileObl (X₀ m) (W₀ m))
    (fun q _ => match q with | 0 => SparseCore.Cfg.VecSplit.of_plain (vecSplit (X₀ m) (W₀ m)))
    m ρ main (fun d => callGhost d) (FIN m) (u₀ (F := F)) (sep_elim_left.trans (hu₀ m)) (hmain m ρ) (fq m) (hfin m) (QC m) (fun _ h hz => ⟨h, hz⟩)

end Cert.Proof.Sc
-- ==== Proof.Value.lean ====
/-
  The value of the result: element `n` of the program's result, and of the reference's, is the mean over the ideals of
  elements `n` and `swap n` of the argument, `swap` the transpose of the first two of the axes (2048, 2048, 16).
-/
module

public import proofs.«01_k».proof.Proof.Main
public import proofs.«01_k».proof.Proof.Gen.ReferenceIdeal.Run
public import Idealize.ShloMosaic.PureOps.Ideal
public import Idealize.ShloMosaic.Lib.Pipeline.Value

@[expose] public section

noncomputable section

namespace Cert.Proof.Sc

open Cert.KernelIdeal
open Cert.KernelIdeal.Facts₀ Cert.KernelIdeal.Facts
open Idealize.ShloMosaic Idealize.SL.Sem

/-! ## Positions -/

section Positions

variable {α : Type}

/-- Element `n` of the array in one row. -/
def nth (a : S67108864.Idx → α) (n : ℕ) : α := a (ix1 (Fin.ofNat 67108864 n))

theorem nth_val (a : S67108864.Idx → α) (i : S67108864.Idx) : nth a (i 0).val = a i := by
  refine congrArg a (funext fun d => ?_)
  fin_cases d
  exact Fin.ext (Nat.mod_eq_of_lt (i 0).isLt)

/-- The array recast holds each element at its position. -/
theorem recast (t : Shape) (a : S67108864.Idx → α) (h : S67108864.ShapeCasts t) (j : t.Idx) : shapeCast t a h j = nth a (t.rowMajor j).val := by
  have hlt : (t.rowMajor j).val < 67108864 := by
    rw [← Shape.rowMajor_reshapeEquiv h j, Shape.rowMajor_val_one]
    exact (Shape.reshapeEquiv h j 0).isLt
  refine congrArg a (Shape.reshapeEquiv_eq_of_rowMajor h ?_)
  rw [Shape.rowMajor_val_one]
  exact Nat.mod_eq_of_lt hlt

/-- The position of an index recast to one row. -/
theorem recast_pos (t : Shape) (h : t.ShapeCasts S67108864) (i : S67108864.Idx) : (t.rowMajor (Shape.reshapeEquiv h i)).val = (i 0).val := by
  rw [Shape.rowMajor_reshapeEquiv, Shape.rowMajor_val_one]

/-- The position that the transpose of the first two axes takes `n` from. -/
def swap (n : ℕ) : ℕ := (n / 16 % 2048 * 2048 + n / 32768) * 16 + n % 16

theorem swap_rows {r c n : ℕ} (hr : r < 524288) (hc : c < 128) (hn : r * 128 + c = n) :
    (r % 256 * 8 + c / 16) * 256 + r / 2048 < 524288 ∧ 16 * (r / 256 % 8) + c % 16 < 128
      ∧ ((r % 256 * 8 + c / 16) * 256 + r / 2048) * 128 + (16 * (r / 256 % 8) + c % 16) = swap n := by
  unfold swap
  have h1 : n % 16 = c % 16 := by omega
  have h2 : n / 32768 = r / 256 := by omega
  have h3 : n / 16 % 2048 = r % 256 * 8 + c / 16 := by omega
  rw [h1, h2, h3]
  omega

theorem swap_axes {i j k n : ℕ} (hi : i < 2048) (hj : j < 2048) (hk : k < 16) (hn : (i * 2048 + j) * 16 + k = n) :
    (j * 2048 + i) * 16 + k = swap n := by
  unfold swap
  have h1 : n % 16 = k := by omega
  have h2 : n / 32768 = i := by omega
  have h3 : n / 16 % 2048 = j := by omega
  rw [h1, h2, h3]

end Positions

/-! ## The program's result -/

section Program

variable {F : FTy → Type} [FloatOps F]

theorem rows_at (a : S67108864.Idx → Elt F .f32) (j : S524288x128.Idx) : rows a j = nth a ((j 0).val * 128 + (j 1).val) := by
  refine (recast _ _ _ _).trans ?_
  rw [Shape.rowMajor_val_two]
  rfl

theorem wT_at (a : S67108864.Idx → Elt F .f32) (j : S524288x128.Idx) : wT (rows a) j = nth a (swap ((j 0).val * 128 + (j 1).val)) := by
  obtain ⟨h1, h2, h3⟩ := swap_rows (j 0).isLt (j 1).isLt rfl
  unfold wT pick
  rw [rows_at, ← h3]
  show nth a ((_ % 524288) * 128 + _ % 128) = _
  rw [Nat.mod_eq_of_lt h1, Nat.mod_eq_of_lt h2]

theorem out_at (a : S67108864.Idx → Elt F .f32) (i : S67108864.Idx) :
    out a i = FloatOps.mulf (φ := .f32) (FloatOps.addf (φ := .f32) (nth a (i 0).val) (nth a (swap (i 0).val))) (oneHalf (F := F)) := by
  have h := recast_pos _ shapeCasts_S524288x128_S67108864 i
  rw [Shape.rowMajor_val_two] at h
  have h' : (Shape.reshapeEquiv shapeCasts_S524288x128_S67108864 i 0).val * 128 + (Shape.reshapeEquiv shapeCasts_S524288x128_S67108864 i 1).val = (i 0).val := h
  rw [← h', ← rows_at, ← wT_at]
  rfl

end Program

/-! ## The reference's result -/

section Reference

open Cert.ReferenceIdeal.Gen (facts₀)

variable {F : FTy → Type} [FloatOps F]

abbrev C : Shape := Cert.ReferenceIdeal.S2048x2048x16

/-- The argument in its three axes, its transpose, and the reference's result. -/
def cube (a : S67108864.Idx → Elt F .f32) : C.Idx → Elt F .f32 := shapeCast C a Cert.ReferenceIdeal.Facts₀.shapeCasts_S67108864_S2048x2048x16
def cubeT (a : S67108864.Idx → Elt F .f32) : C.Idx → Elt F .f32 :=
  transpose C [1, 0, 2] (cube a) Cert.ReferenceIdeal.Facts₀.transposes_S2048x2048x16_S2048x2048x16_1_0_2
def two : Elt F .f32 := FloatOps.ofBits (F := F) .f32 0x40000000#32
def refOut (a : S67108864.Idx → Elt F .f32) : S67108864.Idx → Elt F .f32 :=
  shapeCast S67108864 (Host.divf (F := F) (φ := .f32) (addf (F := F) (φ := .f32) (cube a) (cubeT a))
    (broadcastInDim C ![] Cert.ReferenceIdeal.Facts₀.bcast_S_S2048x2048x16 (constant (F := F) Cert.ReferenceIdeal.S_ .f32 0x40000000#32)))
    Cert.ReferenceIdeal.Facts₀.shapeCasts_S2048x2048x16_S67108864

theorem cube_at (a : S67108864.Idx → Elt F .f32) (j : C.Idx) : cube a j = nth a (((j 0).val * 2048 + (j 1).val) * 16 + (j 2).val) := by
  refine (recast _ _ _ _).trans ?_
  rw [Shape.rowMajor_val_three]
  rfl

theorem cubeT_at (a : S67108864.Idx → Elt F .f32) (j : C.Idx) :
    cubeT a j = nth a (swap (((j 0).val * 2048 + (j 1).val) * 16 + (j 2).val)) := by
  rw [← swap_axes (j 0).isLt (j 1).isLt (j 2).isLt rfl]
  refine (transpose_apply [1, 0, 2] (cube a) _ j (ix3 (j 1) (j 0) (j 2)) fun b => ?_).trans (cube_at a _)
  fin_cases b <;> rfl

theorem refOut_at (a : S67108864.Idx → Elt F .f32) (i : S67108864.Idx) :
    refOut a i = FloatOps.hostDivf (φ := .f32) (FloatOps.addf (φ := .f32) (nth a (i 0).val) (nth a (swap (i 0).val))) (two (F := F)) := by
  have h := recast_pos C Cert.ReferenceIdeal.Facts₀.shapeCasts_S2048x2048x16_S67108864 i
  rw [Shape.rowMajor_val_three] at h
  have h' : ((Shape.reshapeEquiv Cert.ReferenceIdeal.Facts₀.shapeCasts_S2048x2048x16_S67108864 i 0).val * 2048
      + (Shape.reshapeEquiv Cert.ReferenceIdeal.Facts₀.shapeCasts_S2048x2048x16_S67108864 i 1).val) * 16
      + (Shape.reshapeEquiv Cert.ReferenceIdeal.Facts₀.shapeCasts_S2048x2048x16_S67108864 i 2).val = (i 0).val := h
  rw [← h', ← cube_at, ← cubeT_at]
  rfl

end Reference

/-! ## Over the ideals -/

theorem half_val : (oneHalf (F := Ideal) : EReal) = ((1 / 2 : ℝ) : EReal) := by
  show Ideal.ofBits .f32 0x3F000000#32 = _
  simp [Ideal.ofBits, Ideal.ieee, -EReal.coe_mul]; norm_num

theorem two_val : (two (F := Ideal) : EReal) = ((2 : ℝ) : EReal) := by
  show Ideal.ofBits .f32 0x40000000#32 = _
  simp [Ideal.ofBits, Ideal.ieee, -EReal.coe_mul]; norm_num

/-- Half of a value is its quotient by two. -/
theorem half_of (x : EReal) : x * ((1 / 2 : ℝ) : EReal) = Ideal.div x ((2 : ℝ) : EReal) := by
  unfold Ideal.div
  rw [if_neg (by exact_mod_cast (two_ne_zero : (2 : ℝ) ≠ 0)), ← EReal.coe_inv, one_div]

theorem out_eq (a : S67108864.Idx → Elt Ideal .f32) : out a = refOut a := by
  funext i
  rw [out_at, refOut_at]
  show (nth a (i 0).val + nth a (swap (i 0).val) : EReal) * (oneHalf (F := Ideal) : EReal) = Ideal.div _ (two (F := Ideal) : EReal)
  rw [half_val, two_val]
  exact half_of _

end Cert.Proof.Sc
-- ==== Proof.lean ====
/-
  The proof of `Cert.Claim`: the program's frame at its printed and at its ideal floats, the reference's frame, the
  idealization (no operation rewritten) and the equality of the two results over the ideals.
-/
module

public import proofs.«01_k».proof.Defs
public import proofs.«01_k».proof.Proof.Main
public import proofs.«01_k».proof.Proof.Value
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

attribute [local instance] facts'

/-- The printed program's text is the ideal one's: its functions, label by label, and its run at the bits are the same. -/
theorem defs₀_eq : Cert.Kernel.defs₀ (F := Bits) = Cert.KernelIdeal.defs₀ (F := Bits) := by
  funext p ℓ a
  rcases p with _ | c | ⟨c, s⟩
  · fin_cases ℓ <;> rfl
  · fin_cases ℓ <;> rfl
  · fin_cases ℓ <;> rfl

theorem defs_eq : Cert.Kernel.defs (F := Bits) = Cert.KernelIdeal.defs (F := Bits) := by
  unfold Cert.Kernel.defs
  rw [defs₀_eq]; rfl

theorem frame_kernel : Cert.quiescent_Kernel (hKernel := facts') := by
  intro m ρ _
  rw [defs_eq]
  exact (θ_run Cert.KernelIdeal.defs _ _).mono (fun _ h => ⟨fun d => (h.1 d).1, h.2⟩) (Sc.run_main (F := Bits) m ρ)

theorem frame_ideal : Cert.quiescent_KernelIdeal (hKernelIdeal := facts) := fun m ρ _ =>
  (θ_run Cert.KernelIdeal.defs _ _).mono (fun _ h => ⟨fun d => (h.1 d).1, h.2⟩) (Sc.run_main (F := Ideal) m ρ)

/-- The reference declares no semaphore. -/
theorem frame_reference : Cert.quiescent_ReferenceIdeal (hReferenceIdeal := Cert.ReferenceIdeal.Gen.facts) := fun m ρ _ =>
  (θ_run Cert.ReferenceIdeal.defs _ _).mono (fun r h => ⟨fun d => (h d).2, sem_eq_zero_of_no_sems (by decide) r.2⟩)
    (Cert.ReferenceIdeal.Value.run (F := Ideal) m ρ)

theorem algebraic : Cert.algebraic_KernelIdeal_ReferenceIdeal (hKernelIdeal := facts) (hReferenceIdeal := Cert.ReferenceIdeal.Gen.facts) := by
  intro m ρ m' ρ' _ hagree
  refine ⟨fun d => Sc.out (m (Sc.aLoc d)),
    (θ_run Cert.KernelIdeal.defs _ _).mono (fun _ h d => ⟨(h.1 d).2, (h.1 d).1⟩) (Sc.run_main (F := Ideal) m ρ), ?_⟩
  refine (θ_run Cert.ReferenceIdeal.defs _ _).mono (fun _ h d => ⟨(h d).1.trans ?_, (h d).2⟩)
    (Cert.ReferenceIdeal.Value.run (F := Ideal) m' ρ')
  rw [hagree d]
  exact (Sc.out_eq (m (Sc.aLoc d))).symm

theorem claim : Cert.Claim :=
  ⟨facts', facts, Cert.ReferenceIdeal.Gen.facts, frame_kernel, frame_ideal, frame_reference, trivial, algebraic⟩

end Cert.Proof

end
